-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 1024]⟩ ⟨2, ![32768, 1024]⟩ (Layout.meshBlock [2, 2, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x1024 : Shape := ⟨2, ![16384, 1024]⟩
abbrev S32768x1024 : Shape := ⟨2, ![32768, 1024]⟩
abbrev S11264x1024 : Shape := ⟨2, ![11264, 1024]⟩
abbrev S1408x1024 : Shape := ⟨2, ![1408, 1024]⟩
abbrev S5120x1024 : Shape := ⟨2, ![5120, 1024]⟩
abbrev S4x704x1024 : Shape := ⟨3, ![4, 704, 1024]⟩
abbrev S2x704x1024 : Shape := ⟨3, ![2, 704, 1024]⟩
abbrev S2 : Shape := ⟨1, ![2]⟩
abbrev S_ : Shape := ⟨0, ![]⟩
abbrev S8 : Shape := ⟨1, ![8]⟩
abbrev S6 : Shape := ⟨1, ![6]⟩
abbrev S4 : Shape := ⟨1, ![4]⟩
abbrev S1 : Shape := ⟨1, ![1]⟩
abbrev S1x704x1024 : Shape := ⟨3, ![1, 704, 1024]⟩
abbrev S704x1024 : Shape := ⟨2, ![704, 1024]⟩
abbrev S1x192x1024 : Shape := ⟨3, ![1, 192, 1024]⟩
abbrev S192x1024 : Shape := ⟨2, ![192, 1024]⟩

abbrev nBuf : Space → Nat
  | .hbm => 2
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S32768x1024, .bf16⟩
  | .local _ .vmem, ⟨0, _⟩ => ⟨S11264x1024, .bf16⟩
  | .local _ .vmem, ⟨1, _⟩ => ⟨S1408x1024, .bf16⟩
  | .local _ .vmem, ⟨2, _⟩ => ⟨S5120x1024, .bf16⟩
  | .local _ .vmem, ⟨3, _⟩ => ⟨S4x704x1024, .bf16⟩
  | .local _ .vmem, ⟨4, _⟩ => ⟨S2x704x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  (ofTc nBuf bufTy 1 49 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32_27 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1408_i32 : BitVec 32 := 1408#32
  let v45 : BitVec 32 := Scalar.muli v12 c1408_i32
  let v46 : BitVec 32 := Scalar.addi v45 c0_i32_27
  let c0_i32_32 : BitVec 32 := 0#32
  ![v46.toNat, 0]
def k0_dev1 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v60 : BitVec 32 := Scalar.muli v9 c8_i32_40
  let v61 : BitVec 32 := Scalar.addi c0_i32_41 v60
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v62 : BitVec 32 := Scalar.muli v5 c4_i32_42
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v64 : BitVec 32 := Scalar.muli v8 c1_i32_43
  let v65 : BitVec 32 := Scalar.addi v63 v64
  v65.toNat
def k0_dev2 (d0 : Dev nD) : Nat :=
  let c0_i32_46 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_45 : BitVec 32 := 8#32
  let v66 : BitVec 32 := Scalar.muli v2 c8_i32_45
  let v67 : BitVec 32 := Scalar.addi c0_i32_46 v66
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_47 : BitVec 32 := 4#32
  let v68 : BitVec 32 := Scalar.muli v25 c4_i32_47
  let v69 : BitVec 32 := Scalar.addi v67 v68
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_48 : BitVec 32 := 1#32
  let v70 : BitVec 32 := Scalar.muli v28 c1_i32_48
  let v71 : BitVec 32 := Scalar.addi v69 v70
  v71.toNat
def k0_dev3 (d0 : Dev nD) : Nat :=
  let c0_i32_51 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_50 : BitVec 32 := 8#32
  let v72 : BitVec 32 := Scalar.muli v2 c8_i32_50
  let v73 : BitVec 32 := Scalar.addi c0_i32_51 v72
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_52 : BitVec 32 := 4#32
  let v74 : BitVec 32 := Scalar.muli v41 c4_i32_52
  let v75 : BitVec 32 := Scalar.addi v73 v74
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_53 : BitVec 32 := 1#32
  let v76 : BitVec 32 := Scalar.muli v44 c1_i32_53
  let v77 : BitVec 32 := Scalar.addi v75 v76
  v77.toNat
def k0_off2 (d0 : Dev nD) (c0_i32_64 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c2_i32_63 : BitVec 32 := 2#32
  let v89 : BitVec 32 := Scalar.muli v12 c2_i32_63
  let v90 : BitVec 32 := Scalar.addi v89 c0_i32_64
  let c704_i32_65 : BitVec 32 := 704#32
  let v91 : BitVec 32 := Scalar.muli v90 c704_i32_65
  let c0_i32_72 : BitVec 32 := 0#32
  ![v91.toNat, 0]
def k0_dev4 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v92 : BitVec 32 := Scalar.muli v9 c8_i32_68
  let v93 : BitVec 32 := Scalar.addi c0_i32_69 v92
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v94 : BitVec 32 := Scalar.muli v5 c4_i32_70
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v96 : BitVec 32 := Scalar.muli v8 c1_i32_71
  let v97 : BitVec 32 := Scalar.addi v95 v96
  v97.toNat
def k0_dev5 (d0 : Dev nD) : Nat :=
  let c0_i32_89 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_88 : BitVec 32 := 8#32
  let v118 : BitVec 32 := Scalar.muli v9 c8_i32_88
  let v119 : BitVec 32 := Scalar.addi c0_i32_89 v118
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_90 : BitVec 32 := 4#32
  let v120 : BitVec 32 := Scalar.muli v5 c4_i32_90
  let v121 : BitVec 32 := Scalar.addi v119 v120
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_91 : BitVec 32 := 1#32
  let v122 : BitVec 32 := Scalar.muli v8 c1_i32_91
  let v123 : BitVec 32 := Scalar.addi v121 v122
  v123.toNat
def k0_off3 (d0 : Dev nD) (c0_i32_125 : BitVec 32) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32 : BitVec 32 := 16384#32
  let v156 : BitVec 32 := Scalar.muli v2 c16384_i32
  let v157 : BitVec 32 := Scalar.addi v156 c0_i32_125
  let c0_i32_128 : BitVec 32 := 0#32
  ![v157.toNat, 0]
def k0_off4 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_739 : BitVec 32 := 16384#32
  let v764 : BitVec 32 := Scalar.muli v2 c16384_i32_739
  let c16192_i32_740 : BitVec 32 := 16192#32
  let v765 : BitVec 32 := Scalar.addi v764 c16192_i32_740
  let c0_i32_742 : BitVec 32 := 0#32
  ![v765.toNat, 0]
def k0_off5 (d0 : Dev nD) : Fin 2 → Nat :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c16384_i32_745 : BitVec 32 := 16384#32
  let v770 : BitVec 32 := Scalar.muli v2 c16384_i32_745
  let c11264_i32_746 : BitVec 32 := 11264#32
  let v771 : BitVec 32 := Scalar.addi v770 c11264_i32_746
  let c0_i32_751 : BitVec 32 := 0#32
  ![v771.toNat, 0]
def k0_dev6 (d0 : Dev nD) : Nat :=
  let c0_i32_748 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_747 : BitVec 32 := 8#32
  let v772 : BitVec 32 := Scalar.muli v9 c8_i32_747
  let v773 : BitVec 32 := Scalar.addi c0_i32_748 v772
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_749 : BitVec 32 := 4#32
  let v774 : BitVec 32 := Scalar.muli v5 c4_i32_749
  let v775 : BitVec 32 := Scalar.addi v773 v774
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_750 : BitVec 32 := 1#32
  let v776 : BitVec 32 := Scalar.muli v8 c1_i32_750
  let v777 : BitVec 32 := Scalar.addi v775 v776
  v777.toNat
def k0_off6 (d0 : Dev nD) (c0_i32_766 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_764 : BitVec 32 := 16384#32
  let v792 : BitVec 32 := Scalar.muli v9 c16384_i32_764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c2_i32_765 : BitVec 32 := 2#32
  let v793 : BitVec 32 := Scalar.muli v12 c2_i32_765
  let v794 : BitVec 32 := Scalar.addi v793 c0_i32_766
  let c704_i32_767 : BitVec 32 := 704#32
  let v795 : BitVec 32 := Scalar.muli v794 c704_i32_767
  let v796 : BitVec 32 := Scalar.addi v792 v795
  let c0_i32_769 : BitVec 32 := 0#32
  ![v796.toNat, 0]
def k0_dev7 (d0 : Dev nD) : Nat :=
  let c0_i32_780 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_779 : BitVec 32 := 8#32
  let v807 : BitVec 32 := Scalar.muli v2 c8_i32_779
  let v808 : BitVec 32 := Scalar.addi c0_i32_780 v807
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_781 : BitVec 32 := 4#32
  let v809 : BitVec 32 := Scalar.muli v25 c4_i32_781
  let v810 : BitVec 32 := Scalar.addi v808 v809
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_782 : BitVec 32 := 1#32
  let v811 : BitVec 32 := Scalar.muli v28 c1_i32_782
  let v812 : BitVec 32 := Scalar.addi v810 v811
  v812.toNat
def k0_dev8 (d0 : Dev nD) : Nat :=
  let c0_i32_794 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_793 : BitVec 32 := 8#32
  let v825 : BitVec 32 := Scalar.muli v2 c8_i32_793
  let v826 : BitVec 32 := Scalar.addi c0_i32_794 v825
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_795 : BitVec 32 := 4#32
  let v827 : BitVec 32 := Scalar.muli v41 c4_i32_795
  let v828 : BitVec 32 := Scalar.addi v826 v827
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_796 : BitVec 32 := 1#32
  let v829 : BitVec 32 := Scalar.muli v44 c1_i32_796
  let v830 : BitVec 32 := Scalar.addi v828 v829
  v830.toNat
def k0_dev9 (d0 : Dev nD) : Nat :=
  let c0_i32_827 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_826 : BitVec 32 := 8#32
  let v865 : BitVec 32 := Scalar.muli v2 c8_i32_826
  let v866 : BitVec 32 := Scalar.addi c0_i32_827 v865
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_828 : BitVec 32 := 4#32
  let v867 : BitVec 32 := Scalar.muli v25 c4_i32_828
  let v868 : BitVec 32 := Scalar.addi v866 v867
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_829 : BitVec 32 := 1#32
  let v869 : BitVec 32 := Scalar.muli v28 c1_i32_829
  let v870 : BitVec 32 := Scalar.addi v868 v869
  v870.toNat
def k0_dev10 (d0 : Dev nD) : Nat :=
  let c0_i32_841 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_840 : BitVec 32 := 8#32
  let v883 : BitVec 32 := Scalar.muli v2 c8_i32_840
  let v884 : BitVec 32 := Scalar.addi c0_i32_841 v883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_842 : BitVec 32 := 4#32
  let v885 : BitVec 32 := Scalar.muli v41 c4_i32_842
  let v886 : BitVec 32 := Scalar.addi v884 v885
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_843 : BitVec 32 := 1#32
  let v887 : BitVec 32 := Scalar.muli v44 c1_i32_843
  let v888 : BitVec 32 := Scalar.addi v886 v887
  v888.toNat
def k0_off7 (d0 : Dev nD) (c1_i32_846 : BitVec 32) (c0_i32_857 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v895 : BitVec 32 := Scalar.subi v12 c1_i32_846
  let c8_i32_847 : BitVec 32 := 8#32
  let c0_i32_848 : BitVec 32 := 0#32
  let v896 : BitVec 1 := Scalar.cmpi .eq c8_i32_847 c0_i32_848
  let c1_i32_849 : BitVec 32 := 1#32
  let v897 : BitVec 32 := Scalar.select v896 c1_i32_849 c8_i32_847
  let v898 : BitVec 32 := Scalar.remsi v895 v897
  let c0_i32_851 : BitVec 32 := 0#32
  let v900 : BitVec 1 := Scalar.cmpi .slt v898 c0_i32_851
  let c0_i32_852 : BitVec 32 := 0#32
  let v901 : BitVec 1 := Scalar.cmpi .slt v897 c0_i32_852
  let v902 : BitVec 1 := Scalar.xori v900 v901
  let c0_i32_850 : BitVec 32 := 0#32
  let v899 : BitVec 1 := Scalar.cmpi .ne v898 c0_i32_850
  let v903 : BitVec 1 := Scalar.andi v902 v899
  let v904 : BitVec 32 := Scalar.addi v898 v897
  let v905 : BitVec 32 := Scalar.select v903 v904 v898
  let c2_i32_856 : BitVec 32 := 2#32
  let v909 : BitVec 32 := Scalar.muli v905 c2_i32_856
  let v910 : BitVec 32 := Scalar.addi v909 c0_i32_857
  let c704_i32_858 : BitVec 32 := 704#32
  let v911 : BitVec 32 := Scalar.muli v910 c704_i32_858
  let c0_i32_864 : BitVec 32 := 0#32
  ![v911.toNat, 0]
def k0_dev11 (d0 : Dev nD) : Nat :=
  let c0_i32_875 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_874 : BitVec 32 := 8#32
  let v928 : BitVec 32 := Scalar.muli v2 c8_i32_874
  let v929 : BitVec 32 := Scalar.addi c0_i32_875 v928
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_876 : BitVec 32 := 4#32
  let v930 : BitVec 32 := Scalar.muli v25 c4_i32_876
  let v931 : BitVec 32 := Scalar.addi v929 v930
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_877 : BitVec 32 := 1#32
  let v932 : BitVec 32 := Scalar.muli v28 c1_i32_877
  let v933 : BitVec 32 := Scalar.addi v931 v932
  v933.toNat
def k0_off8 (d0 : Dev nD) (c1_i32_846 : BitVec 32) (c0_i32_885 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_883 : BitVec 32 := 16384#32
  let v943 : BitVec 32 := Scalar.muli v9 c16384_i32_883
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v895 : BitVec 32 := Scalar.subi v12 c1_i32_846
  let c8_i32_847 : BitVec 32 := 8#32
  let c0_i32_848 : BitVec 32 := 0#32
  let v896 : BitVec 1 := Scalar.cmpi .eq c8_i32_847 c0_i32_848
  let c1_i32_849 : BitVec 32 := 1#32
  let v897 : BitVec 32 := Scalar.select v896 c1_i32_849 c8_i32_847
  let v898 : BitVec 32 := Scalar.remsi v895 v897
  let c0_i32_851 : BitVec 32 := 0#32
  let v900 : BitVec 1 := Scalar.cmpi .slt v898 c0_i32_851
  let c0_i32_852 : BitVec 32 := 0#32
  let v901 : BitVec 1 := Scalar.cmpi .slt v897 c0_i32_852
  let v902 : BitVec 1 := Scalar.xori v900 v901
  let c0_i32_850 : BitVec 32 := 0#32
  let v899 : BitVec 1 := Scalar.cmpi .ne v898 c0_i32_850
  let v903 : BitVec 1 := Scalar.andi v902 v899
  let v904 : BitVec 32 := Scalar.addi v898 v897
  let v905 : BitVec 32 := Scalar.select v903 v904 v898
  let c2_i32_884 : BitVec 32 := 2#32
  let v944 : BitVec 32 := Scalar.muli v905 c2_i32_884
  let v945 : BitVec 32 := Scalar.addi v944 c0_i32_885
  let c704_i32_886 : BitVec 32 := 704#32
  let v946 : BitVec 32 := Scalar.muli v945 c704_i32_886
  let v947 : BitVec 32 := Scalar.addi v943 v946
  let c0_i32_888 : BitVec 32 := 0#32
  ![v947.toNat, 0]
def k0_off9 (d0 : Dev nD) (c1_i32_890 : BitVec 32) (c0_i32_901 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v952 : BitVec 32 := Scalar.addi v12 c1_i32_890
  let c8_i32_891 : BitVec 32 := 8#32
  let c0_i32_892 : BitVec 32 := 0#32
  let v953 : BitVec 1 := Scalar.cmpi .eq c8_i32_891 c0_i32_892
  let c1_i32_893 : BitVec 32 := 1#32
  let v954 : BitVec 32 := Scalar.select v953 c1_i32_893 c8_i32_891
  let v955 : BitVec 32 := Scalar.remsi v952 v954
  let c0_i32_895 : BitVec 32 := 0#32
  let v957 : BitVec 1 := Scalar.cmpi .slt v955 c0_i32_895
  let c0_i32_896 : BitVec 32 := 0#32
  let v958 : BitVec 1 := Scalar.cmpi .slt v954 c0_i32_896
  let v959 : BitVec 1 := Scalar.xori v957 v958
  let c0_i32_894 : BitVec 32 := 0#32
  let v956 : BitVec 1 := Scalar.cmpi .ne v955 c0_i32_894
  let v960 : BitVec 1 := Scalar.andi v959 v956
  let v961 : BitVec 32 := Scalar.addi v955 v954
  let v962 : BitVec 32 := Scalar.select v960 v961 v955
  let c2_i32_900 : BitVec 32 := 2#32
  let v966 : BitVec 32 := Scalar.muli v962 c2_i32_900
  let v967 : BitVec 32 := Scalar.addi v966 c0_i32_901
  let c704_i32_902 : BitVec 32 := 704#32
  let v968 : BitVec 32 := Scalar.muli v967 c704_i32_902
  let c0_i32_908 : BitVec 32 := 0#32
  ![v968.toNat, 0]
def k0_dev12 (d0 : Dev nD) : Nat :=
  let c0_i32_919 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_918 : BitVec 32 := 8#32
  let v985 : BitVec 32 := Scalar.muli v2 c8_i32_918
  let v986 : BitVec 32 := Scalar.addi c0_i32_919 v985
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_920 : BitVec 32 := 4#32
  let v987 : BitVec 32 := Scalar.muli v41 c4_i32_920
  let v988 : BitVec 32 := Scalar.addi v986 v987
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_921 : BitVec 32 := 1#32
  let v989 : BitVec 32 := Scalar.muli v44 c1_i32_921
  let v990 : BitVec 32 := Scalar.addi v988 v989
  v990.toNat
def k0_off10 (d0 : Dev nD) (c1_i32_890 : BitVec 32) (c0_i32_929 : BitVec 32) : Fin 2 → Nat :=
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c16384_i32_927 : BitVec 32 := 16384#32
  let v1000 : BitVec 32 := Scalar.muli v9 c16384_i32_927
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let v952 : BitVec 32 := Scalar.addi v12 c1_i32_890
  let c8_i32_891 : BitVec 32 := 8#32
  let c0_i32_892 : BitVec 32 := 0#32
  let v953 : BitVec 1 := Scalar.cmpi .eq c8_i32_891 c0_i32_892
  let c1_i32_893 : BitVec 32 := 1#32
  let v954 : BitVec 32 := Scalar.select v953 c1_i32_893 c8_i32_891
  let v955 : BitVec 32 := Scalar.remsi v952 v954
  let c0_i32_895 : BitVec 32 := 0#32
  let v957 : BitVec 1 := Scalar.cmpi .slt v955 c0_i32_895
  let c0_i32_896 : BitVec 32 := 0#32
  let v958 : BitVec 1 := Scalar.cmpi .slt v954 c0_i32_896
  let v959 : BitVec 1 := Scalar.xori v957 v958
  let c0_i32_894 : BitVec 32 := 0#32
  let v956 : BitVec 1 := Scalar.cmpi .ne v955 c0_i32_894
  let v960 : BitVec 1 := Scalar.andi v959 v956
  let v961 : BitVec 32 := Scalar.addi v955 v954
  let v962 : BitVec 32 := Scalar.select v960 v961 v955
  let c2_i32_928 : BitVec 32 := 2#32
  let v1001 : BitVec 32 := Scalar.muli v962 c2_i32_928
  let v1002 : BitVec 32 := Scalar.addi v1001 c0_i32_929
  let c704_i32_930 : BitVec 32 := 704#32
  let v1003 : BitVec 32 := Scalar.muli v1002 c704_i32_930
  let v1004 : BitVec 32 := Scalar.addi v1000 v1003
  let c0_i32_932 : BitVec 32 := 0#32
  ![v1004.toNat, 0]
def k0_dev13 (d0 : Dev nD) : Nat :=
  let c0_i32_963 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_962 : BitVec 32 := 8#32
  let v1042 : BitVec 32 := Scalar.muli v2 c8_i32_962
  let v1043 : BitVec 32 := Scalar.addi c0_i32_963 v1042
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_964 : BitVec 32 := 4#32
  let v1044 : BitVec 32 := Scalar.muli v25 c4_i32_964
  let v1045 : BitVec 32 := Scalar.addi v1043 v1044
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_965 : BitVec 32 := 1#32
  let v1046 : BitVec 32 := Scalar.muli v28 c1_i32_965
  let v1047 : BitVec 32 := Scalar.addi v1045 v1046
  v1047.toNat
def k0_dev14 (d0 : Dev nD) : Nat :=
  let c0_i32_1007 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1006 : BitVec 32 := 8#32
  let v1099 : BitVec 32 := Scalar.muli v2 c8_i32_1006
  let v1100 : BitVec 32 := Scalar.addi c0_i32_1007 v1099
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_1008 : BitVec 32 := 4#32
  let v1101 : BitVec 32 := Scalar.muli v41 c4_i32_1008
  let v1102 : BitVec 32 := Scalar.addi v1100 v1101
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_1009 : BitVec 32 := 1#32
  let v1103 : BitVec 32 := Scalar.muli v44 c1_i32_1009
  let v1104 : BitVec 32 := Scalar.addi v1102 v1103
  v1104.toNat
def k0_dev15 (d0 : Dev nD) : Nat :=
  let c0_i32_1050 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1049 : BitVec 32 := 8#32
  let v1156 : BitVec 32 := Scalar.muli v2 c8_i32_1049
  let v1157 : BitVec 32 := Scalar.addi c0_i32_1050 v1156
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_1051 : BitVec 32 := 4#32
  let v1158 : BitVec 32 := Scalar.muli v25 c4_i32_1051
  let v1159 : BitVec 32 := Scalar.addi v1157 v1158
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_1052 : BitVec 32 := 1#32
  let v1160 : BitVec 32 := Scalar.muli v28 c1_i32_1052
  let v1161 : BitVec 32 := Scalar.addi v1159 v1160
  v1161.toNat
def k0_dev16 (d0 : Dev nD) : Nat :=
  let c0_i32_1093 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1092 : BitVec 32 := 8#32
  let v1213 : BitVec 32 := Scalar.muli v2 c8_i32_1092
  let v1214 : BitVec 32 := Scalar.addi c0_i32_1093 v1213
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_1094 : BitVec 32 := 4#32
  let v1215 : BitVec 32 := Scalar.muli v41 c4_i32_1094
  let v1216 : BitVec 32 := Scalar.addi v1214 v1215
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_1095 : BitVec 32 := 1#32
  let v1217 : BitVec 32 := Scalar.muli v44 c1_i32_1095
  let v1218 : BitVec 32 := Scalar.addi v1216 v1217
  v1218.toNat
def k0_dev17 (d0 : Dev nD) : Nat :=
  let c0_i32_1137 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1136 : BitVec 32 := 8#32
  let v1270 : BitVec 32 := Scalar.muli v2 c8_i32_1136
  let v1271 : BitVec 32 := Scalar.addi c0_i32_1137 v1270
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_1138 : BitVec 32 := 4#32
  let v1272 : BitVec 32 := Scalar.muli v25 c4_i32_1138
  let v1273 : BitVec 32 := Scalar.addi v1271 v1272
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_1139 : BitVec 32 := 1#32
  let v1274 : BitVec 32 := Scalar.muli v28 c1_i32_1139
  let v1275 : BitVec 32 := Scalar.addi v1273 v1274
  v1275.toNat
def k0_dev18 (d0 : Dev nD) : Nat :=
  let c0_i32_1184 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1183 : BitVec 32 := 8#32
  let v1331 : BitVec 32 := Scalar.muli v2 c8_i32_1183
  let v1332 : BitVec 32 := Scalar.addi c0_i32_1184 v1331
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_15 : BitVec 32 := 1#32
  let v29 : BitVec 32 := Scalar.subi v12 c1_i32_15
  let c8_i32_16 : BitVec 32 := 8#32
  let c0_i32_17 : BitVec 32 := 0#32
  let v30 : BitVec 1 := Scalar.cmpi .eq c8_i32_16 c0_i32_17
  let c1_i32_18 : BitVec 32 := 1#32
  let v31 : BitVec 32 := Scalar.select v30 c1_i32_18 c8_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c4_i32_22 : BitVec 32 := 4#32
  let v40 : BitVec 1 := Scalar.cmpi .slt v39 c4_i32_22
  let c0_i32_23 : BitVec 32 := 0#32
  let c1_i32_24 : BitVec 32 := 1#32
  let v41 : BitVec 32 := Scalar.select v40 c0_i32_23 c1_i32_24
  let c4_i32_1185 : BitVec 32 := 4#32
  let v1333 : BitVec 32 := Scalar.muli v41 c4_i32_1185
  let v1334 : BitVec 32 := Scalar.addi v1332 v1333
  let c4_i32_25 : BitVec 32 := 4#32
  let v42 : BitVec 1 := Scalar.cmpi .slt v39 c4_i32_25
  let c7_i32_26 : BitVec 32 := 7#32
  let v43 : BitVec 32 := Scalar.subi c7_i32_26 v39
  let v44 : BitVec 32 := Scalar.select v42 v39 v43
  let c1_i32_1186 : BitVec 32 := 1#32
  let v1335 : BitVec 32 := Scalar.muli v44 c1_i32_1186
  let v1336 : BitVec 32 := Scalar.addi v1334 v1335
  v1336.toNat
def k0_dev19 (d0 : Dev nD) : Nat :=
  let c0_i32_1231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1230 : BitVec 32 := 8#32
  let v1392 : BitVec 32 := Scalar.muli v2 c8_i32_1230
  let v1393 : BitVec 32 := Scalar.addi c0_i32_1231 v1392
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_1232 : BitVec 32 := 4#32
  let v1394 : BitVec 32 := Scalar.muli v25 c4_i32_1232
  let v1395 : BitVec 32 := Scalar.addi v1393 v1394
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_1233 : BitVec 32 := 1#32
  let v1396 : BitVec 32 := Scalar.muli v28 c1_i32_1233
  let v1397 : BitVec 32 := Scalar.addi v1395 v1396
  v1397.toNat
def k0_dev20 (d0 : Dev nD) : Nat :=
  let c0_i32_1278 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1277 : BitVec 32 := 8#32
  let v1453 : BitVec 32 := Scalar.muli v2 c8_i32_1277
  let v1454 : BitVec 32 := Scalar.addi c0_i32_1278 v1453
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c0_i32 : BitVec 32 := 0#32
  let v10 : BitVec 1 := Scalar.cmpi .eq v5 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v11 : BitVec 32 := Scalar.subi c7_i32 v8
  let v12 : BitVec 32 := Scalar.select v10 v8 v11
  let c1_i32_3 : BitVec 32 := 1#32
  let v13 : BitVec 32 := Scalar.addi v12 c1_i32_3
  let c8_i32_4 : BitVec 32 := 8#32
  let c0_i32_5 : BitVec 32 := 0#32
  let v14 : BitVec 1 := Scalar.cmpi .eq c8_i32_4 c0_i32_5
  let c1_i32_6 : BitVec 32 := 1#32
  let v15 : BitVec 32 := Scalar.select v14 c1_i32_6 c8_i32_4
  let v16 : BitVec 32 := Scalar.remsi v13 v15
  let c0_i32_8 : BitVec 32 := 0#32
  let v18 : BitVec 1 := Scalar.cmpi .slt v16 c0_i32_8
  let c0_i32_9 : BitVec 32 := 0#32
  let v19 : BitVec 1 := Scalar.cmpi .slt v15 c0_i32_9
  let v20 : BitVec 1 := Scalar.xori v18 v19
  let c0_i32_7 : BitVec 32 := 0#32
  let v17 : BitVec 1 := Scalar.cmpi .ne v16 c0_i32_7
  let v21 : BitVec 1 := Scalar.andi v20 v17
  let v22 : BitVec 32 := Scalar.addi v16 v15
  let v23 : BitVec 32 := Scalar.select v21 v22 v16
  let c4_i32_10 : BitVec 32 := 4#32
  let v24 : BitVec 1 := Scalar.cmpi .slt v23 c4_i32_10
  let c0_i32_11 : BitVec 32 := 0#32
  let c1_i32_12 : BitVec 32 := 1#32
  let v25 : BitVec 32 := Scalar.select v24 c0_i32_11 c1_i32_12
  let c4_i32_1279 : BitVec 32 := 4#32
  let v1455 : BitVec 32 := Scalar.muli v25 c4_i32_1279
  let v1456 : BitVec 32 := Scalar.addi v1454 v1455
  let c4_i32_13 : BitVec 32 := 4#32
  let v26 : BitVec 1 := Scalar.cmpi .slt v23 c4_i32_13
  let c7_i32_14 : BitVec 32 := 7#32
  let v27 : BitVec 32 := Scalar.subi c7_i32_14 v23
  let v28 : BitVec 32 := Scalar.select v26 v23 v27
  let c1_i32_1280 : BitVec 32 := 1#32
  let v1457 : BitVec 32 := Scalar.muli v28 c1_i32_1280
  let v1458 : BitVec 32 := Scalar.addi v1456 v1457
  v1458.toNat
-- ==== ReferenceIdeal.lean ====
abbrev S32768x1024 : Shape := ⟨2, ![32768, 1024]⟩

abbrev nBuf : Space → Nat
  | .hbm => 2
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.KernelIdeal.Data.lean ====
/-
# The mesh, the pieces and their contents

The sixteen devices form two groups of eight (the mesh axis `x`); inside a group they are placed on a ring. A device
has a group `grp`, a ring position `pos`, a partner (same position, other group) and two ring neighbours. Every buffer
is described by one function of row and column, and a device holds it piece by piece (`rs`: a run of rows).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Transfers
public import Idealize.ShloMosaic.Lib.Tactic

@[expose] public section

noncomputable section

namespace Cert.KernelIdealGather

open Cert.KernelIdeal Cert.KernelIdeal.Gen
open Idealize.ShloMosaic
open Idealize.ShloMosaic.TcCoe

variable {F : FTy → Type} [FloatOps F]

/-! ## The mesh -/

/-- The group of a device: its coordinate on the mesh axis the input is split along. -/
abbrev grp (c : Dev nD) : ℕ := c.val / 8

set_option backward.proofsInPublic true in
/-- The place of a device on the ring of its group. -/
def pos (c : Dev nD) : Fin 8 := ⟨(if c.val / 4 % 2 = 0 then c.val % 4 else 7 - c.val % 4), by split <;> omega⟩

set_option backward.proofsInPublic true in
/-- The device at ring position `p` of group `x`. -/
def devAt (x : ℕ) (p : ℕ) : Dev nD :=
  ⟨(8 * (x % 2) + (if p % 8 < 4 then p % 8 else 11 - p % 8)) % 16, Nat.mod_lt _ (by decide)⟩

/-- The device at the same position of the other group. -/
def partner (c : Dev nD) : Dev nD := devAt (1 - grp c) (pos c).val
/-- The next device on the ring, and the previous one. -/
def cwd (c : Dev nD) : Dev nD := devAt (grp c) (pos c + 1).val
def ccwd (c : Dev nD) : Dev nD := devAt (grp c) (pos c + 7).val

theorem partner_partner (c : Dev nD) : partner (partner c) = c := by revert c; decide +kernel
theorem ccwd_cwd (c : Dev nD) : ccwd (cwd c) = c := by revert c; decide +kernel
theorem cwd_ccwd (c : Dev nD) : cwd (ccwd c) = c := by revert c; decide +kernel
theorem pos_partner (c : Dev nD) : pos (partner c) = pos c := by revert c; decide +kernel
theorem pos_cwd (c : Dev nD) : pos (cwd c) = pos c + 1 := by revert c; decide +kernel
theorem pos_ccwd (c : Dev nD) : pos (ccwd c) = pos c + 7 := by revert c; decide +kernel
theorem grp_partner (c : Dev nD) : grp (partner c) = 1 - grp c := by revert c; decide +kernel
theorem grp_cwd (c : Dev nD) : grp (cwd c) = grp c := by revert c; decide +kernel
theorem grp_ccwd (c : Dev nD) : grp (ccwd c) = grp c := by revert c; decide +kernel
theorem grp_lt (c : Dev nD) : grp c < 2 := by revert c; decide +kernel
theorem devAt_self (c : Dev nD) : devAt (grp c) (pos c).val = c := by revert c; decide +kernel

/-- The first row of half-piece `j` of the piece `δ` places further on the ring. -/
abbrev prow (c : Dev nD) (δ : Fin 8) (j : ℕ) : ℕ := 1408 * (pos c + δ).val + 704 * j

theorem fin8_assoc : ∀ a b d : Fin 8, a + b + d = a + (b + d) := by decide

theorem prow_cwd (c : Dev nD) (δ : Fin 8) (j : ℕ) : prow (cwd c) δ j = prow c (1 + δ) j := by
  unfold prow; rw [pos_cwd, fin8_assoc]
theorem prow_ccwd (c : Dev nD) (δ : Fin 8) (j : ℕ) : prow (ccwd c) δ j = prow c (7 + δ) j := by
  unfold prow; rw [pos_ccwd, fin8_assoc]
theorem prow_partner (c : Dev nD) (δ : Fin 8) (j : ℕ) : prow (partner c) δ j = prow c δ j := by
  unfold prow; rw [pos_partner]

/-! ## The addresses the kernel computes -/

theorem off1_at (c : Dev nD) (j : Fin 2) : k0_off1 c (BitVec.ofNat 32 (704 * j.val)) = ![prow c 0 j.val, 0] := by
  revert c j; decide +kernel
theorem off2_at (c : Dev nD) (j : Fin 2) : k0_off2 c (BitVec.ofNat 32 j.val) = ![prow c 0 j.val, 0] := by
  revert c j; decide +kernel
theorem off3_at (c : Dev nD) (k : Fin 23) : k0_off3 c (BitVec.ofNat 32 (704 * k.val)) = ![16384 * grp c + 704 * k.val, 0] := by
  revert c k; decide +kernel
theorem off4_at (c : Dev nD) : k0_off4 c = ![16384 * grp c + 16192, 0] := by revert c; decide +kernel
theorem off5_at (c : Dev nD) : k0_off5 c = ![16384 * grp c + 11264, 0] := by revert c; decide +kernel
theorem off6_at (c : Dev nD) (j : Fin 2) :
    k0_off6 c (BitVec.ofNat 32 j.val) = ![16384 * (1 - grp c) + prow c 0 j.val, 0] := by
  revert c j; decide +kernel
theorem off7_at (c : Dev nD) (s : Fin 4) (j : Fin 2) :
    k0_off7 c (BitVec.ofNat 32 (1 + s.val)) (BitVec.ofNat 32 j.val) = ![prow c ⟨7 - s.val, by omega⟩ j.val, 0] := by
  revert c s j; decide +kernel
theorem off8_at (c : Dev nD) (s : Fin 4) (j : Fin 2) :
    k0_off8 c (BitVec.ofNat 32 (1 + s.val)) (BitVec.ofNat 32 j.val)
      = ![16384 * (1 - grp c) + prow c ⟨7 - s.val, by omega⟩ j.val, 0] := by
  revert c s j; decide +kernel
theorem off9_at (c : Dev nD) (s : Fin 3) (j : Fin 2) :
    k0_off9 c (BitVec.ofNat 32 (1 + s.val)) (BitVec.ofNat 32 j.val) = ![prow c ⟨1 + s.val, by omega⟩ j.val, 0] := by
  revert c s j; decide +kernel
theorem off10_at (c : Dev nD) (s : Fin 3) (j : Fin 2) :
    k0_off10 c (BitVec.ofNat 32 (1 + s.val)) (BitVec.ofNat 32 j.val)
      = ![16384 * (1 - grp c) + prow c ⟨1 + s.val, by omega⟩ j.val, 0] := by
  revert c s j; decide +kernel

/-! ## The devices the kernel addresses -/

theorem dev1_at (c : Dev nD) : (⟨k0_dev1 c, k0_dev1_lt c⟩ : Dev nD) = partner c := by revert c; decide +kernel
theorem dev2_at (c : Dev nD) : (⟨k0_dev2 c, k0_dev2_lt c⟩ : Dev nD) = cwd c := by revert c; decide +kernel
theorem dev3_at (c : Dev nD) : (⟨k0_dev3 c, k0_dev3_lt c⟩ : Dev nD) = ccwd c := by revert c; decide +kernel
theorem dev4_at (c : Dev nD) : (⟨k0_dev4 c, k0_dev4_lt c⟩ : Dev nD) = partner c := by revert c; decide +kernel
theorem dev5_at (c : Dev nD) : (⟨k0_dev5 c, k0_dev5_lt c⟩ : Dev nD) = partner c := by revert c; decide +kernel
theorem dev6_at (c : Dev nD) : (⟨k0_dev6 c, k0_dev6_lt c⟩ : Dev nD) = partner c := by revert c; decide +kernel
theorem dev7_at (c : Dev nD) : (⟨k0_dev7 c, k0_dev7_lt c⟩ : Dev nD) = cwd c := by revert c; decide +kernel
theorem dev8_at (c : Dev nD) : (⟨k0_dev8 c, k0_dev8_lt c⟩ : Dev nD) = ccwd c := by revert c; decide +kernel
theorem dev9_at (c : Dev nD) : (⟨k0_dev9 c, k0_dev9_lt c⟩ : Dev nD) = cwd c := by revert c; decide +kernel
theorem dev10_at (c : Dev nD) : (⟨k0_dev10 c, k0_dev10_lt c⟩ : Dev nD) = ccwd c := by revert c; decide +kernel
theorem dev11_at (c : Dev nD) : (⟨k0_dev11 c, k0_dev11_lt c⟩ : Dev nD) = cwd c := by revert c; decide +kernel
theorem dev12_at (c : Dev nD) : (⟨k0_dev12 c, k0_dev12_lt c⟩ : Dev nD) = ccwd c := by revert c; decide +kernel
theorem dev13_at (c : Dev nD) : (⟨k0_dev13 c, k0_dev13_lt c⟩ : Dev nD) = cwd c := by revert c; decide +kernel
theorem dev14_at (c : Dev nD) : (⟨k0_dev14 c, k0_dev14_lt c⟩ : Dev nD) = ccwd c := by revert c; decide +kernel
theorem dev15_at (c : Dev nD) : (⟨k0_dev15 c, k0_dev15_lt c⟩ : Dev nD) = cwd c := by revert c; decide +kernel
theorem dev16_at (c : Dev nD) : (⟨k0_dev16 c, k0_dev16_lt c⟩ : Dev nD) = ccwd c := by revert c; decide +kernel
theorem dev17_at (c : Dev nD) : (⟨k0_dev17 c, k0_dev17_lt c⟩ : Dev nD) = cwd c := by revert c; decide +kernel
theorem dev18_at (c : Dev nD) : (⟨k0_dev18 c, k0_dev18_lt c⟩ : Dev nD) = ccwd c := by revert c; decide +kernel
theorem dev19_at (c : Dev nD) : (⟨k0_dev19 c, k0_dev19_lt c⟩ : Dev nD) = cwd c := by revert c; decide +kernel
theorem dev20_at (c : Dev nD) : (⟨k0_dev20 c, k0_dev20_lt c⟩ : Dev nD) = cwd c := by revert c; decide +kernel

/-! ## Runs of rows -/

/-- The indices whose coordinate on axis `a₀` lies in `[a, a + n)`. -/
def rs (s : Shape) (a₀ : Fin s.rank) (a n : ℕ) : Finset s.Idx :=
  Finset.univ.filter fun i => a ≤ (i a₀).val ∧ (i a₀).val < a + n

theorem mem_rs {s : Shape} {a₀ : Fin s.rank} {a n : ℕ} {i : s.Idx} : i ∈ rs s a₀ a n ↔ a ≤ (i a₀).val ∧ (i a₀).val < a + n := by
  unfold rs; rw [Finset.mem_filter]; exact ⟨fun h => h.2, fun h => ⟨Finset.mem_univ _, h⟩⟩

theorem rs_disjoint {s : Shape} {a₀ : Fin s.rank} {a n a' n' : ℕ} (h : a + n ≤ a' ∨ a' + n' ≤ a) :
    Disjoint (rs s a₀ a n) (rs s a₀ a' n') := by
  rw [Finset.disjoint_left]; intro i hi hj; rw [mem_rs] at hi hj; omega

theorem rs_add {s : Shape} {a₀ : Fin s.rank} (a n k : ℕ) : rs s a₀ a (n + k) = rs s a₀ a n ∪ rs s a₀ (a + n) k := by
  ext i; rw [Finset.mem_union, mem_rs, mem_rs, mem_rs]; omega

theorem rs_full {s : Shape} {a₀ : Fin s.rank} {n : ℕ} (h : s.size a₀ ≤ n) : rs s a₀ 0 n = Finset.univ := by
  ext i; rw [mem_rs]; have := (i a₀).isLt; exact ⟨fun _ => Finset.mem_univ _, fun _ => ⟨Nat.zero_le _, by omega⟩⟩

theorem rs_subset {s : Shape} {a₀ : Fin s.rank} {a n a' n' : ℕ} (h : a' ≤ a) (h' : a + n ≤ a' + n') :
    rs s a₀ a n ⊆ rs s a₀ a' n' := by intro i hi; rw [mem_rs] at hi ⊢; omega

/-- A run of whole rows of a matrix, as the kernel slices it. -/
theorem unit_rows {A B : ℕ} {n : ℕ} {off size : Fin 2 → ℕ} (inb : ∀ a, off a + size a ≤ (⟨2, ![A, B]⟩ : Shape).size a)
    {a : ℕ} (ho : off = ![a, 0]) (hs : size = ![n, B]) :
    (Rect.unit (s := ⟨2, ![A, B]⟩) off size inb).set = rs ⟨2, ![A, B]⟩ 0 a n := by
  subst ho hs
  ext i
  rw [Rect.mem_set_unit, mem_rs]
  constructor
  · intro h; exact h 0
  · intro h
    refine Fin.forall_fin_two.mpr ⟨h, Nat.zero_le _, ?_⟩
    have : (i 1).val < B := (i 1).isLt
    show (i 1).val < 0 + B
    omega

/-- One slot of a stack of matrices, as the kernel slices it. -/
theorem unit_slot {A B C : ℕ} {off size : Fin 3 → ℕ} (inb : ∀ a, off a + size a ≤ (⟨3, ![A, B, C]⟩ : Shape).size a)
    {a : ℕ} (ho : off = ![a, 0, 0]) (hs : size = ![1, B, C]) :
    (Rect.unit (s := ⟨3, ![A, B, C]⟩) off size inb).set = rs ⟨3, ![A, B, C]⟩ 0 a 1 := by
  subst ho hs
  ext i
  rw [Rect.mem_set_unit, mem_rs]
  constructor
  · intro h; exact h 0
  · intro h a'
    match a' with
    | ⟨0, _⟩ => exact h
    | ⟨1, _⟩ =>
      refine ⟨Nat.zero_le _, ?_⟩
      have : (i 1).val < B := (i 1).isLt
      show (i 1).val < 0 + B
      omega
    | ⟨2, _⟩ =>
      refine ⟨Nat.zero_le _, ?_⟩
      have : (i 2).val < C := (i 2).isLt
      show (i 2).val < 0 + C
      omega

/-! ## Contents -/

section Contents
variable (X : Dev nD → S16384x1024.Idx → Elt F .f32)

/-- Entry `(n, j)` of device `c`'s input block (rows and columns wrapped into range). -/
def xat (c : Dev nD) (n j : ℕ) : Elt F .f32 :=
  X c (ValueIdx.ix2 (n0 := 16384) (n1 := 1024) ⟨n % 16384, Nat.mod_lt _ (by decide)⟩ ⟨j % 1024, Nat.mod_lt _ (by decide)⟩)

/-- The same entry rounded to the output's format. -/
def tat (c : Dev nD) (n j : ℕ) : Elt F .bf16 := FloatOps.truncf .bf16 bitsLt_bf16_f32 (xat X c n j : F .f32)

/-- The load buffer holding the input rows from `r₀` on. -/
def ldC (c : Dev nD) (r₀ : ℕ) : S2x704x1024.Idx → Elt F .f32 := fun i => xat X c (r₀ + (i 1).val) (i 2).val
/-- The rotating buffer holding chunk `k`. -/
def rotC (c : Dev nD) (k : ℕ) : S4x704x1024.Idx → Elt F .bf16 := fun i => tat X c (704 * k + (i 1).val) (i 2).val
/-- The staged piece for the partner's ring. -/
def injC (c : Dev nD) : S1408x1024.Idx → Elt F .bf16 := fun i => tat X c (1408 * (pos c).val + (i 0).val) (i 1).val
/-- The rows beyond the ring's. -/
def remC (c : Dev nD) : S5120x1024.Idx → Elt F .bf16 := fun i => tat X c (11264 + (i 0).val) (i 1).val
/-- The ring buffer once filled: piece `p` is what the device at position `p` of the other group injected. -/
def ringC (c : Dev nD) : S11264x1024.Idx → Elt F .bf16 :=
  fun i => tat X (devAt (1 - grp c) ((i 0).val / 1408)) (i 0).val (i 1).val
/-- The result: the own half, and the other group's half. -/
def outC (c : Dev nD) : S32768x1024.Idx → Elt F .bf16 := fun i =>
  if (i 0).val / 16384 = grp c then tat X c ((i 0).val % 16384) (i 1).val
  else if (i 0).val % 16384 < 11264 then tat X (devAt (1 - grp c) ((i 0).val % 16384 / 1408)) ((i 0).val % 16384) (i 1).val
  else tat X (partner c) ((i 0).val % 16384) (i 1).val

end Contents

end Cert.KernelIdealGather

end
-- ==== Proof.KernelIdeal.Sched.lean ====
/-
# The protocol: cells, what each duty hands over, what is owed, the levels

Every device has one barrier cell and, for each addressed transfer it takes part in, a cell at the sending end and a
cell at the receiving end. All of them run one round. The barrier's three duties are paid by the partner and the two
ring neighbours, each handing over the places the device is going to write into on them; the duty of a sending cell
hands the source back, the duty of a receiving cell hands over the piece that has landed.
-/
module

public import proofs.«01_k».proof.Proof.KernelIdeal.Data
public import Idealize.SL.BI.BigOpNat

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) (Fin 3)
abbrev UC : Type := UB × Counters
abbrev UU : Type := UR sig nD τ × UC

local notation "𝕄" => MT nD τ sig Unit (Elt F) ℕ UU ℕ

abbrev EP : Emb (UR sig nD τ) (MT nD τ sig Unit (Elt F) ℕ UU ℕ) := embL
abbrev ERC : Emb UC (MT nD τ sig Unit (Elt F) ℕ UU ℕ) := embR
/-- The rounds' part of the algebra, -/
abbrev ER : Emb UB (MT nD τ sig Unit (Elt F) ℕ UU ℕ) := (Emb.inl : Emb UB UC).trans ERC
/-- and the local transfers'. -/
abbrev EC : UEmb Counters (MT nD τ sig Unit (Elt F) ℕ UU ℕ) := countersEmb

/-! ## The cells -/

/-- The runtime's barrier semaphore. -/
abbrev barS : Sem sig := (SemArray.scalar (sig.barrier 0 rfl) : Sems sig S_).sem
/-- DMA semaphore number `q`. -/
def dq (q : ℕ) : DmaSem sig := ⟨q % 49, Nat.mod_lt _ (by decide)⟩

abbrev barCell (c : Dev nD) : GSem nD τ sig := ((c : Thread nD τ), .reg barS)
abbrev dcell (c : Dev nD) (q : ℕ) : GSem nD τ sig := ((c : Thread nD τ), .dma (dq q))

/-- The cells of the protocol on one device: the barrier, then the DMA semaphores 2 to 35. -/
def csem (k : Fin 35) : SemLoc sig := if k.val = 0 then .reg barS else .dma (dq (k.val + 1))
abbrev kcell (ck : Dev nD × Fin 35) : GSem nD τ sig := ((ck.1 : Thread nD τ), csem ck.2)

/-- The credit of a half-piece, of the rows beyond the ring's, and of a loaded chunk. -/
def NP : ℕ := RefSig.tileCredit S704x1024 .bf16
def NR : ℕ := RefSig.tileCredit S5120x1024 .bf16

theorem NP_pos : 0 < NP := RefSig.tileCredit_pos _ _ (by decide)
theorem NR_pos : 0 < NR := RefSig.tileCredit_pos _ _ (by decide)

def amtq (q : ℕ) : ℕ := if q = 6 ∨ q = 7 then NR else NP
theorem amtq_pos (q : ℕ) : 0 < amtq q := by unfold amtq; split; exacts [NR_pos, NP_pos]

/-! ## Points-to facts by piece -/

/-- The three shares a ring piece is read under: by the transfer to the next device, by the transfer to the previous
    one, by the copy into the result. -/
abbrev qA : PosShare TreeShare := fullShare.left
abbrev qB : PosShare TreeShare := fullShare.right.left
abbrev qD : PosShare TreeShare := fullShare.right.right

abbrev argL (c : Dev nD) : Loc nD τ sig := (c : Thread nD τ).loc main_arg0
abbrev outL (c : Dev nD) : Loc nD τ sig := (c : Thread nD τ).loc main_v1
abbrev ringL (c : Dev nD) : Loc nD τ sig := (c : Thread nD τ).loc cc0_scratch0
abbrev injL (c : Dev nD) : Loc nD τ sig := (c : Thread nD τ).loc cc0_scratch1
abbrev remL (c : Dev nD) : Loc nD τ sig := (c : Thread nD τ).loc cc0_scratch2
abbrev rotL (c : Dev nD) : Loc nD τ sig := (c : Thread nD τ).loc cc0_scratch3
abbrev ldL (c : Dev nD) : Loc nD τ sig := (c : Thread nD τ).loc cc0_scratch4

section Pieces
variable (X : Dev nD → S16384x1024.Idx → Elt F .f32)

/-- Half-piece `(δ, j)` of the ring buffer, filled, at share `q`; the same at any contents. -/
def ringP (c : Dev nD) (δ : Fin 8) (j : ℕ) (q : PosShare TreeShare) : sProp 𝕄 :=
  ringL c ↦[rs S11264x1024 0 (prow c δ j) 704]{q} (ringC X c : Buf (Elt F) (ringL c))
def ringAny (c : Dev nD) (δ : Fin 8) (j : ℕ) : sProp 𝕄 :=
  iprop(∃ f : Buf (Elt F) (ringL c), ringL c ↦[rs S11264x1024 0 (prow c δ j) 704]{fullShare} f)
/-- Rows `[a, a + n)` of the result, computed; the same at any contents. -/
def outP (c : Dev nD) (a n : ℕ) : sProp 𝕄 :=
  outL c ↦[rs S32768x1024 0 a n]{fullShare} (outC X c : Buf (Elt F) (outL c))
def outAny (c : Dev nD) (a n : ℕ) : sProp 𝕄 :=
  iprop(∃ f : Buf (Elt F) (outL c), outL c ↦[rs S32768x1024 0 a n]{fullShare} f)
/-- Half `j` of the staged piece, filled; at any contents. -/
def injP (c : Dev nD) (j : ℕ) : sProp 𝕄 :=
  injL c ↦[rs S1408x1024 0 (704 * j) 704]{fullShare} (injC X c : Buf (Elt F) (injL c))
def injAny (c : Dev nD) (j : ℕ) : sProp 𝕄 :=
  iprop(∃ f : Buf (Elt F) (injL c), injL c ↦[rs S1408x1024 0 (704 * j) 704]{fullShare} f)
/-- Rows `[a, a + n)` of the staged rest, filled, at share `q`. -/
def remP (c : Dev nD) (a n : ℕ) (q : PosShare TreeShare) : sProp 𝕄 :=
  remL c ↦[rs S5120x1024 0 a n]{q} (remC X c : Buf (Elt F) (remL c))
def remAny (c : Dev nD) (a n : ℕ) : sProp 𝕄 :=
  iprop(∃ f : Buf (Elt F) (remL c), remL c ↦[rs S5120x1024 0 a n]{fullShare} f)
/-- The rows the partner's rest lands in. -/
abbrev orem (c : Dev nD) : ℕ := 16384 * (1 - grp c) + 11264

omit [FloatOps F] in
instance ringAny_storable (c : Dev nD) (δ j) : BI.Storable (upEmb : UEmb _ 𝕄) (ringAny (F := F) c δ j) := by unfold ringAny; infer_instance
omit [FloatOps F] in
instance outAny_storable (c : Dev nD) (a n) : BI.Storable (upEmb : UEmb _ 𝕄) (outAny (F := F) c a n) := by unfold outAny; infer_instance
instance ringP_storable (c : Dev nD) (δ j q) : BI.Storable (upEmb : UEmb _ 𝕄) (ringP X c δ j q) := by unfold ringP; infer_instance
instance outP_storable (c : Dev nD) (a n) : BI.Storable (upEmb : UEmb _ 𝕄) (outP X c a n) := by unfold outP; infer_instance
instance injP_storable (c : Dev nD) (j) : BI.Storable (upEmb : UEmb _ 𝕄) (injP X c j) := by unfold injP; infer_instance
instance remP_storable (c : Dev nD) (a n q) : BI.Storable (upEmb : UEmb _ 𝕄) (remP X c a n q) := by unfold remP; infer_instance

/-! ## The schedule -/

/-- What the barrier's duty `d` hands device `c`: from the partner (0), from the previous device (1), from the next (2). -/
def barPay (c : Dev nD) (d : Fin 3) : sProp 𝕄 :=
  if d = 0 then iprop(ringAny (F := F) (partner c) 0 0 ∗ ringAny (F := F) (partner c) 0 1 ∗ outAny (F := F) (partner c) (orem (partner c)) 5120)
  else if d = 1 then iprop(ringAny (F := F) (ccwd c) 1 0 ∗ ringAny (F := F) (ccwd c) 1 1 ∗ ringAny (F := F) (ccwd c) 2 0 ∗ ringAny (F := F) (ccwd c) 2 1
      ∗ ringAny (F := F) (ccwd c) 3 0 ∗ ringAny (F := F) (ccwd c) 3 1)
  else iprop(ringAny (F := F) (cwd c) 7 0 ∗ ringAny (F := F) (cwd c) 7 1 ∗ ringAny (F := F) (cwd c) 6 0 ∗ ringAny (F := F) (cwd c) 6 1
      ∗ ringAny (F := F) (cwd c) 5 0 ∗ ringAny (F := F) (cwd c) 5 1 ∗ ringAny (F := F) (cwd c) 4 0 ∗ ringAny (F := F) (cwd c) 4 1)

/-- What the duty of DMA semaphore `q` of device `c` hands it. -/
def dmaPay (c : Dev nD) (q : ℕ) : sProp 𝕄 :=
  if q < 4 then injP X c (q - 2)
  else if q < 6 then ringP X c 0 (q - 4) fullShare
  else if q = 6 then remP X c 0 5120 fullShare.right
  else if q = 7 then outP X c (orem c) 5120
  else if q < 16 then ringP X c (Fin.ofNat 8 (8 - (q - 8) / 2)) ((q - 8) % 2) qA
  else if q < 24 then ringP X c (Fin.ofNat 8 (7 - (q - 16) / 2)) ((q - 16) % 2) fullShare
  else if q < 30 then ringP X c (Fin.ofNat 8 ((q - 24) / 2)) ((q - 24) % 2) qB
  else ringP X c (Fin.ofNat 8 (1 + (q - 30) / 2)) ((q - 30) % 2) fullShare

omit [FloatOps F] in
instance barPay_storable (c : Dev nD) (d) : BI.Storable (upEmb : UEmb _ 𝕄) (barPay (F := F) c d) := by
  unfold barPay; (repeat' split) <;> infer_instance
instance dmaPay_storable (c : Dev nD) (q) : BI.Storable (upEmb : UEmb _ 𝕄) (dmaPay X c q) := by
  unfold dmaPay; (repeat' split) <;> infer_instance

/-- The duties of a semaphore: the barrier's three; one for each DMA semaphore of a transfer between devices. -/
def dutyOf : SemLoc sig → Finset (Fin 3)
  | .reg _ => Finset.univ
  | .dma q => if 2 ≤ q.val ∧ q.val < 36 then {0} else ∅
def amtOf : SemLoc sig → ℕ
  | .reg _ => 1
  | .dma q => amtq q.val
def payOf (c : Dev nD) (d : Fin 3) : SemLoc sig → sProp 𝕄
  | .reg _ => barPay c d
  | .dma q => dmaPay X c q.val

def Rd : Rounds.Schedule (GSem nD τ sig) (Fin 3) 𝕄 where
  duties g r := if r = 0 ∧ g.1.2 = .tc then dutyOf g.2 else ∅
  unitless _ := False
  amount g _ _ := amtOf g.2
  payload g _ d := payOf X g.1.1 d g.2
  amount_pos g _ _ _ := by
    show 0 < amtOf g.2
    unfold amtOf; split; exacts [Nat.one_pos, amtq_pos _]

instance Rd_payload_storable (g : GSem nD τ sig) (r : ℕ) (d : Fin 3) :
    BI.Storable (upEmb : UEmb _ 𝕄) ((Rd X).payload g r d) := by
  show BI.Storable upEmb (payOf X g.1.1 d g.2)
  unfold payOf; split <;> infer_instance

theorem duties_later (g : GSem nD τ sig) : ∀ r, 0 + 1 ≤ r → (Rd X).duties g r = ∅ :=
  fun r hr => by dsimp only [Rd]; rw [if_neg fun h => by omega]

theorem duties_bar (c : Dev nD) : (Rd X).duties (barCell c) 0 = Finset.univ := by dsimp only [Rd]; exact if_pos ⟨rfl, rfl⟩

theorem dq_val {q : ℕ} (h : q < 49) : (dq q).val = q := Nat.mod_eq_of_lt h

theorem duties_dma (c : Dev nD) {q : ℕ} (h : 2 ≤ q ∧ q < 36) : (Rd X).duties (dcell c q) 0 = {0} := by
  dsimp only [Rd]; rw [if_pos ⟨rfl, rfl⟩]
  show (if 2 ≤ (dq q).val ∧ (dq q).val < 36 then ({0} : Finset (Fin 3)) else ∅) = {0}
  rw [dq_val (by omega), if_pos h]
theorem amount_dma (c : Dev nD) {q : ℕ} (h : q < 36) (d : Fin 3) : (Rd X).amount (dcell c q) 0 d = amtq q := by
  show amtq (dq q).val = _; rw [dq_val (by omega)]
theorem payload_dma (c : Dev nD) {q : ℕ} (h : q < 36) (d : Fin 3) : (Rd X).payload (dcell c q) 0 d = dmaPay X c q := by
  show dmaPay X c (dq q).val = _; rw [dq_val (by omega)]

theorem expect_bar (c : Dev nD) : (Rd X).expect (barCell c) 0 = 3 := by
  unfold Schedule.expect Schedule.amountOf
  rw [duties_bar]; rfl
theorem expect_dma (c : Dev nD) {q : ℕ} (h : 2 ≤ q ∧ q < 36) : (Rd X).expect (dcell c q) 0 = amtq q := by
  unfold Schedule.expect Schedule.amountOf; rw [duties_dma X c h, Finset.sum_singleton, amount_dma X c h.2]

theorem rest_dma (c : Dev nD) {q : ℕ} (h : 2 ≤ q ∧ q < 36) :
    bigSep ((Rd X).duties (dcell c q) 0 \ ∅) (fun d => (Rd X).payload (dcell c q) 0 d) = dmaPay X c q := by
  rw [Finset.sdiff_empty, duties_dma X c h, bigSep_singleton, payload_dma X c h.2]
theorem rest_bar (c : Dev nD) :
    bigSep ((Rd X).duties (barCell c) 0 \ ∅) (fun d => (Rd X).payload (barCell c) 0 d) = iprop(barPay c 0 ∗ barPay c 1 ∗ barPay c 2) := by
  rw [Finset.sdiff_empty, duties_bar, bigSep_univ_eq_bigSepL [0, 1, 2] (by decide) (by decide)]
  rfl

end Pieces

/-! ## Program order: the sends, the receives, what is owed -/

/-- The sending semaphore of the `n`-th addressed transfer, the receiving one, and its direction
    (0: to the partner, 1: to the next device, 2: to the previous one). -/
def sS (n : ℕ) : ℕ := [2, 3, 6, 8, 24, 9, 25, 10, 26, 11, 27, 12, 28, 13, 29, 14, 15].getD n 2
def sR (n : ℕ) : ℕ := [4, 5, 7, 16, 30, 17, 31, 18, 32, 19, 33, 20, 34, 21, 35, 22, 23].getD n 4
def sDir (n : ℕ) : ℕ := [0, 0, 0, 1, 2, 1, 2, 1, 2, 1, 2, 1, 2, 1, 2, 1, 1].getD n 0
/-- The receiving semaphores in the order they are waited for. -/
def rS (p : ℕ) : ℕ := [4, 5, 16, 30, 17, 31, 18, 32, 19, 33, 20, 21, 22, 34, 23, 35, 7].getD p 4

def toward (c : Dev nD) (d : ℕ) : Dev nD := if d = 0 then partner c else if d = 1 then cwd c else ccwd c
def back (c : Dev nD) (d : ℕ) : Dev nD := if d = 0 then partner c else if d = 1 then ccwd c else cwd c
theorem back_toward (c : Dev nD) (d : ℕ) : back (toward c d) d = c := by
  unfold back toward; split; · exact partner_partner c
  split; · exact ccwd_cwd c
  · exact cwd_ccwd c
theorem toward_back (c : Dev nD) (d : ℕ) : toward (back c d) d = c := by
  unfold back toward; split; · exact partner_partner c
  split; · exact cwd_ccwd c
  · exact ccwd_cwd c
def around (d : ℕ) : Dev nD ≃ Dev nD := ⟨fun c => toward c d, fun c => back c d, fun c => back_toward c d, fun c => toward_back c d⟩

/-- The `i`-th payment: the three barrier signals, then the transfers. -/
def pDir (i : ℕ) : ℕ := if i < 3 then i else sDir (i - 3)
def pSem (i : ℕ) : SemLoc sig := if i < 3 then .reg barS else .dma (dq (sR (i - 3)))
def pAmt (i : ℕ) : ℕ := if i < 3 then 1 else amtq (sR (i - 3))
def pCell (c : Dev nD) (i : ℕ) : GSem nD τ sig := ((toward c (pDir i) : Thread nD τ), pSem i)

/-- What device `c` owes once it has made `n` payments. -/
def owed (c : Dev nD) (n : ℕ) : CellTallies nD τ sig Unit := ∑ i ∈ Finset.Ico n 20, tallyAt (pCell c i) () (pAmt i)

theorem owed_step (c : Dev nD) {n : ℕ} (h : n < 20) : owed c n = owed c (n + 1) + tallyAt (pCell c n) () (pAmt n) := by
  unfold owed; rw [show Finset.Ico n 20 = insert n (Finset.Ico (n + 1) 20) by ext x; simp only [Finset.mem_Ico, Finset.mem_insert]; omega, Finset.sum_insert (by simp), add_comm]
theorem owed_end (c : Dev nD) : owed c 20 = 0 := by unfold owed; rw [Finset.Ico_self, Finset.sum_empty]

theorem owed_pos (c : Dev nD) (n : ℕ) {g : GSem nD τ sig} {u : Unit} (h : 0 < owed c n g u) :
    ∃ i, n ≤ i ∧ i < 20 ∧ g = pCell c i := by
  unfold owed at h
  rw [Finset.sum_apply, Finsupp.finset_sum_apply] at h
  obtain ⟨i, hi, hpos⟩ := Finset.exists_ne_zero_of_sum_ne_zero (Nat.pos_iff_ne_zero.mp h)
  rw [Finset.mem_Ico] at hi
  refine ⟨i, hi.1, hi.2, ?_⟩
  by_contra hn
  rw [tallyAt_apply, if_neg (fun h' => hn h'.1)] at hpos
  exact hpos rfl

def L (g : GSem nD τ sig) : Finset Unit := if g.1.2 = .tc then {()} else ∅
theorem L_of_ne (g : GSem nD τ sig) (h : g.1.2 ≠ .tc) : L g = ∅ := if_neg h

/-- The level of a DMA semaphore: the receives step by step, everything local at the bottom. -/
def lvq (q : ℕ) : ℕ :=
  if q = 4 ∨ q = 5 ∨ q = 7 then 2
  else if 16 ≤ q ∧ q < 24 then 3 + (q - 16) / 2
  else if 30 ≤ q ∧ q < 36 then 3 + (q - 30) / 2
  else 0
def lvs : SemLoc sig → ℕ
  | .reg _ => 1
  | .dma q => lvq q.val
def lv (g : GSem nD τ sig) (_ : Unit) : ℕ := lvs g.2

omit [FloatOps F] in
/-- After `n` payments a device may wait on a semaphore that lies below everything it still owes. -/
theorem mayWait (c : Dev nD) (sm : SemLoc sig) (n : ℕ) (h : ∀ i : Fin 20, n ≤ i.val → lvs sm < lvs (pSem i.val)) :
    (levAts L lv : sProp 𝕄) ⊢ MayWait (c : Thread nD τ) sm () (owed c n) :=
  MayOwe.of_cut (L := L) (lev := lv) (lvs sm)
    (fun p hp => by rw [Finset.mem_singleton.mp hp]; exact Finset.mem_singleton_self _)
    (fun g u hg => by obtain ⟨i, -, -, rfl⟩ := owed_pos c n hg; exact Finset.mem_singleton_self _)
    (fun p hp => by rw [Finset.mem_singleton.mp hp]; exact le_rfl)
    (fun g u hg => by obtain ⟨i, h1, h2, rfl⟩ := owed_pos c n hg; exact h ⟨i, h2⟩ h1)

end Cert.KernelIdealGather

end
-- ==== Proof.KernelIdeal.Moves.lean ====
/-
# One transfer, whatever it moves

A transfer whose source holds what the destination is to hold leaves the destination holding it. The buffers' windows
(runs of whole rows, slots of a stack) are described by the rows they cover and by what reading them gives.
-/
module

public import proofs.«01_k».proof.Proof.KernelIdeal.Sched

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Writing through a view what another view reads puts the intended contents there. -/
theorem write_read_eq {κ : Kind} {s : Shape} {e : EltTy} {sp : Space} (vd : View sig κ sp s e) (fd C : vd.ty.Contents (Elt F))
    (w : s.Idx → Elt F e) (h : ∀ x, w x = vd.read (Elt F) C x) : ∀ i ∈ vd.set, vd.write (Elt F) fd w Finset.univ i = C i := by
  intro i hi
  obtain ⟨x, -, rfl⟩ := Finset.mem_map.mp hi
  rw [View.write_emb_of_mem (v := vd) (Val := Elt F) fd w (Finset.mem_univ x), h x, View.read_apply, cast_cast, cast_eq]

abbrev 𝒱₀ : Variants := Variants.none

section Local
variable {sp sp' : Space} {s : Shape} {e : EltTy} {src : Memref sig .tc sp s e} {dst : Memref sig .tc sp' s e} {α : Type}

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Start a transfer within the device. -/
theorem start_local (c : Dev nD) {sem : DmaSem sig} {hsrc : src.view.WordExact} {hdst : dst.view.WordExact}
    {hsem : DmaTarget.Typed (nD := nD) (τ := τ) (p := .tc) sp (.dma sem) (.here dst)}
    {k : PUnit → Prog (TpuEff nD τ sig (Elt F) Λ₀ .tc) α} {Q : α → sProp 𝕄} {q : PosShare TreeShare}
    {Ss : Finset (Idx (src.view.loc (c : Thread nD τ)))} {Sd : Finset (Idx (dst.view.loc (c : Thread nD τ)))}
    (fs : Buf (Elt F) (src.view.loc (c : Thread nD τ))) (C : Buf (Elt F) (dst.view.loc (c : Thread nD τ))) (N : ℕ)
    (hN : dst.view.amount (.dma sem) = N) (hN0 : 0 < N) (hs : src.view.set = Ss) (hd : dst.view.set = Sd)
    (hC : ∀ x, src.view.read (Elt F) fs x = dst.view.read (Elt F) C x) :
    iprop((src.view.loc (c : Thread nD τ) ↦[Ss]{q} fs) ∗ (∃ fd, dst.view.loc (c : Thread nD τ) ↦[Sd]{fullShare} fd) ∗ semVal ((c : Thread nD τ), .dma sem) 0)
      ⊢ iprop((Transfers.Flight EC (c : Thread nD τ) (.dma sem) () N
            iprop((dst.view.loc (c : Thread nD τ) ↦[Sd]{fullShare} C) ∗ (src.view.loc (c : Thread nD τ) ↦[Ss]{q} fs)) -∗ WP c (k ⟨⟩) Q)
          -∗ WP c (.op (.enqueueDma src (.here dst) (.dma sem) hsrc hdst hsem) k) Q) := by
  subst hs hd
  iintro ⟨Hs, ⟨%fd, Hd⟩, Hv⟩ Hk
  iapply (Transfers.wp_dmaLocal EC 𝒱₀ (c : Thread nD τ) none () N hN hN0 (Finset.Subset.refl _)) $$ [Hs Hd Hv]
  · isplitl [Hs]; · iexact Hs
    isplitl [Hd]; · iexact Hd
    iexact Hv
  iintro HF
  iapply Hk
  iapply (Transfers.Flight_mono EC (c : Thread nD τ) (sep_mono_left (Entails.of_eq (pointsTo_congr
    (write_read_eq dst.view fd C _ hC))))) $$ HF

end Local

/-! ## The protocol's record and the addressed transfers -/

section Remote
variable (X : Dev nD → S16384x1024.Idx → Elt F .f32) (K : Dev nD × Fin 35 → ℕ)

/-- Every cell's invariant, and that every cell is at its first round; the levels. -/
def Rec : sProp 𝕄 :=
  iprop((bigSep Finset.univ fun ck : Dev nD × Fin 35 => cellInv ER (Rd X) (K ck) (kcell ck))
    ∗ (bigSep Finset.univ fun ck : Dev nD × Fin 35 => reached ER (kcell ck) 0)
    ∗ levAts L lv)

instance Rec_persistent : BI.Persistent (Rec X K) := by unfold Rec; infer_instance

/-- The index of DMA semaphore `q`'s cell. -/
def kq (q : ℕ) : Fin 35 := Fin.ofNat 35 (q - 1)
theorem kcell_kq (c : Dev nD) {q : ℕ} (h : 2 ≤ q ∧ q < 36) : kcell (c, kq q) = dcell c q := by
  have hv : (kq q).val = q - 1 := Nat.mod_eq_of_lt (by omega)
  show ((c : Thread nD τ), csem (kq q)) = _
  unfold csem
  rw [hv, if_neg (by omega), show q - 1 + 1 = q by omega]

theorem inv_at (c : Dev nD) {q : ℕ} (h : 2 ≤ q ∧ q < 36) : Rec X K ⊢ cellInv ER (Rd X) (K (c, kq q)) (dcell c q) := by
  rw [← kcell_kq c h]; unfold Rec
  exact sep_elim_left.trans (bigSep_elim (Finset.mem_univ (c, kq q)))
theorem reached_at (c : Dev nD) {q : ℕ} (h : 2 ≤ q ∧ q < 36) : Rec X K ⊢ reached ER (dcell c q) 0 := by
  rw [← kcell_kq c h]; unfold Rec
  exact sep_elim_right.trans (sep_elim_left.trans (bigSep_elim (Finset.mem_univ (c, kq q))))
theorem invBar_at (c : Dev nD) : Rec X K ⊢ cellInv ER (Rd X) (K (c, 0)) (barCell c) := by
  unfold Rec
  exact sep_elim_left.trans (bigSep_elim (Finset.mem_univ (c, (0 : Fin 35))))
theorem reachedBar_at (c : Dev nD) : Rec X K ⊢ reached ER (barCell c) 0 := by
  unfold Rec
  exact sep_elim_right.trans (sep_elim_left.trans (bigSep_elim (Finset.mem_univ (c, (0 : Fin 35)))))
theorem lev_at : Rec X K ⊢ (levAts L lv : sProp 𝕄) := by
  unfold Rec; iintro ⟨-, -, H⟩; iexact H

set_option maxRecDepth 100000 in
theorem mayWait_rec (c : Dev nD) (sm : SemLoc sig) (n : ℕ) (h : ∀ i : Fin 20, n ≤ i.val → lvs sm < lvs (pSem i.val)) :
    Rec X K ⊢ MayWait (c : Thread nD τ) sm () (owed c n) := (lev_at X K).trans (mayWait (F := F) c sm n h)

variable {sp sp' : Space} {s : Shape} {e : EltTy} {src : Memref sig .tc sp s e} {α : Type}

/-- The `i`-th addressed transfer: the source goes to the sending cell, the filled destination to the receiving one. -/
theorem send_remote (c : Dev nD) (i : ℕ) (hi : 2 ≤ sS i ∧ sS i < 36) (hi' : 2 ≤ sR i ∧ sR i < 36) (hi17 : i < 17)
    (tgt : Dev nD) (ht : tgt = toward c (sDir i)) {dst : Memref sig (Dev.tc tgt : Thread nD τ).2.kind sp' s e}
    {qs qr : DmaSem sig} (hqs : qs = dq (sS i)) (hqr : qr = dq (sR i))
    {hsc : dst.view.ref.isScScratch = false} {hsrc : src.view.WordExact} {hdst : dst.view.WordExact}
    {hsem : DmaTarget.Typed sp (.dma qr) (.remote (Dev.tc tgt : Thread nD τ) dst (.dma qs) hsc)}
    {k : PUnit → Prog (TpuEff nD τ sig (Elt F) Λ₀ .tc) α} {Q : α → sProp 𝕄} {q : PosShare TreeShare}
    {Ss : Finset (Idx (src.view.loc (c : Thread nD τ)))} {Sd : Finset (Idx (dst.view.loc (tgt : Thread nD τ)))}
    (fs : Buf (Elt F) (src.view.loc (c : Thread nD τ))) (C : Buf (Elt F) (dst.view.loc (tgt : Thread nD τ)))
    (hN : dst.view.dmaCredit = amtq (sR i)) (hNN : amtq (sS i) = amtq (sR i)) (hs : src.view.set = Ss) (hd : dst.view.set = Sd)
    (hC : ∀ x, src.view.read (Elt F) fs x = dst.view.read (Elt F) C x)
    (hp1 : (src.view.loc (c : Thread nD τ) ↦[Ss]{q} fs) = dmaPay X c (sS i))
    (hp2 : (dst.view.loc (tgt : Thread nD τ) ↦[Sd]{fullShare} C) = dmaPay X tgt (sR i)) :
    iprop(Rec X K ∗ (dmaPay X c (sS i)) ∗ (∃ fd, dst.view.loc (tgt : Thread nD τ) ↦[Sd]{fullShare} fd)
        ∗ (∃ W, owes (c : Thread nD τ) (owed c (3 + i)) W)
        ∗ dutyTok ER (dcell c (sS i)) 0 (0 : Fin 3) ∗ dutyTok ER (dcell (toward c (sDir i)) (sR i)) 0 (0 : Fin 3))
      ⊢ iprop(((cred (tallyAt (dcell c (sS i)) () (amtq (sS i))) ∗ (∃ W, owes (c : Thread nD τ) (owed c (3 + (i + 1))) W)) -∗ WP c (k ⟨⟩) Q)
          -∗ WP c (.op (.enqueueDma src (.remote (Dev.tc tgt : Thread nD τ) dst (.dma qs) hsc) (.dma qr) hsrc hdst hsem) k) Q) := by
  subst hs hd ht hqs hqr
  rw [← hp1]
  iintro ⟨#HR, Hs, ⟨%fd, Hd⟩, ⟨%W, HO⟩, Ht1, Ht2⟩ Hk
  have hsrc1 : (0 : Fin 3) ∈ (Rd X).duties (dcell c (sS i)) 0 := by rw [duties_dma X c hi]; exact Finset.mem_singleton_self _
  have hdst1 : (0 : Fin 3) ∈ (Rd X).duties (dcell (toward c (sDir i)) (sR i)) 0 := by rw [duties_dma X _ hi']; exact Finset.mem_singleton_self _
  iapply (Rounds.wp_send_pointsTo 𝒱₀ ER (Rd X) (c : Thread nD τ) none (κ₁ := K (c, kq (sS i))) (κ₂ := K (toward c (sDir i), kq (sR i)))
    (r₁ := 0) (r₂ := 0) (d₁ := (0 : Fin 3)) (d₂ := (0 : Fin 3)) (fd := fd) (fs := fs) (q := q)
    hsrc1 hdst1 () () (amtq (sR i)) hN ((amount_dma X c hi.2 0).trans hNN) (amount_dma X _ hi'.2 0) (owed c (3 + (i + 1)))
    ((owed_step c (n := 3 + i) (by omega)).trans (by
      show _ + tallyAt (pCell c (3 + i)) () (pAmt (3 + i)) = _
      unfold pCell pAmt pDir pSem
      rw [if_neg (by omega), if_neg (by omega), if_neg (by omega), show 3 + i - 3 = i by omega]; rfl))
    (by rw [payload_dma X c hi.2, hp1])
    (by rw [payload_dma X _ hi'.2, ← hp2]; exact Entails.of_eq (pointsTo_congr (write_read_eq dst.view fd C _ hC)))) $$ [Hs Hd HO Ht1 Ht2]
  · isplitr; · iapply (inv_at X K c hi); iexact HR
    isplitr; · iapply (inv_at X K (toward c (sDir i)) hi'); iexact HR
    isplitl [Hs]; · iexact Hs
    isplitl [Hd]; · iexact Hd
    isplitl [HO]; · iexact HO
    isplitl [Ht1]; · iexact Ht1
    isplitr; · iapply (reached_at X K c hi); iexact HR
    isplitl [Ht2]; · iexact Ht2
    iapply (reached_at X K (toward c (sDir i)) hi'); iexact HR
  iintro ⟨Hc, HO⟩
  iapply Hk
  isplitl [Hc]; · rw [hNN]; iexact Hc
  iexists _; iexact HO

/-- Wait for a transfer within the device. -/
theorem wait_local (c : Dev nD) {sem : DmaSem sig} {dst : Memref sig .tc sp' s e} {s' : Shape} {e' : EltTy} {sp'' : Space} {srcw : Memref sig .tc sp'' s' e'}
    {hsrc : srcw.view.WordExact} {hdst : dst.view.WordExact}
    {k : PUnit → Prog (TpuEff nD τ sig (Elt F) Λ₀ .tc) α} {Q : α → sProp 𝕄} (N n : ℕ) (hN : dst.view.dmaCredit = N) {D : sProp 𝕄}
    (hlt : ∀ i : Fin 20, n ≤ i.val → lvs (.dma sem) < lvs (pSem i.val)) :
    iprop(Transfers.Flight EC (c : Thread nD τ) (.dma sem) () N D ∗ (∃ W, owes (c : Thread nD τ) (owed c n) W) ∗ Rec X K)
      ⊢ iprop((iprop(D ∗ semVal ((c : Thread nD τ), .dma sem) 0 ∗ (∃ W, owes (c : Thread nD τ) (owed c n) W)) -∗ WP c (k ⟨⟩) Q)
          -∗ WP c (.op (.waitDma2 sem srcw dst hsrc hdst) k) Q) := by
  iintro ⟨HF, ⟨%W, HO⟩, #HR⟩ Hk
  iapply (Transfers.wp_waitLocalO EC 𝒱₀ (c : Thread nD τ) none () hN) $$ [HF HO]
  · isplitl [HF]; · iexact HF
    isplitl [HO]; · iexact HO
    iapply (mayWait_rec X K c (.dma sem) n hlt); iexact HR
  iintro ⟨HD, Hv, HO⟩
  iapply Hk
  isplitl [HD]; · iexact HD
  isplitl [Hv]; · iexact Hv
  iexists _; iexact HO

/-- Wait on a DMA cell of the protocol: what its duty hands over, and its counter at zero. -/
theorem wait_cell (c : Dev nD) (q : ℕ) (hq : 2 ≤ q ∧ q < 36) {sem : DmaSem sig} (hsem : sem = dq q) {s' : Shape} {e' : EltTy} {sp'' : Space}
    {srcw : Memref sig .tc sp'' s' e'} {dst : Memref sig .tc sp' s e}
    {hsrc : srcw.view.WordExact} {hdst : dst.view.WordExact}
    {k : PUnit → Prog (TpuEff nD τ sig (Elt F) Λ₀ .tc) α} {Q : α → sProp 𝕄} (n : ℕ) (hN : dst.view.dmaCredit = amtq q)
    (hlt : ∀ i : Fin 20, n ≤ i.val → lvq q < lvs (pSem i.val)) :
    iprop(Rec X K ∗ cred (tallyAt (dcell c q) () (amtq q)) ∗ atPos ER (dcell c q) 0 ∅ 0 ∗ (∃ W, owes (c : Thread nD τ) (owed c n) W))
      ⊢ iprop((iprop(dmaPay X c q ∗ semVal (dcell c q) 0 ∗ (∃ W, owes (c : Thread nD τ) (owed c n) W)) -∗ WP c (k ⟨⟩) Q)
          -∗ WP c (.op (.waitDma2 sem srcw dst hsrc hdst) k) Q) := by
  subst hsem
  have hlt' : ∀ i : Fin 20, n ≤ i.val → lvs (.dma (dq q)) < lvs (pSem i.val) := by
    show ∀ i : Fin 20, n ≤ i.val → lvq (dq q).val < _
    rw [dq_val (by omega)]; exact hlt
  iintro ⟨#HR, Hc, Hat, ⟨%W, HO⟩⟩ Hk
  iapply (Rounds.wp_wait_rest_token 𝒱₀ ER (Rd X) (c : Thread nD τ) none (κ := K (c, kq q))
      (wpE_waitDma2_eq 𝒱₀ (c : Thread nD τ) none Set.univ) (Set.mem_univ _) () (O := owed c n) (W := W) (R := 0) (m := 0) (T := ∅)
      (by rw [Nat.zero_add, expect_dma X c hq]; exact hN)) $$ [Hc HO Hat]
  · isplitr; · iapply (inv_at X K c hq); iexact HR
    isplitl [Hc]; · rw [hN]; iexact Hc
    isplitl [HO]; · iexact HO
    isplitr; · iapply (mayWait_rec X K c (.dma (dq q)) n hlt'); iexact HR
    iexact Hat
  iintro ⟨HO, Hat, -, Hpay⟩
  ihave Hp := (Entails.of_eq (rest_dma X c hq)) $$ Hpay
  imod (Rounds.cell_close ER (Rd X) (Set.mem_univ (K (c, kq q))) (fun h => h) (R := 0 + 1) (duties_later X (dcell c q))) $$ [Hat] with Hz
  · isplitr; · iapply (inv_at X K c hq); iexact HR
    iexact Hat
  iapply Hk
  isplitl [Hp]; · iexact Hp
  isplitl [Hz]; · iexact Hz
  iexists _; iexact HO

end Remote

/-- A part of the body at the kernel's own buffers and semaphores. -/
abbrev onBufs {β : Type 1} (f : ∀ a0 : Memref sig .tc .hbm S16384x1024 .f32, a0.IsWhole → ∀ a1 : Memref sig .tc .hbm S32768x1024 .bf16, a1.IsWhole → ∀ a2 : Memref sig .tc .vmem S11264x1024 .bf16, a2.IsWhole → ∀ a3 : Memref sig .tc .vmem S1408x1024 .bf16, a3.IsWhole → ∀ a4 : Memref sig .tc .vmem S5120x1024 .bf16, a4.IsWhole → ∀ a5 : Memref sig .tc .vmem S4x704x1024 .bf16, a5.IsWhole → ∀ a6 : Memref sig .tc .vmem S2x704x1024 .f32, a6.IsWhole → DmaSems sig S2 → DmaSems sig S2 → DmaSems sig S2 → DmaSems sig S_ → DmaSems sig S_ → DmaSems sig S8 → DmaSems sig S8 → DmaSems sig S6 → DmaSems sig S6 → DmaSems sig S8 → DmaSems sig S4 → DmaSems sig S_ → β) : β :=
  f (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16

end Cert.KernelIdealGather

end
-- ==== Proof.KernelIdeal.Windows.lean ====
/-
# The kernel's windows

Each window of each buffer, by the rows it covers and by what it reads when the buffer holds what the run puts there.
-/
module

public import proofs.«01_k».proof.Proof.KernelIdeal.Moves

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Contents by row and column number -/

section Windows
variable (X : Dev nD → S16384x1024.Idx → Elt F .f32)

def ringN (c : Dev nD) (r j : ℕ) : Elt F .bf16 := tat X (devAt (1 - grp c) (r / 1408)) r j
def outN (c : Dev nD) (r j : ℕ) : Elt F .bf16 :=
  if r / 16384 = grp c then tat X c (r % 16384) j
  else if r % 16384 < 11264 then tat X (devAt (1 - grp c) (r % 16384 / 1408)) (r % 16384) j
  else tat X (partner c) (r % 16384) j

section Row
variable {n a : ℕ} {off : Fin 2 → ℕ}

theorem arg_set (ho : off = ![a, 0]) (inb : ∀ i, off i + (![n, 1024] : Fin 2 → ℕ) i ≤ S16384x1024.size i) :
    ((Memref.whole main_arg0).slice (Rect.unit (s := S16384x1024) off ![n, 1024] inb) (fun _ => rfl) : Memref sig .tc .hbm ⟨2, ![n, 1024]⟩ .f32).view.set
      = rs S16384x1024 0 a n :=
  (View.set_slice_whole main_arg0 _).trans (unit_rows inb ho rfl)
theorem arg_read (ho : off = ![a, 0]) (inb : ∀ i, off i + (![n, 1024] : Fin 2 → ℕ) i ≤ S16384x1024.size i) (c : Dev nD) (x : (⟨2, ![n, 1024]⟩ : Shape).Idx) :
    ((Memref.whole main_arg0).slice (Rect.unit (s := S16384x1024) off ![n, 1024] inb) (fun _ => rfl) : Memref sig .tc .hbm ⟨2, ![n, 1024]⟩ .f32).view.read (Elt F) (X c) x
      = xat X c (a + (x 0).val) (x 1).val := by
  subst ho
  show X c _ = X c _
  congr 1
  have h0 : (x 0).val < n := (x 0).isLt
  have h1 : (x 1).val < 1024 := (x 1).isLt
  have hb : a + n ≤ 16384 := inb 0
  funext i
  apply Fin.ext
  match i with
  | ⟨0, _⟩ => show a + 1 * (x 0).val = (a + (x 0).val) % 16384; rw [Nat.mod_eq_of_lt (by omega)]; omega
  | ⟨1, _⟩ => show 0 + 1 * (x 1).val = (x 1).val % 1024; rw [Nat.mod_eq_of_lt (by omega)]; omega

theorem ring_set (ho : off = ![a, 0]) (inb : ∀ i, off i + (![n, 1024] : Fin 2 → ℕ) i ≤ S11264x1024.size i) :
    ((Memref.whole cc0_scratch0).slice (Rect.unit (s := S11264x1024) off ![n, 1024] inb) (fun _ => rfl) : Memref sig .tc .vmem ⟨2, ![n, 1024]⟩ .bf16).view.set
      = rs S11264x1024 0 a n :=
  (View.set_slice_whole cc0_scratch0 _).trans (unit_rows inb ho rfl)
theorem ring_read (ho : off = ![a, 0]) (inb : ∀ i, off i + (![n, 1024] : Fin 2 → ℕ) i ≤ S11264x1024.size i) (c : Dev nD) (x : (⟨2, ![n, 1024]⟩ : Shape).Idx) :
    ((Memref.whole cc0_scratch0).slice (Rect.unit (s := S11264x1024) off ![n, 1024] inb) (fun _ => rfl) : Memref sig .tc .vmem ⟨2, ![n, 1024]⟩ .bf16).view.read (Elt F) (ringC X c) x
      = ringN X c (a + (x 0).val) (x 1).val := by
  subst ho
  show ringN X c (a + 1 * (x 0).val) (0 + 1 * (x 1).val) = _
  rw [one_mul, one_mul, zero_add]

theorem out_set (ho : off = ![a, 0]) (inb : ∀ i, off i + (![n, 1024] : Fin 2 → ℕ) i ≤ S32768x1024.size i) :
    ((Memref.whole main_v1).slice (Rect.unit (s := S32768x1024) off ![n, 1024] inb) (fun _ => rfl) : Memref sig .tc .hbm ⟨2, ![n, 1024]⟩ .bf16).view.set
      = rs S32768x1024 0 a n :=
  (View.set_slice_whole main_v1 _).trans (unit_rows inb ho rfl)
theorem out_read (ho : off = ![a, 0]) (inb : ∀ i, off i + (![n, 1024] : Fin 2 → ℕ) i ≤ S32768x1024.size i) (c : Dev nD) (x : (⟨2, ![n, 1024]⟩ : Shape).Idx) :
    ((Memref.whole main_v1).slice (Rect.unit (s := S32768x1024) off ![n, 1024] inb) (fun _ => rfl) : Memref sig .tc .hbm ⟨2, ![n, 1024]⟩ .bf16).view.read (Elt F) (outC X c) x
      = outN X c (a + (x 0).val) (x 1).val := by
  subst ho
  show outN X c (a + 1 * (x 0).val) (0 + 1 * (x 1).val) = _
  rw [one_mul, one_mul, zero_add]

theorem inj_set (ho : off = ![a, 0]) (inb : ∀ i, off i + (![n, 1024] : Fin 2 → ℕ) i ≤ S1408x1024.size i) :
    ((Memref.whole cc0_scratch1).slice (Rect.unit (s := S1408x1024) off ![n, 1024] inb) (fun _ => rfl) : Memref sig .tc .vmem ⟨2, ![n, 1024]⟩ .bf16).view.set
      = rs S1408x1024 0 a n :=
  (View.set_slice_whole cc0_scratch1 _).trans (unit_rows inb ho rfl)
theorem inj_read (ho : off = ![a, 0]) (inb : ∀ i, off i + (![n, 1024] : Fin 2 → ℕ) i ≤ S1408x1024.size i) (c : Dev nD) (x : (⟨2, ![n, 1024]⟩ : Shape).Idx) :
    ((Memref.whole cc0_scratch1).slice (Rect.unit (s := S1408x1024) off ![n, 1024] inb) (fun _ => rfl) : Memref sig .tc .vmem ⟨2, ![n, 1024]⟩ .bf16).view.read (Elt F) (injC X c) x
      = tat X c (1408 * (pos c).val + (a + (x 0).val)) (x 1).val := by
  subst ho
  show tat X c (1408 * (pos c).val + (a + 1 * (x 0).val)) (0 + 1 * (x 1).val) = _
  rw [one_mul, one_mul, zero_add]

theorem rem_set (ho : off = ![a, 0]) (inb : ∀ i, off i + (![n, 1024] : Fin 2 → ℕ) i ≤ S5120x1024.size i) :
    ((Memref.whole cc0_scratch2).slice (Rect.unit (s := S5120x1024) off ![n, 1024] inb) (fun _ => rfl) : Memref sig .tc .vmem ⟨2, ![n, 1024]⟩ .bf16).view.set
      = rs S5120x1024 0 a n :=
  (View.set_slice_whole cc0_scratch2 _).trans (unit_rows inb ho rfl)
theorem rem_read (ho : off = ![a, 0]) (inb : ∀ i, off i + (![n, 1024] : Fin 2 → ℕ) i ≤ S5120x1024.size i) (c : Dev nD) (x : (⟨2, ![n, 1024]⟩ : Shape).Idx) :
    ((Memref.whole cc0_scratch2).slice (Rect.unit (s := S5120x1024) off ![n, 1024] inb) (fun _ => rfl) : Memref sig .tc .vmem ⟨2, ![n, 1024]⟩ .bf16).view.read (Elt F) (remC X c) x
      = tat X c (11264 + (a + (x 0).val)) (x 1).val := by
  subst ho
  show tat X c (11264 + (a + 1 * (x 0).val)) (0 + 1 * (x 1).val) = _
  rw [one_mul, one_mul, zero_add]
end Row

/-! ## Slots of the stacks -/

/-- The first `n` rows of slot `sl` of the load buffer. -/
def bs (sl n : ℕ) : Finset S2x704x1024.Idx := Finset.univ.filter fun i => (i 0).val = sl ∧ (i 1).val < n
theorem mem_bs {sl n : ℕ} {i : S2x704x1024.Idx} : i ∈ bs sl n ↔ (i 0).val = sl ∧ (i 1).val < n := by
  unfold bs; rw [Finset.mem_filter]; exact ⟨fun h => h.2, fun h => ⟨Finset.mem_univ _, h⟩⟩
theorem bs_subset (sl n : ℕ) : bs sl n ⊆ rs S2x704x1024 0 sl 1 := by
  intro i hi; rw [mem_bs] at hi; rw [mem_rs]; omega

/-- What a load of `n` rows returns. -/
def ldV (c : Dev nD) (r₀ n : ℕ) : (⟨3, ![1, n, 1024]⟩ : Shape).Idx → Elt F .f32 := fun x => xat X c (r₀ + (x 1).val) (x 2).val

section Slot
variable {n sl : ℕ} {off : Fin 3 → ℕ}

theorem unit_box (ho : off = ![sl, 0, 0]) (inb : ∀ i, off i + (![1, n, 1024] : Fin 3 → ℕ) i ≤ S2x704x1024.size i) :
    (Rect.unit (s := S2x704x1024) off ![1, n, 1024] inb).set = bs sl n := by
  subst ho
  ext i
  rw [Rect.mem_set_unit, mem_bs]
  constructor
  · intro h
    have h0 := h 0; have h1 := h 1
    change sl ≤ (i 0).val ∧ (i 0).val < sl + 1 at h0
    change 0 ≤ (i 1).val ∧ (i 1).val < 0 + n at h1
    omega
  · intro h a
    match a with
    | ⟨0, _⟩ => show sl ≤ (i 0).val ∧ (i 0).val < sl + 1; omega
    | ⟨1, _⟩ => show 0 ≤ (i 1).val ∧ (i 1).val < 0 + n; omega
    | ⟨2, _⟩ =>
      have : (i 2).val < 1024 := (i 2).isLt
      show 0 ≤ (i 2).val ∧ (i 2).val < 0 + 1024; omega

theorem ld_set (ho : off = ![sl, 0, 0]) (inb : ∀ i, off i + (![1, n, 1024] : Fin 3 → ℕ) i ≤ S2x704x1024.size i)
    (hq : (⟨3, ![1, n, 1024]⟩ : Shape).Squeezes ⟨2, ![n, 1024]⟩) :
    (((Memref.whole cc0_scratch4).slice (Rect.unit (s := S2x704x1024) off ![1, n, 1024] inb) (fun _ => rfl) : Memref sig .tc .vmem ⟨3, ![1, n, 1024]⟩ .f32).squeeze
        ⟨2, ![n, 1024]⟩ hq).view.set = bs sl n :=
  (View.set_reshape _ _).trans ((View.set_slice_whole cc0_scratch4 _).trans (unit_box ho inb))

/-- An entry of a squeezed slot. -/
theorem squeeze_ix (hn : (⟨2, ![n, 1024]⟩ : Shape).numel = (⟨3, ![1, n, 1024]⟩ : Shape).numel) (x : (⟨2, ![n, 1024]⟩ : Shape).Idx) :
    (Shape.reshapeEquiv hn x 0).val = 0 ∧ (Shape.reshapeEquiv hn x 1).val = (x 0).val ∧ (Shape.reshapeEquiv hn x 2).val = (x 1).val := by
  have hx : x = ValueIdx.ix2 (n0 := n) (n1 := 1024) (x 0) (x 1) := by
    funext a; match a with
    | ⟨0, _⟩ => rfl
    | ⟨1, _⟩ => rfl
  have := ValueIdx.reshapeEquiv_ix2_1ab hn (x 0) (x 1)
  rw [← hx] at this
  rw [this]
  exact ⟨rfl, rfl, rfl⟩

theorem ld_read (ho : off = ![sl, 0, 0]) (inb : ∀ i, off i + (![1, n, 1024] : Fin 3 → ℕ) i ≤ S2x704x1024.size i)
    (hq : (⟨3, ![1, n, 1024]⟩ : Shape).Squeezes ⟨2, ![n, 1024]⟩) (c : Dev nD) (r₀ : ℕ) (x : (⟨2, ![n, 1024]⟩ : Shape).Idx) :
    (((Memref.whole cc0_scratch4).slice (Rect.unit (s := S2x704x1024) off ![1, n, 1024] inb) (fun _ => rfl) : Memref sig .tc .vmem ⟨3, ![1, n, 1024]⟩ .f32).squeeze
        ⟨2, ![n, 1024]⟩ hq).view.read (Elt F) (ldC X c r₀) x = xat X c (r₀ + (x 0).val) (x 1).val := by
  subst ho
  obtain ⟨-, h1, h2⟩ := squeeze_ix hq.numel_eq x
  show xat X c (r₀ + (0 + 1 * (Shape.reshapeEquiv hq.numel_eq x 1).val)) (0 + 1 * (Shape.reshapeEquiv hq.numel_eq x 2).val) = _
  rw [h1, h2, one_mul, one_mul, zero_add, zero_add]

theorem ld_readAt (ho : off = ![sl, 0, 0]) (inb : ∀ i, off i + (![1, n, 1024] : Fin 3 → ℕ) i ≤ S2x704x1024.size i) (c : Dev nD) (r₀ : ℕ) :
    (Memref.whole cc0_scratch4 : Memref sig .tc .vmem S2x704x1024 .f32).view.readAt (Elt F) (Rect.unit (s := S2x704x1024) off ![1, n, 1024] inb).toLoadRect (ldC X c r₀) = ldV X c r₀ n := by
  subst ho
  funext x
  show xat X c (r₀ + (0 + 1 * (x 1).val)) (0 + 1 * (x 2).val) = xat X c (r₀ + (x 1).val) (x 2).val
  rw [one_mul, one_mul, zero_add, zero_add]
theorem ld_setOn (ho : off = ![sl, 0, 0]) (inb : ∀ i, off i + (![1, n, 1024] : Fin 3 → ℕ) i ≤ S2x704x1024.size i) :
    (Memref.whole cc0_scratch4 : Memref sig .tc .vmem S2x704x1024 .f32).view.setOn (Rect.unit (s := S2x704x1024) off ![1, n, 1024] inb).toLoadRect.set ⊆ bs sl n := by
  rw [← unit_box ho inb]
  intro i hi
  obtain ⟨j, hj, rfl⟩ := Finset.mem_map.mp hi
  exact hj

theorem rot_set (ho : off = ![sl, 0, 0]) (inb : ∀ i, off i + S1x704x1024.size i ≤ S4x704x1024.size i)
    (hq : S1x704x1024.Squeezes S704x1024) :
    (((Memref.whole cc0_scratch3).slice (Rect.unit (s := S4x704x1024) off S1x704x1024.size inb) (fun _ => rfl) : Memref sig .tc .vmem S1x704x1024 .bf16).squeeze
        S704x1024 hq).view.set = rs S4x704x1024 0 sl 1 :=
  (View.set_reshape _ _).trans ((View.set_slice_whole cc0_scratch3 _).trans (unit_slot inb ho rfl))
theorem rot_read (ho : off = ![sl, 0, 0]) (inb : ∀ i, off i + S1x704x1024.size i ≤ S4x704x1024.size i)
    (hq : S1x704x1024.Squeezes S704x1024) (c : Dev nD) (k : ℕ) (x : S704x1024.Idx) :
    (((Memref.whole cc0_scratch3).slice (Rect.unit (s := S4x704x1024) off S1x704x1024.size inb) (fun _ => rfl) : Memref sig .tc .vmem S1x704x1024 .bf16).squeeze
        S704x1024 hq).view.read (Elt F) (rotC X c k) x = tat X c (704 * k + (x 0).val) (x 1).val := by
  subst ho
  obtain ⟨-, h1, h2⟩ := squeeze_ix hq.numel_eq x
  show tat X c (704 * k + (0 + 1 * (Shape.reshapeEquiv hq.numel_eq x 1).val)) (0 + 1 * (Shape.reshapeEquiv hq.numel_eq x 2).val) = _
  rw [h1, h2, one_mul, one_mul, zero_add, zero_add]
end Slot

/-! ## The vector stores' values -/

/-- The rows a load returned, rounded: what the kernel stores. -/
theorem pay_rows {n : ℕ} (c : Dev nD) (r₀ : ℕ) (h : (⟨3, ![1, n, 1024]⟩ : Shape).ShapeCasts ⟨2, ![n, 1024]⟩)
    (h' : (⟨2, ![n, 1024]⟩ : Shape).ShapeCasts ⟨2, ![n, 1024]⟩) (x : (⟨2, ![n, 1024]⟩ : Shape).Idx) :
    shapeCast ⟨2, ![n, 1024]⟩ (truncf .bf16 (shapeCast ⟨2, ![n, 1024]⟩ (ldV X c r₀ n : Vec F ⟨3, ![1, n, 1024]⟩ .f32) h : FVec F ⟨2, ![n, 1024]⟩ .f32) bitsLt_bf16_f32) h' x
      = tat X c (r₀ + (x 0).val) (x 1).val := by
  rw [shapeCast_self]
  obtain ⟨a, b, rfl⟩ : ∃ (a : Fin n) (b : Fin 1024), x = ValueIdx.ix2 a b := ⟨x 0, x 1, by
    funext a; match a with
    | ⟨0, _⟩ => rfl
    | ⟨1, _⟩ => rfl⟩
  show FloatOps.truncf .bf16 bitsLt_bf16_f32 (shapeCast _ _ h _) = _
  rw [ValueIdx.shapeCast_1ab_ab_apply]
  rfl
/-- The same laid out as a slot. -/
theorem pay_slot {n : ℕ} (c : Dev nD) (r₀ : ℕ) (h : (⟨3, ![1, n, 1024]⟩ : Shape).ShapeCasts ⟨2, ![n, 1024]⟩)
    (h' : (⟨2, ![n, 1024]⟩ : Shape).ShapeCasts ⟨3, ![1, n, 1024]⟩) (x : (⟨3, ![1, n, 1024]⟩ : Shape).Idx) :
    shapeCast ⟨3, ![1, n, 1024]⟩ (truncf .bf16 (shapeCast ⟨2, ![n, 1024]⟩ (ldV X c r₀ n : Vec F ⟨3, ![1, n, 1024]⟩ .f32) h : FVec F ⟨2, ![n, 1024]⟩ .f32) bitsLt_bf16_f32) h' x
      = tat X c (r₀ + (x 1).val) (x 2).val := by
  obtain ⟨u, a, b, rfl⟩ : ∃ (u : Fin 1) (a : Fin n) (b : Fin 1024), x = ValueIdx.ix3 u a b := ⟨x 0, x 1, x 2, by
    funext a; match a with
    | ⟨0, _⟩ => rfl
    | ⟨1, _⟩ => rfl
    | ⟨2, _⟩ => rfl⟩
  rw [ValueIdx.shapeCast_ab_1ab_apply]
  show FloatOps.truncf .bf16 bitsLt_bf16_f32 (shapeCast _ _ h _) = _
  rw [ValueIdx.shapeCast_1ab_ab_apply]
  rfl

end Windows

end Cert.KernelIdealGather

end
-- ==== Proof.KernelIdeal.State.lean ====
/-
# The state of a device between two effects

What a device holds while it runs, as families indexed in program order and cut at how far the program has come:
the loads of input rows, the staged piece, the barrier, the addressed transfers, the chunks of the own half, the pieces of
the ring.
-/
module

public import proofs.«01_k».proof.Proof.KernelIdeal.Windows

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Tables -/

/-- Load `l`: the two halves of the staged piece, then the chunks of the own half; its first row and its row count. -/
def row0 (c : Dev nD) (l : ℕ) : ℕ := if l < 2 then prow c 0 l else 704 * (l - 2)
def cntL (l : ℕ) : ℕ := if l = 25 then 192 else 704
def amtL (l : ℕ) : ℕ := RefSig.tileCredit ⟨2, ![cntL l, 1024]⟩ .f32
/-- Chunk `k` of the own half: its row count and its transfer's credit. -/
def cntK (k : ℕ) : ℕ := if k = 23 then 192 else 704
def amtK (k : ℕ) : ℕ := RefSig.tileCredit ⟨2, ![cntK k, 1024]⟩ .bf16
/-- The ring pieces in the order they arrive. -/
def pD (p : ℕ) : Fin 8 := [(0 : Fin 8), 0, 7, 1, 7, 1, 6, 2, 6, 2, 5, 5, 4, 3, 4, 3].getD p 0
def pJ (p : ℕ) : ℕ := [0, 1, 0, 0, 1, 1, 0, 0, 1, 1, 0, 1, 0, 0, 1, 1].getD p 0
/-- How many transfers have their source once `p` pieces have arrived. -/
def srcs (p : ℕ) : ℕ := [3, 5, 7, 8, 9, 10, 11, 12, 13, 14, 15, 16, 17].getD p 17

theorem amtL_pos (l : ℕ) : 0 < amtL l := by unfold amtL cntL; split <;> exact RefSig.tileCredit_pos _ _ (by decide)
theorem amtK_pos (k : ℕ) : 0 < amtK k := by unfold amtK cntK; split <;> exact RefSig.tileCredit_pos _ _ (by decide)

/-- The share of the input the loads on semaphore `b` read under. -/
def hf (b : ℕ) : PosShare TreeShare := if b = 0 then fullShare.left else fullShare.right

/-- A run over numbers, continued. -/
theorem bigSep_Ico_append {M : Type} [URA M] {a b d : ℕ} (h : a ≤ b) (h' : b ≤ d) (A : ℕ → sProp M) :
    bigSep (Finset.Ico a d) A = iprop(bigSep (Finset.Ico a b) A ∗ bigSep (Finset.Ico b d) A) := by
  rw [← Finset.Ico_union_Ico_eq_Ico h h', bigSep_union (Finset.Ico_disjoint_Ico_consecutive a b d)]
  rfl

section State
variable (X : Dev nD → S16384x1024.Idx → Elt F .f32) (K : Dev nD × Fin 35 → ℕ)

/-! ## The loads -/

def ldFree (c : Dev nD) (l : ℕ) : sProp 𝕄 :=
  iprop(semVal ((c : Thread nD τ), .dma (dq (l % 2))) 0
    ∗ (∃ f : Buf (Elt F) (ldL c), ldL c ↦[rs S2x704x1024 0 (l % 2) 1]{fullShare} f)
    ∗ argL c ↦[Finset.univ]{hf (l % 2)} (X c : Buf (Elt F) (argL c)))
/-- What the device keeps aside while load `l` is under way. -/
def ldRest (c : Dev nD) (l : ℕ) : sProp 𝕄 :=
  iprop((∃ f : Buf (Elt F) (ldL c), ldL c ↦[rs S2x704x1024 0 (l % 2) 1 \ bs (l % 2) (cntL l)]{fullShare} f)
    ∗ argL c ↦[Finset.univ \ rs S16384x1024 0 (row0 c l) (cntL l)]{hf (l % 2)} (X c : Buf (Elt F) (argL c)))
def ldGot (c : Dev nD) (l : ℕ) : sProp 𝕄 :=
  iprop((ldL c ↦[bs (l % 2) (cntL l)]{fullShare} (ldC X c (row0 c l) : Buf (Elt F) (ldL c)))
    ∗ argL c ↦[rs S16384x1024 0 (row0 c l) (cntL l)]{hf (l % 2)} (X c : Buf (Elt F) (argL c)))
def ldFly (c : Dev nD) (l : ℕ) : sProp 𝕄 :=
  iprop(Transfers.Flight EC (c : Thread nD τ) (.dma (dq (l % 2))) () (amtL l) (ldGot X c l) ∗ ldRest X c l)
def ldRdy (c : Dev nD) (l : ℕ) : sProp 𝕄 :=
  iprop(semVal ((c : Thread nD τ), .dma (dq (l % 2))) 0 ∗ ldGot X c l ∗ ldRest X c l)

def LD (c : Dev nD) (u w i : ℕ) : sProp 𝕄 :=
  iprop(bigSep (Finset.Ico i (u + 2)) (ldFree X c) ∗ bigSep (Finset.Ico w i) (ldFly X c) ∗ bigSep (Finset.Ico u w) (ldRdy X c))

/-! ## The barrier -/

/-- What the device hands over with its `i`-th signal: the duty and its payload. -/
def give (c : Dev nD) (i : ℕ) : sProp 𝕄 :=
  iprop(dutyTok ER (barCell (toward c i)) 0 (Fin.ofNat 3 i) ∗ barPay (F := F) (toward c i) (Fin.ofNat 3 i))
def BAR (c : Dev nD) (g b : ℕ) : sProp 𝕄 :=
  iprop(bigSep (Finset.Ico g 3) (give (F := F) c)
    ∗ (if b = 0 then iprop(cred (tallyAt (barCell c) () 3) ∗ atPos ER (barCell c) 0 ∅ 0) else semVal (barCell c) 0))

/-! ## The addressed transfers -/

def sndTok (c : Dev nD) (n : ℕ) : sProp 𝕄 :=
  iprop(dutyTok ER (dcell c (sS n)) 0 (0 : Fin 3) ∗ dutyTok ER (dcell (toward c (sDir n)) (sR n)) 0 (0 : Fin 3))
/-- The place the transfer received on semaphore `q` of device `c` lands in, with any contents. -/
def dstAny (c : Dev nD) (q : ℕ) : sProp 𝕄 :=
  if q < 6 then ringAny c 0 (q - 4)
  else if q = 7 then outAny c (orem c) 5120
  else if q < 24 then ringAny c (Fin.ofNat 8 (7 - (q - 16) / 2)) ((q - 16) % 2)
  else ringAny c (Fin.ofNat 8 (1 + (q - 30) / 2)) ((q - 30) % 2)
def sndDst (c : Dev nD) (n : ℕ) : sProp 𝕄 := dstAny (F := F) (toward c (sDir n)) (sR n)
def sndSrc (c : Dev nD) (n : ℕ) : sProp 𝕄 := dmaPay X c (sS n)
def sndCred (c : Dev nD) (n : ℕ) : sProp 𝕄 := cred (tallyAt (dcell c (sS n)) () (amtq (sS n)))
def sndPos (c : Dev nD) (n : ℕ) : sProp 𝕄 := atPos ER (dcell c (sS n)) 0 ∅ 0
def sndDone (c : Dev nD) (n : ℕ) : sProp 𝕄 := iprop(semVal (dcell c (sS n)) 0 ∗ dmaPay X c (sS n))

/-- `n` transfers made, the first `nd` destinations received, `sb` sources in place, `a` sources back. -/
def SND (c : Dev nD) (n nd a sb : ℕ) : sProp 𝕄 :=
  iprop(bigSep (Finset.Ico n 17) (sndTok (F := F) c) ∗ bigSep (Finset.Ico n nd) (sndDst (F := F) c) ∗ bigSep (Finset.Ico n sb) (sndSrc X c)
    ∗ bigSep (Finset.Ico a n) (sndCred (F := F) c) ∗ bigSep (Finset.Ico a 17) (sndPos (F := F) c) ∗ bigSep (Finset.Ico 0 a) (sndDone X c))

/-- The staged piece's halves not yet written. -/
def INJ (c : Dev nD) (j : ℕ) : sProp 𝕄 := bigSep (Finset.Ico j 2) (injAny (F := F) c)

/-! ## The chunks of the own half -/

def rotAny (c : Dev nD) (k : ℕ) : sProp 𝕄 :=
  iprop(∃ f : Buf (Elt F) (rotL c), rotL c ↦[rs S4x704x1024 0 (k % 4) 1]{fullShare} f)
def staged (c : Dev nD) (k : ℕ) : sProp 𝕄 :=
  if k < 16 then iprop(rotL c ↦[rs S4x704x1024 0 (k % 4) 1]{fullShare} (rotC X c k : Buf (Elt F) (rotL c)))
  else remP X c (704 * (k - 16)) (cntK k) fullShare.left
def orow (c : Dev nD) (k : ℕ) : ℕ := 16384 * grp c + 704 * k
def ownFly (c : Dev nD) (k : ℕ) : sProp 𝕄 :=
  Transfers.Flight EC (c : Thread nD τ) (.dma (dq (44 + k % 4))) () (amtK k) iprop(outP X c (orow c k) (cntK k) ∗ staged X c k)
def ownDone (c : Dev nD) (k : ℕ) : sProp 𝕄 :=
  iprop(outP X c (orow c k) (cntK k) ∗ (if k < 16 then iprop(emp) else remP X c (704 * (k - 16)) (cntK k) fullShare.left))
def remTodo (c : Dev nD) (k : ℕ) : sProp 𝕄 := remAny (F := F) c (704 * (k - 16)) (cntK k)
def remHalf (c : Dev nD) (k : ℕ) : sProp 𝕄 := remP X c (704 * (k - 16)) (cntK k) fullShare.right
def ownTodo (c : Dev nD) (k : ℕ) : sProp 𝕄 := outAny (F := F) c (orow c k) (cntK k)
def ownSem (c : Dev nD) (k : ℕ) : sProp 𝕄 := semVal ((c : Thread nD τ), .dma (dq (44 + k % 4))) 0

/-- `s` chunks staged, `d` on their way into the result, `w` there; the rest's second half kept from chunk `ra` on. -/
def OWN (c : Dev nD) (s d w ra : ℕ) : sProp 𝕄 :=
  iprop(bigSep (Finset.Ico (min s 16) (min w 16 + 4)) (rotAny (F := F) c) ∗ bigSep (Finset.Ico (max s 16) 24) (remTodo (F := F) c)
    ∗ bigSep (Finset.Ico d s) (staged X c) ∗ bigSep (Finset.Ico ra s) (remHalf X c) ∗ bigSep (Finset.Ico d 24) (ownTodo (F := F) c)
    ∗ bigSep (Finset.Ico w d) (ownFly X c) ∗ bigSep (Finset.Ico d (w + 4)) (ownSem (F := F) c) ∗ bigSep (Finset.Ico 0 w) (ownDone X c))

/-! ## The pieces of the ring -/

def rcvTodo (c : Dev nD) (p : ℕ) : sProp 𝕄 :=
  iprop(cred (tallyAt (dcell c (rS p)) () (amtq (rS p))) ∗ atPos ER (dcell c (rS p)) 0 ∅ 0)
/-- What is left of piece `p` beside the share the result is written from and the shares the next transfers read under. -/
def left (c : Dev nD) (p : ℕ) : sProp 𝕄 :=
  if p < 2 then iprop(emp)
  else if p < 12 then ringP X c (pD p) (pJ p) (if p = 3 ∨ p = 5 ∨ p = 7 ∨ p = 9 then qA else qB)
  else if p < 16 then iprop(ringP X c (pD p) (pJ p) qA ∗ ringP X c (pD p) (pJ p) qB)
  else outP X c (orem c) 5120
def prest (c : Dev nD) (p : ℕ) : sProp 𝕄 := ringP X c (pD p) (pJ p) qD
def hrow (c : Dev nD) (p : ℕ) : ℕ := 16384 * (1 - grp c) + prow c (pD p) (pJ p)
def ringTodo (c : Dev nD) (p : ℕ) : sProp 𝕄 := outAny (F := F) c (hrow c p) 704
def ringDone (c : Dev nD) (p : ℕ) : sProp 𝕄 := iprop(outP X c (hrow c p) 704 ∗ prest X c p)
def ringFly (c : Dev nD) (p : ℕ) : sProp 𝕄 :=
  Transfers.Flight EC (c : Thread nD τ) (.dma (dq (36 + p % 8))) () NP (ringDone X c p)
def ringSem (c : Dev nD) (p : ℕ) : sProp 𝕄 := semVal ((c : Thread nD τ), .dma (dq (36 + p % 8))) 0
def rcvZ (c : Dev nD) (p : ℕ) : sProp 𝕄 := semVal (dcell c (rS p)) 0

/-- `r` pieces received (the sixteen of the ring, then the rest), `d` on their way into the result, `w` there. -/
def RCV (c : Dev nD) (r d w : ℕ) : sProp 𝕄 :=
  iprop(bigSep (Finset.Ico r 17) (rcvTodo (F := F) c) ∗ bigSep (Finset.Ico 0 r) (rcvZ (F := F) c) ∗ bigSep (Finset.Ico 0 r) (left X c)
    ∗ bigSep (Finset.Ico d (min r 16)) (prest X c) ∗ bigSep (Finset.Ico d 16) (ringTodo (F := F) c)
    ∗ bigSep (Finset.Ico w d) (ringFly X c) ∗ bigSep (Finset.Ico d (w + 8)) (ringSem (F := F) c) ∗ bigSep (Finset.Ico 0 w) (ringDone X c))

/-! ## All of it -/

structure Cnt where
  lu : ℕ
  lw : ℕ
  li : ℕ
  j : ℕ
  g : ℕ
  b : ℕ
  n : ℕ
  nd : ℕ
  a : ℕ
  sb : ℕ
  os : ℕ
  od : ℕ
  ow : ℕ
  ra : ℕ
  r : ℕ
  rd : ℕ
  rw : ℕ

def St (c : Dev nD) (s : Cnt) : sProp 𝕄 :=
  iprop(Rec X K ∗ (∃ W, owes (c : Thread nD τ) (owed c (s.g + s.n)) W) ∗ LD X c s.lu s.lw s.li ∗ INJ (F := F) c s.j ∗ BAR (F := F) c s.g s.b
    ∗ SND X c s.n s.nd s.a s.sb ∗ OWN X c s.os s.od s.ow s.ra ∗ RCV X c s.r s.rd s.rw)

end State

end Cert.KernelIdealGather

end
-- ==== Proof.KernelIdeal.StepsA.lean ====
/-
# One effect at a time: the loads and the chunks of the own half

Each lemma takes a device over one effect of the program, from one state to the next.
-/
module

public import proofs.«01_k».proof.Proof.KernelIdeal.State

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps
variable (X : Dev nD → S16384x1024.Idx → Elt F .f32) (K : Dev nD × Fin 35 → ℕ) (c : Dev nD)

theorem take_first {M : Type} [URA M] {a b : ℕ} (h : a < b) (A : ℕ → sProp M) :
    bigSep (Finset.Ico a b) A ⊢ iprop(A a ∗ bigSep (Finset.Ico (a + 1) b) A) := Entails.of_eq (bigSep_Ico_succ_bot h A)
theorem put_last {M : Type} [URA M] {a b : ℕ} (h : a ≤ b) (A : ℕ → sProp M) :
    iprop(A b ∗ bigSep (Finset.Ico a b) A) ⊢ bigSep (Finset.Ico a (b + 1)) A := Entails.of_eq (bigSep_Ico_succ_top h A).symm

abbrev OW (n : ℕ) : sProp 𝕄 := iprop(∃ W, owes (c : Thread nD τ) (owed c n) W)

/-- A semaphore nothing owed lies below may be waited on at any time. -/
theorem low (q n : ℕ) (h : lvq (q % 49) = 0) : ∀ i : Fin 20, n ≤ i.val → lvs (.dma (dq q)) < lvs (pSem i.val) := by
  intro i _
  show lvq (q % 49) < _
  rw [h]
  exact (show ∀ i : Fin 20, 0 < lvs (pSem i.val) by decide) i

/-! ## Changing one family -/

theorem on_LD (s : Cnt) {u w i : ℕ} {p q : sProp 𝕄} (h : St X K c { s with lu := u, lw := w, li := i } ⊢ p)
    (hs : iprop(Rec X K ∗ OW c (s.g + s.n) ∗ LD X c s.lu s.lw s.li) ⊢ iprop(((OW (F := F) c (s.g + s.n) ∗ LD X c u w i) -∗ p) -∗ q)) :
    St X K c s ⊢ q := by
  unfold St
  iintro ⟨#HR, HO, HL, Hrest⟩
  iapply hs $$ [HO HL]
  · isplitr; · iexact HR
    isplitl [HO]; · iexact HO
    iexact HL
  iintro ⟨HO, HL⟩
  iapply h
  unfold St
  isplitr; · iexact HR
  isplitl [HO]; · iexact HO
  isplitl [HL]; · iexact HL
  iexact Hrest

theorem on_OWN (s : Cnt) {a b d e : ℕ} {p q : sProp 𝕄} (h : St X K c { s with os := a, od := b, ow := d, ra := e } ⊢ p)
    (hs : iprop(Rec X K ∗ OW c (s.g + s.n) ∗ OWN X c s.os s.od s.ow s.ra) ⊢ iprop(((OW (F := F) c (s.g + s.n) ∗ OWN X c a b d e) -∗ p) -∗ q)) :
    St X K c s ⊢ q := by
  unfold St
  iintro ⟨#HR, HO, HL, HI, HB, HS, HW, HC⟩
  iapply hs $$ [HO HW]
  · isplitr; · iexact HR
    isplitl [HO]; · iexact HO
    iexact HW
  iintro ⟨HO, HW⟩
  iapply h
  unfold St
  isplitr; · iexact HR
  isplitl [HO]; · iexact HO
  isplitl [HL]; · iexact HL
  isplitl [HI]; · iexact HI
  isplitl [HB]; · iexact HB
  isplitl [HS]; · iexact HS
  isplitl [HW]; · iexact HW
  iexact HC

theorem on_RCV (s : Cnt) {a b d : ℕ} {p q : sProp 𝕄} (h : St X K c { s with r := a, rd := b, rw := d } ⊢ p)
    (hs : iprop(Rec X K ∗ OW c (s.g + s.n) ∗ RCV X c s.r s.rd s.rw) ⊢ iprop(((OW (F := F) c (s.g + s.n) ∗ RCV X c a b d) -∗ p) -∗ q)) :
    St X K c s ⊢ q := by
  unfold St
  iintro ⟨#HR, HO, HL, HI, HB, HS, HW, HC⟩
  iapply hs $$ [HO HC]
  · isplitr; · iexact HR
    isplitl [HO]; · iexact HO
    iexact HC
  iintro ⟨HO, HC⟩
  iapply h
  unfold St
  isplitr; · iexact HR
  isplitl [HO]; · iexact HO
  isplitl [HL]; · iexact HL
  isplitl [HI]; · iexact HI
  isplitl [HB]; · iexact HB
  isplitl [HS]; · iexact HS
  isplitl [HW]; · iexact HW
  iexact HC

variable {α : Type}

/-! ## The loads -/

theorem ldStart (s : Cnt) {n : ℕ} (hn : n = cntL s.li) {o1 : Fin 2 → ℕ} {o2 : Fin 3 → ℕ} (h1 : o1 = ![row0 c s.li, 0]) (h2 : o2 = ![s.li % 2, 0, 0])
    {inb1 : ∀ i, o1 i + (![n, 1024] : Fin 2 → ℕ) i ≤ S16384x1024.size i} {inb2 : ∀ i, o2 i + (![1, n, 1024] : Fin 3 → ℕ) i ≤ S2x704x1024.size i}
    {hq : (⟨3, ![1, n, 1024]⟩ : Shape).Squeezes ⟨2, ![n, 1024]⟩} {sem : DmaSem sig} (hsem : sem = dq (s.li % 2)) {hsrc hdst hty}
    {k : PUnit → Prog (TpuEff nD τ sig (Elt F) Λ₀ .tc) α} {Q : α → sProp 𝕄}
    (hi : s.li < s.lu + 2) (hw : s.lw ≤ s.li) (h : St X K c { s with li := s.li + 1 } ⊢ WP c (k ⟨⟩) Q) :
    St X K c s ⊢ WP c (.op (.enqueueDma ((Memref.whole main_arg0).slice (Rect.unit (s := S16384x1024) o1 ![n, 1024] inb1) (fun _ => rfl) : Memref sig .tc .hbm ⟨2, ![n, 1024]⟩ .f32)
      (.here (((Memref.whole cc0_scratch4).slice (Rect.unit (s := S2x704x1024) o2 ![1, n, 1024] inb2) (fun _ => rfl) : Memref sig .tc .vmem ⟨3, ![1, n, 1024]⟩ .f32).squeeze ⟨2, ![n, 1024]⟩ hq))
      (.dma sem) hsrc hdst hty) k) Q := by
  subst hn hsem
  refine on_LD X K c s h ?_
  unfold LD
  iintro ⟨-, HO, Hfree, Hfly, Hrdy⟩ Hk
  ihave Hf := (take_first hi _) $$ Hfree
  icases Hf with ⟨Hf, Hfree⟩
  unfold ldFree
  icases Hf with ⟨Hv, ⟨%f, Hd⟩, Hx⟩
  ihave Hd := (pointsTo_split_subset (bs_subset (s.li % 2) (cntL s.li))).1 $$ Hd
  icases Hd with ⟨Hd, Hd'⟩
  ihave Hx := (pointsTo_split_subset (Finset.subset_univ (rs S16384x1024 0 (row0 c s.li) (cntL s.li)))).1 $$ Hx
  icases Hx with ⟨Hx, Hx'⟩
  iapply (start_local c (X c) (ldC X c (row0 c s.li)) (amtL s.li) rfl (amtL_pos _) (arg_set h1 inb1) (ld_set h2 inb2 hq)
    (fun x => (arg_read X h1 inb1 c x).trans (ld_read X h2 inb2 hq c _ x).symm)) $$ [Hx Hd Hv]
  · isplitl [Hx]; · iexact Hx
    isplitl [Hd]; · iexists f; iexact Hd
    iexact Hv
  iintro HF
  iapply Hk
  isplitl [HO]; · iexact HO
  isplitl [Hfree]; · iexact Hfree
  isplitl [HF Hd' Hx' Hfly]
  · iapply (put_last hw _)
    isplitr [Hfly]
    · unfold ldFly ldGot ldRest
      isplitl [HF]; · iexact HF
      isplitl [Hd']; · iexists f; iexact Hd'
      iexact Hx'
    iexact Hfly
  iexact Hrdy

theorem ldWait (s : Cnt) {sp sp' : Space} {t t' : Shape} {e e' : EltTy} {srcw : Memref sig .tc sp t e} {dst : Memref sig .tc sp' t' e'}
    {sem : DmaSem sig} (hsem : sem = dq (s.lw % 2)) (hN : dst.view.dmaCredit = amtL s.lw) {hsrc hdst}
    {k : PUnit → Prog (TpuEff nD τ sig (Elt F) Λ₀ .tc) α} {Q : α → sProp 𝕄}
    (hw : s.lw < s.li) (hu : s.lu ≤ s.lw) (h : St X K c { s with lw := s.lw + 1 } ⊢ WP c (k ⟨⟩) Q) :
    St X K c s ⊢ WP c (.op (.waitDma2 sem srcw dst hsrc hdst) k) Q := by
  subst hsem
  refine on_LD X K c s h ?_
  unfold LD
  iintro ⟨#HR, HO, Hfree, Hfly, Hrdy⟩ Hk
  ihave Hf := (take_first hw _) $$ Hfly
  icases Hf with ⟨Hf, Hfly⟩
  unfold ldFly
  icases Hf with ⟨HF, Hrest⟩
  iapply (wait_local X K c (amtL s.lw) (s.g + s.n) hN (low _ _ (by
    rcases Nat.mod_two_eq_zero_or_one s.lw with h | h <;> rw [h] <;> rfl))) $$ [HF HO]
  · isplitl [HF]; · iexact HF
    isplitl [HO]; · iexact HO
    iexact HR
  iintro ⟨HD, Hv, HO⟩
  iapply Hk
  isplitl [HO]; · iexact HO
  isplitl [Hfree]; · iexact Hfree
  isplitl [Hfly]; · iexact Hfly
  iapply (put_last hu _)
  isplitr [Hrdy]
  · unfold ldRdy
    isplitl [Hv]; · iexact Hv
    isplitl [HD]; · iexact HD
    iexact Hrest
  iexact Hrdy

/-- A slot whose rows have been read is free again. -/
theorem ldRdy_free (l : ℕ) : ldRdy X c l ⊢ ldFree X c (l + 2) := by
  unfold ldRdy ldGot ldRest ldFree
  rw [show (l + 2) % 2 = l % 2 by omega]
  iintro ⟨Hv, ⟨Hd, Hx⟩, ⟨%f, Hd'⟩, Hx'⟩
  isplitl [Hv]; · iexact Hv
  isplitl [Hd Hd']
  · iexists _
    iapply (pointsTo_join_subset (bs_subset (l % 2) (cntL l)))
    isplitl [Hd]; · iexact Hd
    iexact Hd'
  iapply (pointsTo_split_subset (Finset.subset_univ (rs S16384x1024 0 (row0 c l) (cntL l)))).2
  isplitl [Hx]; · iexact Hx
  iexact Hx'

theorem ldLoad (s : Cnt) {n : ℕ} (hn : n = cntL s.lu) {o2 : Fin 3 → ℕ} (h2 : o2 = ![s.lu % 2, 0, 0])
    {inb2 : ∀ i, o2 i + (![1, n, 1024] : Fin 3 → ℕ) i ≤ S2x704x1024.size i} {hl}
    {k : ((⟨3, ![1, n, 1024]⟩ : Shape).Idx → Elt F .f32) → Prog (TpuEff nD τ sig (Elt F) Λ₀ .tc) α} {Q : α → sProp 𝕄}
    (hu : s.lu < s.lw) (hi : s.li ≤ s.lu + 2) (h : St X K c { s with lu := s.lu + 1 } ⊢ WP c (k (ldV X c (row0 c s.lu) n)) Q) :
    St X K c s ⊢ WP c (.op (.load (Memref.whole cc0_scratch4 : Memref sig .tc .vmem S2x704x1024 .f32)
      (Rect.unit (s := S2x704x1024) o2 ![1, n, 1024] inb2).toLoadRect hl) k) Q := by
  subst hn
  refine on_LD X K c s h ?_
  unfold LD
  iintro ⟨#HR, HO, Hfree, Hfly, Hrdy⟩ Hk
  ihave Hf := (take_first hu _) $$ Hrdy
  icases Hf with ⟨Hf, Hrdy⟩
  unfold ldRdy ldGot
  icases Hf with ⟨Hv, ⟨Hd, Hx⟩, Hrest⟩
  iapply (wp_load 𝒱₀ (c : Thread nD τ) none Set.univ (m := (Memref.whole cc0_scratch4 : Memref sig .tc .vmem S2x704x1024 .f32)) (ld_setOn h2 inb2)) $$ [Hd]
  · iexact Hd
  iintro Hd
  rw [ld_readAt X h2 inb2 c]
  iapply Hk
  isplitl [HO]; · iexact HO
  isplitl [Hfree Hv Hd Hx Hrest]
  · iapply (put_last hi _)
    isplitr [Hfree]
    · iapply (ldRdy_free X c s.lu)
      unfold ldRdy ldGot
      isplitl [Hv]; · iexact Hv
      isplitr [Hrest]
      · isplitl [Hd]; · iexact Hd
        iexact Hx
      iexact Hrest
    iexact Hfree
  isplitl [Hfly]; · iexact Hfly
  iexact Hrdy

end Steps

end Cert.KernelIdealGather

end
-- ==== Proof.KernelIdeal.StepsB.lean ====
/-
# One effect at a time: the vector stores and the chunks' way into the result
-/
module

public import proofs.«01_k».proof.Proof.KernelIdeal.StepsA

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps
variable (X : Dev nD → S16384x1024.Idx → Elt F .f32) (K : Dev nD × Fin 35 → ℕ) (c : Dev nD)
variable {α : Type}

/-! ## A store, and a load whose value is not used -/

theorem store_all {cs : CoreSpace} {t : Shape} {e : EltTy} {m : Memref sig .tc cs t e} {r : Rect t} {w : r.shape.Idx → Elt F e} {hx hm}
    {k : PUnit → Prog (TpuEff nD τ sig (Elt F) Λ₀ .tc) α} {Q : α → sProp 𝕄}
    (C : Buf (Elt F) ((m.access r).loc (c : Thread nD τ))) {Sd : Finset (Idx ((m.access r).loc (c : Thread nD τ)))}
    (hd : (m.access r).set = Sd) (hC : ∀ x, w x = (m.access r).read (Elt F) C x) :
    (iprop(∃ f, (m.access r).loc (c : Thread nD τ) ↦[Sd]{fullShare} f) : sProp 𝕄)
      ⊢ iprop((((m.access r).loc (c : Thread nD τ) ↦[Sd]{fullShare} C) -∗ WP c (k ⟨⟩) Q) -∗ WP c (.op (.store m r w Finset.univ hx hm) k) Q) := by
  subst hd
  iintro ⟨%f, H⟩ Hk
  iapply (wp_store 𝒱₀ (c : Thread nD τ) none Set.univ (m := m) (r := r) (Mk := Finset.univ) (S := (m.access r).set) (Finset.Subset.refl _)) $$ [H]
  · iexact H
  iintro H
  iapply Hk
  iapply (Entails.of_eq (pointsTo_congr (write_read_eq (m.access r) f C w hC)))
  iexact H

theorem load_any {cs : CoreSpace} {t : Shape} {e : EltTy} {m : Memref sig .tc cs t e} {r : Rect t} {hl}
    {k : (r.shape.Idx → Elt F e) → Prog (TpuEff nD τ sig (Elt F) Λ₀ .tc) α} {Q : α → sProp 𝕄}
    {Sd : Finset (Idx ((m.access r).loc (c : Thread nD τ)))} (hd : (m.access r).set = Sd) :
    (iprop(∃ f, (m.access r).loc (c : Thread nD τ) ↦[Sd]{fullShare} f) : sProp 𝕄)
      ⊢ iprop((iprop(∃ f, (m.access r).loc (c : Thread nD τ) ↦[Sd]{fullShare} f) -∗ iprop(∀ v, WP c (k v) Q)) -∗ WP c (.op (.load m r.toLoadRect hl) k) Q) := by
  subst hd
  iintro ⟨%f, H⟩ Hk
  iapply (wp_load_rect 𝒱₀ (c : Thread nD τ) none Set.univ (m := m) (r := r) (S := (m.access r).set) (Finset.Subset.refl _)) $$ [H]
  · iexact H
  iintro H
  ihave Hv := Hk $$ [H]
  · iexists f; iexact H
  iapply Hv

/-! ## The staged piece -/

theorem on_SND (s : Cnt) {j n nd a sb : ℕ} {p q : sProp 𝕄} (h : St X K c { s with j := j, n := n, nd := nd, a := a, sb := sb } ⊢ p)
    (hs : iprop(Rec X K ∗ OW c (s.g + s.n) ∗ INJ c s.j ∗ SND X c s.n s.nd s.a s.sb)
      ⊢ iprop(((OW (F := F) c (s.g + n) ∗ INJ (F := F) c j ∗ SND X c n nd a sb) -∗ p) -∗ q)) : St X K c s ⊢ q := by
  unfold St
  iintro ⟨#HR, HO, HL, HI, HB, HS, Hrest⟩
  iapply hs $$ [HO HI HS]
  · isplitr; · iexact HR
    isplitl [HO]; · iexact HO
    isplitl [HI]; · iexact HI
    iexact HS
  iintro ⟨HO, HI, HS⟩
  iapply h
  unfold St
  isplitr; · iexact HR
  isplitl [HO]; · iexact HO
  isplitl [HL]; · iexact HL
  isplitl [HI]; · iexact HI
  isplitl [HB]; · iexact HB
  isplitl [HS]; · iexact HS
  iexact Hrest

theorem injDead (s : Cnt) {o : Fin 2 → ℕ} (ho : o = ![704 * s.j, 0]) {inb : ∀ i, o i + (![704, 1024] : Fin 2 → ℕ) i ≤ S1408x1024.size i} {hl}
    {k : ((⟨2, ![704, 1024]⟩ : Shape).Idx → Elt F .bf16) → Prog (TpuEff nD τ sig (Elt F) Λ₀ .tc) α} {Q : α → sProp 𝕄}
    (hj : s.j < 2) (h : ∀ v, St X K c s ⊢ WP c (k v) Q) :
    St X K c s ⊢ WP c (.op (.load (Memref.whole cc0_scratch1 : Memref sig .tc .vmem S1408x1024 .bf16)
      (Rect.unit (s := S1408x1024) o ![704, 1024] inb).toLoadRect hl) k) Q := by
  refine on_SND X K c s (forall_intro h) ?_
  unfold INJ
  iintro ⟨-, HO, HI, HS⟩ Hk
  ihave Hi := (take_first hj _) $$ HI
  icases Hi with ⟨Hi, HI⟩
  unfold injAny
  iapply (load_any c (inj_set ho inb)) $$ [Hi]
  · iexact Hi
  iintro Hi
  iapply Hk
  isplitl [HO]; · iexact HO
  isplitr [HS]
  · iapply (Entails.of_eq (bigSep_Ico_succ_bot hj _).symm)
    isplitl [Hi]; · iexact Hi
    iexact HI
  iexact HS

theorem injStore (s : Cnt) {o : Fin 2 → ℕ} (ho : o = ![704 * s.j, 0]) {inb : ∀ i, o i + (![704, 1024] : Fin 2 → ℕ) i ≤ S1408x1024.size i}
    {w : (⟨2, ![704, 1024]⟩ : Shape).Idx → Elt F .bf16} (hw : ∀ x, w x = tat X c (row0 c s.j + (x 0).val) (x 1).val) {hx hm}
    {k : PUnit → Prog (TpuEff nD τ sig (Elt F) Λ₀ .tc) α} {Q : α → sProp 𝕄}
    (hj : s.j < 2) (hb : s.sb = s.j) (h : St X K c { s with j := s.j + 1, sb := s.j + 1 } ⊢ WP c (k ⟨⟩) Q) (hn : s.n ≤ s.j) :
    St X K c s ⊢ WP c (.op (.store (Memref.whole cc0_scratch1 : Memref sig .tc .vmem S1408x1024 .bf16)
      (Rect.unit (s := S1408x1024) o ![704, 1024] inb) w Finset.univ hx hm) k) Q := by
  refine on_SND X K c s h ?_
  rw [hb]
  have hp : sndSrc X c s.j = injP X c s.j := by
    unfold sndSrc
    obtain h | h : s.j = 0 ∨ s.j = 1 := by omega
    all_goals rw [h]; rfl
  unfold INJ SND
  iintro ⟨-, HO, HI, H1, H2, H3, Hrest⟩ Hk
  ihave Hi := (take_first hj _) $$ HI
  icases Hi with ⟨Hi, HI⟩
  unfold injAny
  iapply (store_all c (injC X c) (inj_set ho inb) (fun x => (hw x).trans ((congrArg (fun r => tat X c r (x 1).val) (by
    unfold row0 prow; rw [if_pos hj, (show ∀ p : Fin 8, p + 0 = p by decide) (pos c)]; exact add_assoc _ _ _)).trans (inj_read X ho inb c x).symm))) $$ [Hi]
  · iexact Hi
  iintro Hi
  iapply Hk
  isplitl [HO]; · iexact HO
  isplitl [HI]; · iexact HI
  isplitl [H1]; · iexact H1
  isplitl [H2]; · iexact H2
  isplitl [H3 Hi]
  · iapply (put_last hn _)
    isplitl [Hi]
    · rw [hp]; unfold injP; iexact Hi
    iexact H3
  iexact Hrest

/-! ## Staging a chunk -/

theorem staged_rot {k : ℕ} (hk : k < 16) : staged X c k = iprop(rotL c ↦[rs S4x704x1024 0 (k % 4) 1]{fullShare} (rotC X c k : Buf (Elt F) (rotL c))) := if_pos hk
theorem staged_rem {k : ℕ} (hk : 16 ≤ k) : staged X c k = remP X c (704 * (k - 16)) (cntK k) fullShare.left := if_neg (by omega)

theorem rotAcc_set {k : ℕ} {o : Fin 3 → ℕ} (ho : o = ![k, 0, 0]) {inb : ∀ i, o i + S1x704x1024.size i ≤ S4x704x1024.size i} :
    ((Memref.whole cc0_scratch3 : Memref sig .tc .vmem S4x704x1024 .bf16).access (Rect.unit (s := S4x704x1024) o S1x704x1024.size inb)).set = rs S4x704x1024 0 k 1 :=
  (View.set_slice_whole cc0_scratch3 _).trans (unit_slot inb ho rfl)
theorem rotAcc_read {k sl : ℕ} {o : Fin 3 → ℕ} (ho : o = ![sl, 0, 0]) {inb : ∀ i, o i + S1x704x1024.size i ≤ S4x704x1024.size i} (x : S1x704x1024.Idx) :
    ((Memref.whole cc0_scratch3 : Memref sig .tc .vmem S4x704x1024 .bf16).access (Rect.unit (s := S4x704x1024) o S1x704x1024.size inb)).read (Elt F) (rotC X c k) x
      = tat X c (704 * k + (x 1).val) (x 2).val := by
  subst ho
  show tat X c (704 * k + (0 + 1 * (x 1).val)) (0 + 1 * (x 2).val) = _
  rw [one_mul, one_mul, zero_add, zero_add]

theorem rotDead (s : Cnt) {o : Fin 3 → ℕ} (ho : o = ![s.os % 4, 0, 0]) {inb : ∀ i, o i + S1x704x1024.size i ≤ S4x704x1024.size i} {hl}
    {k : (S1x704x1024.Idx → Elt F .bf16) → Prog (TpuEff nD τ sig (Elt F) Λ₀ .tc) α} {Q : α → sProp 𝕄}
    (hk : s.os < 16) (hf : s.os < min s.ow 16 + 4) (h : ∀ v, St X K c s ⊢ WP c (k v) Q) :
    St X K c s ⊢ WP c (.op (.load (Memref.whole cc0_scratch3 : Memref sig .tc .vmem S4x704x1024 .bf16)
      (Rect.unit (s := S4x704x1024) o S1x704x1024.size inb).toLoadRect hl) k) Q := by
  refine on_OWN X K c s (forall_intro h) ?_
  unfold OWN
  rw [Nat.min_eq_left (show s.os ≤ 16 by omega)]
  iintro ⟨-, HO, H, Hrest⟩ Hk
  ihave H := (take_first hf _) $$ H
  icases H with ⟨Hi, H⟩
  unfold rotAny
  iapply (load_any c (rotAcc_set ho)) $$ [Hi]
  · iexact Hi
  iintro Hi
  iapply Hk
  isplitl [HO]; · iexact HO
  isplitr [Hrest]
  · iapply (Entails.of_eq (bigSep_Ico_succ_bot hf _).symm)
    isplitl [Hi]; · iexact Hi
    iexact H
  iexact Hrest

theorem rotStore (s : Cnt) {o : Fin 3 → ℕ} (ho : o = ![s.os % 4, 0, 0]) {inb : ∀ i, o i + S1x704x1024.size i ≤ S4x704x1024.size i}
    {w : S1x704x1024.Idx → Elt F .bf16} (hw : ∀ x, w x = tat X c (row0 c (s.os + 2) + (x 1).val) (x 2).val) {hx hm}
    {k : PUnit → Prog (TpuEff nD τ sig (Elt F) Λ₀ .tc) α} {Q : α → sProp 𝕄}
    (hk : s.os < 16) (hf : s.os < min s.ow 16 + 4) (hd : s.od ≤ s.os) (hra : s.ra = 16) (h : St X K c { s with os := s.os + 1 } ⊢ WP c (k ⟨⟩) Q) :
    St X K c s ⊢ WP c (.op (.store (Memref.whole cc0_scratch3 : Memref sig .tc .vmem S4x704x1024 .bf16)
      (Rect.unit (s := S4x704x1024) o S1x704x1024.size inb) w Finset.univ hx hm) k) Q := by
  have hC : ∀ x, w x = ((Memref.whole cc0_scratch3 : Memref sig .tc .vmem S4x704x1024 .bf16).access (Rect.unit (s := S4x704x1024) o S1x704x1024.size inb)).read (Elt F) (rotC X c s.os) x :=
    fun x => by rw [hw x, rotAcc_read X c ho]; unfold row0; rw [if_neg (by omega), Nat.add_sub_cancel]
  refine on_OWN X K c s h ?_
  unfold OWN
  rw [Nat.min_eq_left (show s.os ≤ 16 by omega), Nat.min_eq_left (show s.os + 1 ≤ 16 by omega), Nat.max_eq_right (show s.os ≤ 16 by omega),
    Nat.max_eq_right (show s.os + 1 ≤ 16 by omega), hra, Finset.Ico_eq_empty_of_le (show s.os ≤ 16 by omega), Finset.Ico_eq_empty_of_le (show s.os + 1 ≤ 16 by omega)]
  iintro ⟨-, HO, H, H1, H2, Hrest⟩ Hk
  ihave H := (take_first hf _) $$ H
  icases H with ⟨Hi, H⟩
  unfold rotAny
  iapply (store_all c (rotC X c s.os) (rotAcc_set ho) hC) $$ [Hi]
  · iexact Hi
  iintro Hi
  iapply Hk
  isplitl [HO]; · iexact HO
  isplitl [H]; · iexact H
  isplitl [H1]; · iexact H1
  isplitl [Hi H2]
  · iapply (put_last hd _)
    isplitl [Hi]
    · iapply (Entails.of_eq (staged_rot X c hk).symm); iexact Hi
    iexact H2
  iexact Hrest

/-- A full window of the staged rest, half for its way into the result, half for its way to the partner. -/
theorem remP_halves (a n : ℕ) : (remL c ↦[rs S5120x1024 0 a n]{fullShare} (remC X c : Buf (Elt F) (remL c)) : sProp 𝕄)
    ⊣⊢ iprop(remP X c a n fullShare.left ∗ remP X c a n fullShare.right) := by
  unfold remP; exact pointsTo_share (PosShare.mem_left_op_right _)

theorem remDead (s : Cnt) {n : ℕ} (hn : n = cntK s.os) {o : Fin 2 → ℕ} (ho : o = ![704 * (s.os - 16), 0])
    {inb : ∀ i, o i + (![n, 1024] : Fin 2 → ℕ) i ≤ S5120x1024.size i} {hl}
    {k : ((⟨2, ![n, 1024]⟩ : Shape).Idx → Elt F .bf16) → Prog (TpuEff nD τ sig (Elt F) Λ₀ .tc) α} {Q : α → sProp 𝕄}
    (hk : 16 ≤ s.os) (hf : s.os < 24) (h : ∀ v, St X K c s ⊢ WP c (k v) Q) :
    St X K c s ⊢ WP c (.op (.load (Memref.whole cc0_scratch2 : Memref sig .tc .vmem S5120x1024 .bf16)
      (Rect.unit (s := S5120x1024) o ![n, 1024] inb).toLoadRect hl) k) Q := by
  subst hn
  refine on_OWN X K c s (forall_intro h) ?_
  unfold OWN
  rw [Nat.max_eq_left hk]
  iintro ⟨-, HO, H1, H, Hrest⟩ Hk
  ihave H := (take_first hf _) $$ H
  icases H with ⟨Hi, H⟩
  unfold remTodo remAny
  iapply (load_any c (rem_set ho inb)) $$ [Hi]
  · iexact Hi
  iintro Hi
  iapply Hk
  isplitl [HO]; · iexact HO
  isplitl [H1]; · iexact H1
  isplitr [Hrest]
  · iapply (Entails.of_eq (bigSep_Ico_succ_bot hf _).symm)
    isplitl [Hi]; · iexact Hi
    iexact H
  iexact Hrest

theorem remStore (s : Cnt) {n : ℕ} (hn : n = cntK s.os) {o : Fin 2 → ℕ} (ho : o = ![704 * (s.os - 16), 0])
    {inb : ∀ i, o i + (![n, 1024] : Fin 2 → ℕ) i ≤ S5120x1024.size i}
    {w : (⟨2, ![n, 1024]⟩ : Shape).Idx → Elt F .bf16} (hw : ∀ x, w x = tat X c (row0 c (s.os + 2) + (x 0).val) (x 1).val) {hx hm}
    {k : PUnit → Prog (TpuEff nD τ sig (Elt F) Λ₀ .tc) α} {Q : α → sProp 𝕄}
    (hk : 16 ≤ s.os) (hf : s.os < 24) (hd : s.od ≤ s.os) (hra : s.ra ≤ s.os) (h : St X K c { s with os := s.os + 1 } ⊢ WP c (k ⟨⟩) Q) :
    St X K c s ⊢ WP c (.op (.store (Memref.whole cc0_scratch2 : Memref sig .tc .vmem S5120x1024 .bf16)
      (Rect.unit (s := S5120x1024) o ![n, 1024] inb) w Finset.univ hx hm) k) Q := by
  subst hn
  refine on_OWN X K c s h ?_
  unfold OWN
  rw [Nat.max_eq_left hk, Nat.max_eq_left (show 16 ≤ s.os + 1 by omega), Nat.min_eq_right hk, Nat.min_eq_right (show 16 ≤ s.os + 1 by omega)]
  iintro ⟨-, HO, H1, H, H2, H3, Hrest⟩ Hk
  ihave H := (take_first hf _) $$ H
  icases H with ⟨Hi, H⟩
  unfold remTodo remAny
  iapply (store_all c (remC X c) (rem_set ho inb) (fun x => (hw x).trans ((congrArg (fun r => tat X c r (x 1).val) (by
    unfold row0; rw [if_neg (by omega)]; omega)).trans (rem_read X ho inb c x).symm))) $$ [Hi]
  · iexact Hi
  iintro Hi
  ihave Hi := (remP_halves X c _ _).1 $$ Hi
  icases Hi with ⟨Hl, Hr⟩
  iapply Hk
  isplitl [HO]; · iexact HO
  isplitl [H1]; · iexact H1
  isplitl [H]; · iexact H
  isplitl [Hl H2]
  · iapply (put_last hd _)
    isplitl [Hl]
    · iapply (Entails.of_eq (staged_rem X c hk).symm); iexact Hl
    iexact H2
  isplitl [Hr H3]
  · iapply (put_last hra _)
    isplitl [Hr]; · unfold remHalf; iexact Hr
    iexact H3
  iexact Hrest

/-! ## A chunk's way into the result -/

theorem outN_own (r j : ℕ) (hr : r < 16384) : outN X c (16384 * grp c + r) j = tat X c r j := by
  unfold outN
  rw [if_pos (show (16384 * grp c + r) / 16384 = grp c by omega), show (16384 * grp c + r) % 16384 = r by omega]

theorem ownStartRot (s : Cnt) {o1 : Fin 3 → ℕ} {o2 : Fin 2 → ℕ} (h1 : o1 = ![s.od % 4, 0, 0]) (h2 : o2 = ![orow c s.od, 0])
    {inb1 : ∀ i, o1 i + S1x704x1024.size i ≤ S4x704x1024.size i} {inb2 : ∀ i, o2 i + (![704, 1024] : Fin 2 → ℕ) i ≤ S32768x1024.size i}
    {hq : S1x704x1024.Squeezes S704x1024} {sem : DmaSem sig} (hsem : sem = dq (44 + s.od % 4)) {hsrc hdst hty}
    {k : PUnit → Prog (TpuEff nD τ sig (Elt F) Λ₀ .tc) α} {Q : α → sProp 𝕄}
    (hk : s.od < 16) (hs : s.od < s.os) (hw : s.ow ≤ s.od) (hf : s.od < s.ow + 4) (h : St X K c { s with od := s.od + 1 } ⊢ WP c (k ⟨⟩) Q) :
    St X K c s ⊢ WP c (.op (.enqueueDma (((Memref.whole cc0_scratch3).slice (Rect.unit (s := S4x704x1024) o1 S1x704x1024.size inb1) (fun _ => rfl) : Memref sig .tc .vmem S1x704x1024 .bf16).squeeze
        S704x1024 hq)
      (.here ((Memref.whole main_v1).slice (Rect.unit (s := S32768x1024) o2 ![704, 1024] inb2) (fun _ => rfl) : Memref sig .tc .hbm ⟨2, ![704, 1024]⟩ .bf16))
      (.dma sem) hsrc hdst hty) k) Q := by
  subst hsem
  have hc : cntK s.od = 704 := if_neg (by omega)
  have hfly : (Transfers.Flight EC (c : Thread nD τ) (.dma (dq (44 + s.od % 4))) () NP
      iprop((outL c ↦[rs S32768x1024 0 (orow c s.od) 704]{fullShare} (outC X c : Buf (Elt F) (outL c)))
        ∗ rotL c ↦[rs S4x704x1024 0 (s.od % 4) 1]{fullShare} (rotC X c s.od : Buf (Elt F) (rotL c))) : sProp 𝕄) = ownFly X c s.od := by
    unfold ownFly outP amtK; rw [staged_rot X c hk, hc]; rfl
  refine on_OWN X K c s h ?_
  unfold OWN
  iintro ⟨-, HO, H1, H2, Hst, H3, Hot, Hfl, Hsm, Hrest⟩ Hk
  ihave Hst := (take_first hs _) $$ Hst
  icases Hst with ⟨Hi, Hst⟩
  ihave Hot := (take_first (show s.od < 24 by omega) _) $$ Hot
  icases Hot with ⟨Hd, Hot⟩
  ihave Hsm := (take_first hf _) $$ Hsm
  icases Hsm with ⟨Hv, Hsm⟩
  have hd : ownTodo (F := F) c s.od ⊢ iprop(∃ f : Buf (Elt F) (outL c), outL c ↦[rs S32768x1024 0 (orow c s.od) 704]{fullShare} f) := by
    unfold ownTodo outAny; rw [hc]
  ihave Hi := (Entails.of_eq (staged_rot X c hk)) $$ Hi
  ihave Hd := hd $$ Hd
  unfold ownSem
  iapply (start_local c (rotC X c s.od) (outC X c) NP rfl NP_pos (rot_set h1 inb1 hq) (out_set h2 inb2)
    (fun x => (rot_read X h1 inb1 hq c _ x).trans ((outN_own X c _ _ (by
      have : (x 0).val < 704 := (x 0).isLt
      omega)).symm.trans (by rw [out_read X h2 inb2 c x]; unfold orow; rw [add_assoc])))) $$ [Hi Hd Hv]
  · isplitl [Hi]; · iexact Hi
    isplitl [Hd]; · iexact Hd
    iexact Hv
  iintro HF
  iapply Hk
  isplitl [HO]; · iexact HO
  isplitl [H1]; · iexact H1
  isplitl [H2]; · iexact H2
  isplitl [Hst]; · iexact Hst
  isplitl [H3]; · iexact H3
  isplitl [Hot]; · iexact Hot
  isplitl [HF Hfl]
  · iapply (put_last hw _)
    isplitl [HF]
    · iapply (Entails.of_eq (hfly)); iexact HF
    iexact Hfl
  isplitl [Hsm]; · iexact Hsm
  iexact Hrest

theorem ownStartRem (s : Cnt) {n : ℕ} (hn : n = cntK s.od) {o1 : Fin 2 → ℕ} {o2 : Fin 2 → ℕ} (h1 : o1 = ![704 * (s.od - 16), 0]) (h2 : o2 = ![orow c s.od, 0])
    {inb1 : ∀ i, o1 i + (![n, 1024] : Fin 2 → ℕ) i ≤ S5120x1024.size i} {inb2 : ∀ i, o2 i + (![n, 1024] : Fin 2 → ℕ) i ≤ S32768x1024.size i}
    {sem : DmaSem sig} (hsem : sem = dq (44 + s.od % 4)) {hsrc hdst hty}
    {k : PUnit → Prog (TpuEff nD τ sig (Elt F) Λ₀ .tc) α} {Q : α → sProp 𝕄}
    (hk : 16 ≤ s.od) (hk' : s.od < 24) (hs : s.od < s.os) (hw : s.ow ≤ s.od) (hf : s.od < s.ow + 4) (h : St X K c { s with od := s.od + 1 } ⊢ WP c (k ⟨⟩) Q) :
    St X K c s ⊢ WP c (.op (.enqueueDma ((Memref.whole cc0_scratch2).slice (Rect.unit (s := S5120x1024) o1 ![n, 1024] inb1) (fun _ => rfl) : Memref sig .tc .vmem ⟨2, ![n, 1024]⟩ .bf16)
      (.here ((Memref.whole main_v1).slice (Rect.unit (s := S32768x1024) o2 ![n, 1024] inb2) (fun _ => rfl) : Memref sig .tc .hbm ⟨2, ![n, 1024]⟩ .bf16))
      (.dma sem) hsrc hdst hty) k) Q := by
  subst hsem hn
  refine on_OWN X K c s h ?_
  unfold OWN
  iintro ⟨-, HO, H1, H2, Hst, H3, Hot, Hfl, Hsm, Hrest⟩ Hk
  ihave Hst := (take_first hs _) $$ Hst
  icases Hst with ⟨Hi, Hst⟩
  ihave Hot := (take_first hk' _) $$ Hot
  icases Hot with ⟨Hd, Hot⟩
  ihave Hsm := (take_first hf _) $$ Hsm
  icases Hsm with ⟨Hv, Hsm⟩
  have hfly : (Transfers.Flight EC (c : Thread nD τ) (.dma (dq (44 + s.od % 4))) () (amtK s.od)
      iprop((outL c ↦[rs S32768x1024 0 (orow c s.od) (cntK s.od)]{fullShare} (outC X c : Buf (Elt F) (outL c)))
        ∗ remL c ↦[rs S5120x1024 0 (704 * (s.od - 16)) (cntK s.od)]{fullShare.left} (remC X c : Buf (Elt F) (remL c))) : sProp 𝕄) = ownFly X c s.od := by
    unfold ownFly outP; rw [staged_rem X c hk]; rfl
  ihave Hi := (Entails.of_eq (staged_rem X c hk)) $$ Hi
  unfold ownTodo outAny ownSem remP
  iapply (start_local c (remC X c) (outC X c) (amtK s.od) rfl (amtK_pos _) (rem_set h1 inb1) (out_set h2 inb2)
    (fun x => (rem_read X h1 inb1 c x).trans (by
      have h0 : (x 0).val < cntK s.od := (x 0).isLt
      have hb : 704 * s.od + cntK s.od ≤ 16384 := by unfold cntK; split <;> omega
      rw [out_read X h2 inb2 c x]; unfold orow
      rw [add_assoc, outN_own X c _ _ (by omega), show 11264 + (704 * (s.od - 16) + (x 0).val) = 704 * s.od + (x 0).val by omega]))) $$ [Hi Hd Hv]
  · isplitl [Hi]; · iexact Hi
    isplitl [Hd]; · iexact Hd
    iexact Hv
  iintro HF
  iapply Hk
  isplitl [HO]; · iexact HO
  isplitl [H1]; · iexact H1
  isplitl [H2]; · iexact H2
  isplitl [Hst]; · iexact Hst
  isplitl [H3]; · iexact H3
  isplitl [Hot]; · iexact Hot
  isplitl [HF Hfl]
  · iapply (put_last hw _)
    isplitl [HF]
    · iapply (Entails.of_eq (hfly)); iexact HF
    iexact Hfl
  isplitl [Hsm]; · iexact Hsm
  iexact Hrest

theorem ownWait (s : Cnt) {sp sp' : Space} {t t' : Shape} {e e' : EltTy} {srcw : Memref sig .tc sp t e} {dst : Memref sig .tc sp' t' e'}
    {sem : DmaSem sig} (hsem : sem = dq (44 + s.ow % 4)) (hN : dst.view.dmaCredit = amtK s.ow) {hsrc hdst}
    {k : PUnit → Prog (TpuEff nD τ sig (Elt F) Λ₀ .tc) α} {Q : α → sProp 𝕄}
    (hw : s.ow < s.od) (hf : s.od ≤ s.ow + 4) (hf' : s.os ≤ s.ow + 4) (h : St X K c { s with ow := s.ow + 1 } ⊢ WP c (k ⟨⟩) Q) :
    St X K c s ⊢ WP c (.op (.waitDma2 sem srcw dst hsrc hdst) k) Q := by
  subst hsem
  refine on_OWN X K c s h ?_
  unfold OWN
  iintro ⟨#HR, HO, H1, H2, Hst, H3, Hot, Hfl, Hsm, Hdn⟩ Hk
  ihave Hfl := (take_first hw _) $$ Hfl
  icases Hfl with ⟨HF, Hfl⟩
  unfold ownFly
  iapply (wait_local X K c (amtK s.ow) (s.g + s.n) hN (low _ _ (by
    have : s.ow % 4 < 4 := Nat.mod_lt _ (by decide)
    interval_cases s.ow % 4 <;> rfl))) $$ [HF HO]
  · isplitl [HF]; · iexact HF
    isplitl [HO]; · iexact HO
    iexact HR
  iintro ⟨⟨HD, Hi⟩, Hv, HO⟩
  iapply Hk
  isplitl [HO]; · iexact HO
  have hsm : ownSem (F := F) c (s.ow + 4) = semVal ((c : Thread nD τ), .dma (dq (44 + s.ow % 4))) 0 := by
    unfold ownSem; rw [show (s.ow + 4) % 4 = s.ow % 4 by omega]
  have hrot : (rotL c ↦[rs S4x704x1024 0 (s.ow % 4) 1]{fullShare} (rotC X c s.ow : Buf (Elt F) (rotL c)) : sProp 𝕄) ⊢ rotAny (F := F) c (s.ow + 4) := by
    unfold rotAny
    rw [show (s.ow + 4) % 4 = s.ow % 4 by omega]
    iintro H; iexists _; iexact H
  have hdn1 (hk : s.ow < 16) : outP X c (orow c s.ow) (cntK s.ow) ⊢ ownDone X c s.ow := by
    unfold ownDone; rw [if_pos hk]; iintro H; isplitl [H]; · iexact H
    iempintro
  have hdn2 (hk : ¬ s.ow < 16) : iprop(outP X c (orow c s.ow) (cntK s.ow) ∗ staged X c s.ow) ⊢ ownDone X c s.ow := by
    unfold ownDone; rw [if_neg hk, staged_rem X c (by omega)]
  by_cases hk : s.ow < 16
  · rw [Nat.min_eq_left (show s.ow ≤ 16 by omega), Nat.min_eq_left (show s.ow + 1 ≤ 16 by omega), show s.ow + 1 + 4 = s.ow + 4 + 1 by omega]
    ihave Hi := (Entails.of_eq (staged_rot X c hk)) $$ Hi
    isplitl [H1 Hi]
    · iapply (put_last (show min s.os 16 ≤ s.ow + 4 by omega) _)
      isplitl [Hi]
      · iapply hrot; iexact Hi
      iexact H1
    isplitl [H2]; · iexact H2
    isplitl [Hst]; · iexact Hst
    isplitl [H3]; · iexact H3
    isplitl [Hot]; · iexact Hot
    isplitl [Hfl]; · iexact Hfl
    isplitl [Hsm Hv]
    · iapply (put_last hf _)
      isplitl [Hv]; · rw [hsm]; iexact Hv
      iexact Hsm
    iapply (put_last (Nat.zero_le _) _)
    isplitl [HD]
    · iapply (hdn1 hk); iexact HD
    iexact Hdn
  · rw [Nat.min_eq_right (show 16 ≤ s.ow by omega), Nat.min_eq_right (show 16 ≤ s.ow + 1 by omega), show s.ow + 1 + 4 = s.ow + 4 + 1 by omega]
    isplitl [H1]; · iexact H1
    isplitl [H2]; · iexact H2
    isplitl [Hst]; · iexact Hst
    isplitl [H3]; · iexact H3
    isplitl [Hot]; · iexact Hot
    isplitl [Hfl]; · iexact Hfl
    isplitl [Hsm Hv]
    · iapply (put_last hf _)
      isplitl [Hv]; · rw [hsm]; iexact Hv
      iexact Hsm
    iapply (put_last (Nat.zero_le _) _)
    isplitl [HD Hi]
    · iapply (hdn2 hk)
      isplitl [HD]; · iexact HD
      iexact Hi
    iexact Hdn

end Steps

end Cert.KernelIdealGather

end
-- ==== Proof.KernelIdeal.StepsC.lean ====
/-
# One effect at a time: the barrier, the transfers between devices, the pieces' way into the result
-/
module

public import proofs.«01_k».proof.Proof.KernelIdeal.StepsB

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Steps
variable (X : Dev nD → S16384x1024.Idx → Elt F .f32) (K : Dev nD × Fin 35 → ℕ) (c : Dev nD)
variable {α : Type}

/-! ## The barrier -/

theorem barSignal (s : Cnt) (hg : s.g < 3) (hn : s.n = 0) {tgt : Dev nD} (ht : tgt = toward c s.g) {kk : ℕ} (hk : kk = 1)
    {k : PUnit → Prog (TpuEff nD τ sig (Elt F) Λ₀ .tc) α} {Q : α → sProp 𝕄} (h : St X K c { s with g := s.g + 1 } ⊢ WP c (k ⟨⟩) Q) :
    St X K c s ⊢ WP c (.op (.semSignal (tgt : Thread nD τ) barS kk) k) Q := by
  subst ht hk
  unfold St at h ⊢
  rw [hn, add_zero]
  simp only [hn, add_zero] at h
  unfold BAR at h ⊢
  have hi : (Fin.ofNat 3 s.g).val = s.g := Nat.mod_eq_of_lt hg
  have hd : Fin.ofNat 3 s.g ∈ (Rd X).duties ((toward c s.g : Thread nD τ), .reg barS) 0 := by
    have := duties_bar X (toward c s.g)
    unfold barCell at this
    rw [this]; exact Finset.mem_univ _
  iintro ⟨#HR, ⟨%W, HO⟩, HL, HI, ⟨HG, HB⟩, Hrest⟩
  ihave HG := (take_first hg _) $$ HG
  icases HG with ⟨Hg, HG⟩
  unfold give
  icases Hg with ⟨Ht, Hp⟩
  iapply (Rounds.wp_signal 𝒱₀ ER (Rd X) (c : Thread nD τ) none (dst := (toward c s.g : Thread nD τ)) (κ := K (toward c s.g, 0)) (r := 0) (d := Fin.ofNat 3 s.g)
    hd rfl () (owed c (s.g + 1)) ((owed_step c (n := s.g) (by omega)).trans (by
      show _ + tallyAt (pCell c s.g) () (pAmt s.g) = _
      unfold pCell pAmt pDir pSem
      rw [if_pos hg, if_pos hg, if_pos hg]; rfl))) $$ [HO Ht Hp]
  · isplitr; · iapply (invBar_at X K (toward c s.g)); iexact HR
    isplitl [HO]; · iexact HO
    isplitl [Ht]; · iexact Ht
    isplitl [Hp]; · iapply (Entails.of_eq (show barPay (F := F) (toward c s.g) (Fin.ofNat 3 s.g) = (Rd X).payload ((toward c s.g : Thread nD τ), .reg barS) 0 (Fin.ofNat 3 s.g) from rfl)); iexact Hp
    iapply (reachedBar_at X K (toward c s.g)); iexact HR
  iintro HO
  iapply h
  isplitr; · iexact HR
  isplitl [HO]; · iexists W; iexact HO
  isplitl [HL]; · iexact HL
  isplitl [HI]; · iexact HI
  isplitl [HG HB]
  · isplitl [HG]; · iexact HG
    iexact HB
  iexact Hrest

/-- What the barrier's three duties hand over: every place the device is going to write into. -/
theorem bar_dests : iprop(barPay (F := F) c 0 ∗ barPay (F := F) c 1 ∗ barPay (F := F) c 2) ⊢ bigSep (Finset.Ico 0 17) (sndDst (F := F) c) := by
  simp only [bigSep_Ico_succ_bot (show 0 < 17 by decide), bigSep_Ico_succ_bot (show 1 < 17 by decide), bigSep_Ico_succ_bot (show 2 < 17 by decide),
    bigSep_Ico_succ_bot (show 3 < 17 by decide), bigSep_Ico_succ_bot (show 4 < 17 by decide), bigSep_Ico_succ_bot (show 5 < 17 by decide),
    bigSep_Ico_succ_bot (show 6 < 17 by decide), bigSep_Ico_succ_bot (show 7 < 17 by decide), bigSep_Ico_succ_bot (show 8 < 17 by decide),
    bigSep_Ico_succ_bot (show 9 < 17 by decide), bigSep_Ico_succ_bot (show 10 < 17 by decide), bigSep_Ico_succ_bot (show 11 < 17 by decide),
    bigSep_Ico_succ_bot (show 12 < 17 by decide), bigSep_Ico_succ_bot (show 13 < 17 by decide), bigSep_Ico_succ_bot (show 14 < 17 by decide),
    bigSep_Ico_succ_bot (show 15 < 17 by decide), bigSep_Ico_succ_bot (show 16 < 17 by decide), Nat.reduceAdd, Finset.Ico_self, bigSep_empty]
  show iprop((ringAny (F := F) (partner c) 0 0 ∗ ringAny (F := F) (partner c) 0 1 ∗ outAny (F := F) (partner c) (orem (partner c)) 5120)
      ∗ (ringAny (F := F) (ccwd c) 1 0 ∗ ringAny (F := F) (ccwd c) 1 1 ∗ ringAny (F := F) (ccwd c) 2 0 ∗ ringAny (F := F) (ccwd c) 2 1
        ∗ ringAny (F := F) (ccwd c) 3 0 ∗ ringAny (F := F) (ccwd c) 3 1)
      ∗ (ringAny (F := F) (cwd c) 7 0 ∗ ringAny (F := F) (cwd c) 7 1 ∗ ringAny (F := F) (cwd c) 6 0 ∗ ringAny (F := F) (cwd c) 6 1
        ∗ ringAny (F := F) (cwd c) 5 0 ∗ ringAny (F := F) (cwd c) 5 1 ∗ ringAny (F := F) (cwd c) 4 0 ∗ ringAny (F := F) (cwd c) 4 1))
    ⊢ iprop(ringAny (F := F) (partner c) 0 0 ∗ ringAny (F := F) (partner c) 0 1 ∗ outAny (F := F) (partner c) (orem (partner c)) 5120
      ∗ ringAny (F := F) (cwd c) 7 0 ∗ ringAny (F := F) (ccwd c) 1 0 ∗ ringAny (F := F) (cwd c) 7 1 ∗ ringAny (F := F) (ccwd c) 1 1
      ∗ ringAny (F := F) (cwd c) 6 0 ∗ ringAny (F := F) (ccwd c) 2 0 ∗ ringAny (F := F) (cwd c) 6 1 ∗ ringAny (F := F) (ccwd c) 2 1
      ∗ ringAny (F := F) (cwd c) 5 0 ∗ ringAny (F := F) (ccwd c) 3 0 ∗ ringAny (F := F) (cwd c) 5 1 ∗ ringAny (F := F) (ccwd c) 3 1
      ∗ ringAny (F := F) (cwd c) 4 0 ∗ ringAny (F := F) (cwd c) 4 1 ∗ emp)
  iintro ⟨⟨A0, A1, A2⟩, ⟨B0, B1, B2, B3, B4, B5⟩, C0, C1, C2, C3, C4, C5, C6, C7⟩
  isplitl [A0]; · iexact A0
  isplitl [A1]; · iexact A1
  isplitl [A2]; · iexact A2
  isplitl [C0]; · iexact C0
  isplitl [B0]; · iexact B0
  isplitl [C1]; · iexact C1
  isplitl [B1]; · iexact B1
  isplitl [C2]; · iexact C2
  isplitl [B2]; · iexact B2
  isplitl [C3]; · iexact C3
  isplitl [B3]; · iexact B3
  isplitl [C4]; · iexact C4
  isplitl [B4]; · iexact B4
  isplitl [C5]; · iexact C5
  isplitl [B5]; · iexact B5
  isplitl [C6]; · iexact C6
  isplitl [C7]; · iexact C7
  iempintro

theorem barWait (s : Cnt) (hg : s.g = 3) (hb : s.b = 0) (hn : s.n = 0) (hnd : s.nd = 0) {kk : ℕ} (hk : kk = 3)
    {k : PUnit → Prog (TpuEff nD τ sig (Elt F) Λ₀ .tc) α} {Q : α → sProp 𝕄} (h : St X K c { s with b := 1, nd := 17 } ⊢ WP c (k ⟨⟩) Q) :
    St X K c s ⊢ WP c (.op (.semWait barS kk) k) Q := by
  subst hk
  unfold St at h ⊢
  unfold BAR SND at h ⊢
  rw [hb, if_pos rfl, hg, hn, hnd]
  simp only [hg, hn, if_neg one_ne_zero] at h
  iintro ⟨#HR, ⟨%W, HO⟩, HL, HI, ⟨HG, Hc, Hat⟩, ⟨H1, -, H2⟩, Hrest⟩
  iapply (Rounds.wp_wait_rest_token 𝒱₀ ER (Rd X) (c : Thread nD τ) none (κ := K (c, 0))
      (wpE_semWait_eq 𝒱₀ (c : Thread nD τ) none Set.univ) (Set.mem_univ _) () (O := owed c 3) (W := W) (R := 0) (m := 0) (T := ∅)
      (by rw [expect_bar X c])) $$ [Hc HO Hat]
  · isplitr; · iapply (invBar_at X K c); iexact HR
    isplitl [Hc]; · iexact Hc
    isplitl [HO]; · iexact HO
    isplitr; · iapply (mayWait_rec X K c (.reg barS) 3 (by decide)); iexact HR
    iexact Hat
  iintro ⟨HO, Hat, -, Hpay⟩
  ihave Hp := (Entails.of_eq (rest_bar X c)) $$ Hpay
  imod (Rounds.cell_close ER (Rd X) (Set.mem_univ (K (c, 0))) (fun h => h) (R := 0 + 1) (duties_later X (barCell c))) $$ [Hat] with Hz
  · isplitr; · iapply (invBar_at X K c); iexact HR
    iexact Hat
  iapply h
  isplitr; · iexact HR
  isplitl [HO]; · iexists _; iexact HO
  isplitl [HL]; · iexact HL
  isplitl [HI]; · iexact HI
  isplitl [HG Hz]
  · isplitl [HG]; · iexact HG
    iexact Hz
  isplitr [Hrest]
  · isplitl [H1]; · iexact H1
    isplitl [Hp]; · iapply (bar_dests c); iexact Hp
    iexact H2
  iexact Hrest

/-! ## Sending -/

theorem sS_range {n : ℕ} (h : n < 17) : 2 ≤ sS n ∧ sS n < 36 := (show ∀ n : Fin 17, 2 ≤ sS n.val ∧ sS n.val < 36 by decide) ⟨n, h⟩
theorem sR_range {n : ℕ} (h : n < 17) : 2 ≤ sR n ∧ sR n < 36 := (show ∀ n : Fin 17, 2 ≤ sR n.val ∧ sR n.val < 36 by decide) ⟨n, h⟩
theorem rS_range {n : ℕ} (h : n < 17) : 2 ≤ rS n ∧ rS n < 36 := (show ∀ n : Fin 17, 2 ≤ rS n.val ∧ rS n.val < 36 by decide) ⟨n, h⟩
theorem amt_same {n : ℕ} (h : n < 17) : amtq (sS n) = amtq (sR n) := by
  unfold amtq
  exact if_congr ((show ∀ n : Fin 17, (sS n.val = 6 ∨ sS n.val = 7) ↔ (sR n.val = 6 ∨ sR n.val = 7) by decide) ⟨n, h⟩) rfl rfl
theorem sS_low {n : ℕ} (h : n < 17) : lvq (sS n) = 0 := (show ∀ n : Fin 17, lvq (sS n.val) = 0 by decide) ⟨n, h⟩
theorem low' {q : ℕ} (n : ℕ) (h : lvq q = 0) : ∀ i : Fin 20, n ≤ i.val → lvq q < lvs (pSem i.val) := by
  intro i _
  rw [h]
  exact (show ∀ i : Fin 20, 0 < lvs (pSem i.val) by decide) i

/-- The next transfer between devices, from a source that is in place into a destination that was handed over. -/
theorem sendNext (s : Cnt) {sp sp' : Space} {t : Shape} {e : EltTy} {src : Memref sig .tc sp t e}
    (tgt : Dev nD) (ht : tgt = toward c (sDir s.n)) {dst : Memref sig (Dev.tc tgt : Thread nD τ).2.kind sp' t e}
    {qs qr : DmaSem sig} (hqs : qs = dq (sS s.n)) (hqr : qr = dq (sR s.n))
    {hsc : dst.view.ref.isScScratch = false} {hsrc : src.view.WordExact} {hdst : dst.view.WordExact}
    {hsem : DmaTarget.Typed sp (.dma qr) (.remote (Dev.tc tgt : Thread nD τ) dst (.dma qs) hsc)}
    {k : PUnit → Prog (TpuEff nD τ sig (Elt F) Λ₀ .tc) α} {Q : α → sProp 𝕄} {q : PosShare TreeShare}
    {Ss : Finset (Idx (src.view.loc (c : Thread nD τ)))} {Sd : Finset (Idx (dst.view.loc (tgt : Thread nD τ)))}
    (fs : Buf (Elt F) (src.view.loc (c : Thread nD τ))) (C : Buf (Elt F) (dst.view.loc (tgt : Thread nD τ)))
    (hN : dst.view.dmaCredit = amtq (sR s.n)) (hs : src.view.set = Ss) (hd : dst.view.set = Sd)
    (hC : ∀ x, src.view.read (Elt F) fs x = dst.view.read (Elt F) C x)
    (hp1 : (src.view.loc (c : Thread nD τ) ↦[Ss]{q} fs) = dmaPay X c (sS s.n))
    (hp2 : (dst.view.loc (tgt : Thread nD τ) ↦[Sd]{fullShare} C) = dmaPay X tgt (sR s.n))
    (hp3 : dstAny (F := F) tgt (sR s.n) = (iprop(∃ fd, dst.view.loc (tgt : Thread nD τ) ↦[Sd]{fullShare} fd) : sProp 𝕄))
    (hn : s.n < 17) (hg : s.g = 3) (hsb : s.n < s.sb) (hnd : s.n < s.nd) (ha : s.a ≤ s.n)
    (h : St X K c { s with n := s.n + 1 } ⊢ WP c (k ⟨⟩) Q) :
    St X K c s ⊢ WP c (.op (.enqueueDma src (.remote (Dev.tc tgt : Thread nD τ) dst (.dma qs) hsc) (.dma qr) hsrc hdst hsem) k) Q := by
  refine on_SND X K c s h ?_
  rw [hg]
  unfold SND
  iintro ⟨#HR, HO, HI, H1, H2, H3, H4, Hrest⟩ Hk
  ihave H1 := (take_first hn _) $$ H1
  icases H1 with ⟨Htok, H1⟩
  ihave H2 := (take_first hnd _) $$ H2
  icases H2 with ⟨Hdst, H2⟩
  ihave H3 := (take_first hsb _) $$ H3
  icases H3 with ⟨Hsrc, H3⟩
  have hdd : sndDst (F := F) c s.n ⊢ (iprop(∃ fd, dst.view.loc (tgt : Thread nD τ) ↦[Sd]{fullShare} fd) : sProp 𝕄) := by
    unfold sndDst; rw [← ht]; exact Entails.of_eq hp3
  ihave Hdst := hdd $$ Hdst
  unfold sndTok sndSrc
  icases Htok with ⟨Ht1, Ht2⟩
  iapply (send_remote X K c s.n (sS_range hn) (sR_range hn) hn tgt ht hqs hqr fs C hN (amt_same hn) hs hd hC hp1 hp2) $$ [HO Hdst Hsrc Ht1 Ht2]
  · isplitr; · iexact HR
    isplitl [Hsrc]; · iexact Hsrc
    isplitl [Hdst]; · iexact Hdst
    isplitl [HO]; · iexact HO
    isplitl [Ht1]; · iexact Ht1
    iexact Ht2
  iintro ⟨Hc, HO⟩
  iapply Hk
  isplitl [HO]; · iexact HO
  isplitl [HI]; · iexact HI
  isplitl [H1]; · iexact H1
  isplitl [H2]; · iexact H2
  isplitl [H3]; · iexact H3
  isplitl [H4 Hc]
  · iapply (put_last ha _)
    isplitl [Hc]; · unfold sndCred; iexact Hc
    iexact H4
  iexact Hrest

theorem ringN_group (d : Dev nD) (hd : grp d = grp c) (r j : ℕ) : ringN X d r j = ringN X c r j := by unfold ringN; rw [hd]

/-- A half-piece of the ring passed on. -/
theorem sendStream (s : Cnt) (δ δ' : Fin 8) (j : ℕ) (q : PosShare TreeShare) {tgt : Dev nD} (ht : tgt = toward c (sDir s.n)) (hgr : grp tgt = grp c) (hrow : prow tgt δ' j = prow c δ j)
    {o1 o2 : Fin 2 → ℕ} (h1 : o1 = ![prow c δ j, 0]) (h2 : o2 = ![prow c δ j, 0])
    {inb1 : ∀ i, o1 i + (![704, 1024] : Fin 2 → ℕ) i ≤ S11264x1024.size i} {inb2 : ∀ i, o2 i + (![704, 1024] : Fin 2 → ℕ) i ≤ S11264x1024.size i}
    {qs qr : DmaSem sig} (hqs : qs = dq (sS s.n)) (hqr : qr = dq (sR s.n)) {hsc hsrc hdst hsem}
    {k : PUnit → Prog (TpuEff nD τ sig (Elt F) Λ₀ .tc) α} {Q : α → sProp 𝕄}
    (hN : amtq (sR s.n) = NP) (hp1 : dmaPay X c (sS s.n) = ringP X c δ j q) (hp2 : dmaPay X tgt (sR s.n) = ringP X tgt δ' j fullShare)
    (hp3 : dstAny (F := F) tgt (sR s.n) = ringAny (F := F) tgt δ' j)
    (hn : s.n < 17) (hg : s.g = 3) (hsb : s.n < s.sb) (hnd : s.n < s.nd) (ha : s.a ≤ s.n)
    (h : St X K c { s with n := s.n + 1 } ⊢ WP c (k ⟨⟩) Q) :
    St X K c s ⊢ WP c (.op (.enqueueDma ((Memref.whole cc0_scratch0).slice (Rect.unit (s := S11264x1024) o1 ![704, 1024] inb1) (fun _ => rfl) : Memref sig .tc .vmem ⟨2, ![704, 1024]⟩ .bf16)
      (.remote (Dev.tc tgt : Thread nD τ) ((Memref.whole cc0_scratch0).slice (Rect.unit (s := S11264x1024) o2 ![704, 1024] inb2) (fun _ => rfl) : Memref sig .tc .vmem ⟨2, ![704, 1024]⟩ .bf16)
        (.dma qs) hsc) (.dma qr) hsrc hdst hsem) k) Q := by
  rw [← hrow] at h2
  refine sendNext X K c s tgt ht hqs hqr (ringC X c) (ringC X tgt) (q := q) (Eq.trans (by rfl) hN.symm) (ring_set h1 inb1) (ring_set h2 inb2)
    (fun x => ?_) hp1.symm hp2.symm hp3 hn hg hsb hnd ha h
  rw [ring_read X h1 inb1 c x, ← hrow, ← ringN_group X c tgt hgr]
  exact (ring_read X h2 inb2 tgt x).symm

theorem ringN_own (x0 j : ℕ) (jj : ℕ) (hj : j < 2) (hx : x0 < 704) :
    tat X c (1408 * (pos c).val + (704 * j + x0)) jj = ringN X (partner c) (prow (partner c) 0 j + x0) jj := by
  have hp : (pos c).val < 8 := (pos c).isLt
  have hg := grp_lt c
  unfold ringN
  rw [prow_partner, grp_partner, show 1 - (1 - grp c) = grp c by omega]
  unfold prow
  rw [(show ∀ p : Fin 8, p + 0 = p by decide) (pos c),
    show (1408 * (pos c).val + 704 * j + x0) / 1408 = (pos c).val by omega, devAt_self, add_assoc]

/-- A half of the staged piece sent to the partner. -/
theorem sendInj (s : Cnt) (hn2 : s.n < 2) {tgt : Dev nD} (ht : tgt = partner c)
    {o1 o2 : Fin 2 → ℕ} (h1 : o1 = ![704 * s.n, 0]) (h2 : o2 = ![prow c 0 s.n, 0])
    {inb1 : ∀ i, o1 i + (![704, 1024] : Fin 2 → ℕ) i ≤ S1408x1024.size i} {inb2 : ∀ i, o2 i + (![704, 1024] : Fin 2 → ℕ) i ≤ S11264x1024.size i}
    {qs qr : DmaSem sig} (hqs : qs = dq (sS s.n)) (hqr : qr = dq (sR s.n)) {hsc hsrc hdst hsem}
    {k : PUnit → Prog (TpuEff nD τ sig (Elt F) Λ₀ .tc) α} {Q : α → sProp 𝕄}
    (hg : s.g = 3) (hsb : s.n < s.sb) (hnd : s.n < s.nd) (ha : s.a ≤ s.n)
    (h : St X K c { s with n := s.n + 1 } ⊢ WP c (k ⟨⟩) Q) :
    St X K c s ⊢ WP c (.op (.enqueueDma ((Memref.whole cc0_scratch1).slice (Rect.unit (s := S1408x1024) o1 ![704, 1024] inb1) (fun _ => rfl) : Memref sig .tc .vmem ⟨2, ![704, 1024]⟩ .bf16)
      (.remote (Dev.tc tgt : Thread nD τ) ((Memref.whole cc0_scratch0).slice (Rect.unit (s := S11264x1024) o2 ![704, 1024] inb2) (fun _ => rfl) : Memref sig .tc .vmem ⟨2, ![704, 1024]⟩ .bf16)
        (.dma qs) hsc) (.dma qr) hsrc hdst hsem) k) Q := by
  subst ht
  rw [← prow_partner] at h2
  have hcase : s.n = 0 ∨ s.n = 1 := by omega
  have e1 : amtq (sR s.n) = NP := by obtain e | e := hcase <;> rw [e] <;> rfl
  have e2 : partner c = toward c (sDir s.n) := by obtain e | e := hcase <;> rw [e] <;> rfl
  have e3 : dmaPay X c (sS s.n) = injP X c s.n := by obtain e | e := hcase <;> rw [e] <;> rfl
  have e4 : dmaPay X (partner c) (sR s.n) = ringP X (partner c) 0 s.n fullShare := by obtain e | e := hcase <;> rw [e] <;> rfl
  have e5 : dstAny (F := F) (partner c) (sR s.n) = ringAny (F := F) (partner c) 0 s.n := by obtain e | e := hcase <;> rw [e] <;> rfl
  refine sendNext X K c s (partner c) e2 hqs hqr (injC X c) (ringC X (partner c)) (q := fullShare) (Eq.trans (by rfl) e1.symm) (inj_set h1 inb1) (ring_set h2 inb2)
    (fun x => ?_) e3.symm e4.symm e5 (by omega) hg hsb hnd ha h
  rw [inj_read X h1 inb1 c x]
  exact (ringN_own X c _ _ _ hn2 (x 0).isLt).trans (ring_read X h2 inb2 (partner c) x).symm

/-! ## Waiting for a transfer sent -/

theorem sendWait (s : Cnt) {sp sp' : Space} {t t' : Shape} {e e' : EltTy} {srcw : Memref sig .tc sp t e} {dst : Memref sig .tc sp' t' e'}
    {sem : DmaSem sig} (hsem : sem = dq (sS s.a)) (hN : dst.view.dmaCredit = amtq (sS s.a)) {hsrc hdst}
    {k : PUnit → Prog (TpuEff nD τ sig (Elt F) Λ₀ .tc) α} {Q : α → sProp 𝕄} (ha : s.a < s.n) (ha' : s.a < 17)
    (h : St X K c { s with a := s.a + 1 } ⊢ WP c (k ⟨⟩) Q) :
    St X K c s ⊢ WP c (.op (.waitDma2 sem srcw dst hsrc hdst) k) Q := by
  refine on_SND X K c s h ?_
  unfold SND
  iintro ⟨#HR, HO, HI, H1, H2, H3, H4, H5, H6⟩ Hk
  ihave H4 := (take_first ha _) $$ H4
  icases H4 with ⟨Hc, H4⟩
  ihave H5 := (take_first ha' _) $$ H5
  icases H5 with ⟨Hat, H5⟩
  unfold sndCred sndPos
  iapply (wait_cell X K c (sS s.a) (sS_range ha') hsem (s.g + s.n) hN (low' _ (sS_low ha'))) $$ [HO Hc Hat]
  · isplitr; · iexact HR
    isplitl [Hc]; · iexact Hc
    isplitl [Hat]; · iexact Hat
    iexact HO
  iintro ⟨Hp, Hz, HO⟩
  iapply Hk
  isplitl [HO]; · iexact HO
  isplitl [HI]; · iexact HI
  isplitl [H1]; · iexact H1
  isplitl [H2]; · iexact H2
  isplitl [H3]; · iexact H3
  isplitl [H4]; · iexact H4
  isplitl [H5]; · iexact H5
  iapply (put_last (Nat.zero_le _) _)
  isplitl [Hp Hz]
  · unfold sndDone
    isplitl [Hz]; · iexact Hz
    iexact Hp
  iexact H6

end Steps

end Cert.KernelIdealGather

end
-- ==== Proof.KernelIdeal.StepsD.lean ====
/-
# One effect at a time: receiving, the rest's transfer, the ring pieces' way into the result
-/
module

public import proofs.«01_k».proof.Proof.KernelIdeal.StepsC

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Consecutive runs of rows make one run. -/
theorem rs_chain {s : Shape} {a₀ : Fin s.rank} (B : ℕ → ℕ) (hB : Monotone B) {a b : ℕ} (hab : a ≤ b) :
    (Finset.Ico a b).biUnion (fun k => rs s a₀ (B k) (B (k + 1) - B k)) = rs s a₀ (B a) (B b - B a) := by
  induction b, hab using Nat.le_induction with
  | base => rw [Finset.Ico_self, Finset.biUnion_empty]; ext i; rw [mem_rs]; simp
  | succ n hn ih =>
    have h1 := hB hn
    have h2 : B n ≤ B (n + 1) := hB (Nat.le_succ n)
    rw [Nat.Ico_succ_right_eq_insert_Ico hn, Finset.biUnion_insert, ih]
    ext i
    rw [Finset.mem_union, mem_rs, mem_rs, mem_rs]
    omega
theorem rs_chain_disjoint {s : Shape} {a₀ : Fin s.rank} (B : ℕ → ℕ) (hB : Monotone B) (S : Finset ℕ) :
    ∀ t ∈ S, ∀ t' ∈ S, t ≠ t' → Disjoint (rs s a₀ (B t) (B (t + 1) - B t)) (rs s a₀ (B t') (B (t' + 1) - B t')) := by
  intro t _ t' _ hne
  have h1 : B t ≤ B (t + 1) := hB (Nat.le_succ t)
  have h2 : B t' ≤ B (t' + 1) := hB (Nat.le_succ t')
  refine rs_disjoint ?_
  rcases Nat.lt_or_gt_of_ne hne with h | h
  · left; have := hB (show t + 1 ≤ t' from h); omega
  · right; have := hB (show t' + 1 ≤ t from h); omega

/-- Where chunk `k` of the own half starts. -/
def Bk (k : ℕ) : ℕ := if k ≤ 23 then 704 * k else 16384
theorem Bk_mono : Monotone Bk := monotone_nat_of_le_succ fun n => by unfold Bk; split <;> split <;> omega
theorem Bk_step {k : ℕ} (h : k < 24) : Bk k = 704 * k ∧ Bk (k + 1) - Bk k = cntK k := by
  unfold Bk cntK; (repeat' split) <;> omega

section Steps
variable (X : Dev nD → S16384x1024.Idx → Elt F .f32) (K : Dev nD × Fin 35 → ℕ) (c : Dev nD)
variable {α : Type}

/-- Where chunk `k` starts among the rows beyond the ring's. -/
def Br (k : ℕ) : ℕ := Bk k - 11264
theorem Br_mono : Monotone Br := fun a b h => Nat.sub_le_sub_right (Bk_mono h) _
theorem Br_step {k : ℕ} (h : 16 ≤ k) (h' : k < 24) : Br k = 704 * (k - 16) ∧ Br (k + 1) - Br k = cntK k := by
  have h1 := Bk_step h'
  have h2 := Bk_mono (Nat.le_succ k)
  unfold Br; omega

/-- The chunks beyond the ring's rows are those rows. -/
theorem rem_chain (q : PosShare TreeShare) :
    bigSep (Finset.Ico 16 24) (fun k => remP X c (704 * (k - 16)) (cntK k) q) = remP X c 0 5120 q := by
  rw [show bigSep (Finset.Ico 16 24) (fun k => remP X c (704 * (k - 16)) (cntK k) q)
      = bigSep (Finset.Ico 16 24) (fun k => remP X c (Br k) (Br (k + 1) - Br k) q) from
    bigSep_congr fun k hk => by rw [Finset.mem_Ico] at hk; obtain ⟨e1, e2⟩ := Br_step hk.1 hk.2; rw [e2, e1]]
  unfold remP
  refine (pointsTo_biUnion (ℓ := remL c) (q := q) (f := (remC X c : Buf (Elt F) (remL c))) (Finset.Ico 16 24)
    (fun k => (rs S5120x1024 0 (Br k) (Br (k + 1) - Br k) : Finset (Idx (remL c)))) (rs_chain_disjoint (s := S5120x1024) (a₀ := 0) Br Br_mono _)).symm.trans ?_
  have := rs_chain (s := S5120x1024) (a₀ := 0) Br Br_mono (show 16 ≤ 24 by decide)
  exact congrArg (fun S : Finset (Idx (remL c)) => (remL c ↦[S]{q} (remC X c : Buf (Elt F) (remL c)) : sProp 𝕄)) this

/-- Once all chunks are staged, the rest is ready to go. -/
theorem remReady (s : Cnt) (hn : s.n ≤ 2) (hsb : s.sb = 2) (hos : s.os = 24) (hra : s.ra = 16) :
    St X K c s ⊢ St X K c { s with sb := 3, ra := 24 } := by
  unfold St
  rw [hos, hra, hsb]
  unfold OWN SND
  iintro ⟨HR, HO, HL, HI, HB, ⟨A1, A2, A3, A4⟩, ⟨B1, B2, B3, B4, B5⟩, HC⟩
  isplitl [HR]; · iexact HR
  isplitl [HO]; · iexact HO
  isplitl [HL]; · iexact HL
  isplitl [HI]; · iexact HI
  isplitl [HB]; · iexact HB
  isplitl [A1 A2 A3 A4 B4]
  · isplitl [A1]; · iexact A1
    isplitl [A2]; · iexact A2
    isplitl [A3 B4]
    · iapply (put_last hn _)
      isplitl [B4]
      · iapply (Entails.of_eq ((rem_chain X c fullShare.right).trans (show remP X c 0 5120 fullShare.right = sndSrc X c 2 from rfl)))
        iexact B4
      iexact A3
    iexact A4
  isplitr [HC]
  · isplitl [B1]; · iexact B1
    isplitl [B2]; · iexact B2
    isplitl [B3]; · iexact B3
    isplitr [B5]
    · rw [Finset.Ico_self, bigSep_empty]; iempintro
    iexact B5
  iexact HC

theorem outN_rem (r j : ℕ) (hr : r < 5120) : outN X c (orem c + r) j = tat X (partner c) (11264 + r) j := by
  have hg := grp_lt c
  unfold outN orem
  rw [if_neg (show ¬ (16384 * (1 - grp c) + 11264 + r) / 16384 = grp c by omega),
    show (16384 * (1 - grp c) + 11264 + r) % 16384 = 11264 + r by omega, if_neg (by omega)]

theorem outN_ring (r j : ℕ) (hr : r < 11264) : outN X c (16384 * (1 - grp c) + r) j = ringN X c r j := by
  have hg := grp_lt c
  unfold outN ringN
  rw [if_neg (show ¬ (16384 * (1 - grp c) + r) / 16384 = grp c by omega),
    show (16384 * (1 - grp c) + r) % 16384 = r by omega, if_pos hr]

/-- The rest sent to the partner. -/
theorem sendRem (s : Cnt) (hn2 : s.n = 2) {tgt : Dev nD} (ht : tgt = partner c)
    {o2 : Fin 2 → ℕ} (h2 : o2 = ![16384 * grp c + 11264, 0])
    {inb2 : ∀ i, o2 i + (![5120, 1024] : Fin 2 → ℕ) i ≤ S32768x1024.size i}
    {qs qr : DmaSem sig} (hqs : qs = dq 6) (hqr : qr = dq 7) {hsc hsrc hdst hsem}
    {k : PUnit → Prog (TpuEff nD τ sig (Elt F) Λ₀ .tc) α} {Q : α → sProp 𝕄}
    (hg : s.g = 3) (hsb : s.n < s.sb) (hnd : s.n < s.nd) (ha : s.a ≤ s.n)
    (h : St X K c { s with n := 3 } ⊢ WP c (k ⟨⟩) Q) :
    St X K c s ⊢ WP c (.op (.enqueueDma (Memref.whole cc0_scratch2 : Memref sig .tc .vmem S5120x1024 .bf16)
      (.remote (Dev.tc tgt : Thread nD τ) ((Memref.whole main_v1).slice (Rect.unit (s := S32768x1024) o2 ![5120, 1024] inb2) (fun _ => rfl) : Memref sig .tc .hbm ⟨2, ![5120, 1024]⟩ .bf16)
        (.dma qs) hsc) (.dma qr) hsrc hdst hsem) k) Q := by
  subst ht
  have hor : 16384 * grp c + 11264 = orem (partner c) := by
    have hg := grp_lt c
    unfold orem; rw [grp_partner, show 1 - (1 - grp c) = grp c by omega]
  rw [hor] at h2
  have e1 : amtq (sR s.n) = NR := by rw [hn2]; rfl
  have e2 : partner c = toward c (sDir s.n) := by rw [hn2]; rfl
  have e3 : dmaPay X c (sS s.n) = remP X c 0 5120 fullShare.right := by rw [hn2]; rfl
  have e4 : dmaPay X (partner c) (sR s.n) = outP X (partner c) (orem (partner c)) 5120 := by rw [hn2]; rfl
  have e5 : dstAny (F := F) (partner c) (sR s.n) = outAny (F := F) (partner c) (orem (partner c)) 5120 := by rw [hn2]; rfl
  have h' : St X K c { s with n := s.n + 1 } ⊢ WP c (k ⟨⟩) Q := by rw [hn2]; exact h
  have hw : (Memref.whole cc0_scratch2 : Memref sig .tc .vmem S5120x1024 .bf16).view.set = (rs S5120x1024 0 0 5120 : Finset S5120x1024.Idx) :=
    (View.set_whole cc0_scratch2).trans (rs_full (s := S5120x1024) (a₀ := 0) le_rfl).symm
  refine sendNext X K c s (partner c) e2 (hqs.trans (by rw [hn2]; rfl)) (hqr.trans (by rw [hn2]; rfl)) (remC X c) (outC X (partner c)) (q := fullShare.right)
    (Eq.trans (by rfl) e1.symm) hw (out_set h2 inb2)
    (fun x => ?_) e3.symm e4.symm e5 (by omega) hg hsb hnd ha h'
  refine Eq.trans ?_ (out_read X h2 inb2 (partner c) x).symm
  rw [outN_rem X (partner c) _ _ (x 0).isLt, partner_partner]
  rfl

theorem wait_amt {q N : ℕ} (h : ¬ (q = 6 ∨ q = 7)) (hN : N = NP) : N = amtq q := hN.trans (if_neg h).symm

/-! ## Receiving -/

theorem ring_shares (δ : Fin 8) (j : ℕ) : ringP X c δ j fullShare ⊣⊢ iprop(ringP X c δ j qA ∗ ringP X c δ j qB ∗ ringP X c δ j qD) := by
  unfold ringP
  have h1 := pointsTo_share (Ix := Unit) (Lvl := ℕ) (Name := ℕ) (U := UU) (nD := nD) (τ := τ) (sig := sig) (Val := Elt F) (ℓ := ringL c) (I := rs S11264x1024 0 (prow c δ j) 704) (f := (ringC X c : Buf (Elt F) (ringL c)))
    (PosShare.mem_left_op_right fullShare)
  have h2 := pointsTo_share (Ix := Unit) (Lvl := ℕ) (Name := ℕ) (U := UU) (nD := nD) (τ := τ) (sig := sig) (Val := Elt F) (ℓ := ringL c) (I := rs S11264x1024 0 (prow c δ j) 704) (f := (ringC X c : Buf (Elt F) (ringL c)))
    (PosShare.mem_left_op_right fullShare.right)
  exact ⟨h1.1.trans (sep_mono_right h2.1), (sep_mono_right h2.2).trans h1.2⟩

theorem rS_pay (p : ℕ) (hp : p < 16) : dmaPay X c (rS p) = ringP X c (pD p) (pJ p) fullShare := by
  interval_cases p <;> rfl

/-- The three shares of a received piece, sorted by what they are used for. -/
theorem recv_sorted (p : ℕ) (hp : p < 16) :
    iprop(ringP X c (pD p) (pJ p) qA ∗ ringP X c (pD p) (pJ p) qB ∗ ringP X c (pD p) (pJ p) qD)
      ⊣⊢ iprop(left X c p ∗ prest X c p ∗ bigSep (Finset.Ico (srcs p) (srcs (p + 1))) (sndSrc X c)) := by
  unfold left prest
  rcases Nat.lt_or_ge p 2 with h2 | h2
  · rw [if_pos h2]
    have e : bigSep (Finset.Ico (srcs p) (srcs (p + 1))) (sndSrc X c) = iprop(ringP X c (pD p) (pJ p) qA ∗ ringP X c (pD p) (pJ p) qB) := by
      have h : srcs (p + 1) = srcs p + 2 := by interval_cases p <;> rfl
      rw [h, bigSep_Ico_append (show srcs p ≤ srcs p + 1 by omega) (show srcs p + 1 ≤ srcs p + 2 by omega), bigSep_Ico_one,
        show Finset.Ico (srcs p + 1) (srcs p + 2) = Finset.Ico (srcs p + 1) (srcs p + 1 + 1) from rfl, bigSep_Ico_one]
      interval_cases p <;> rfl
    rw [e]
    constructor
    · iintro ⟨HA, HB, HD⟩
      isplitr; · iempintro
      isplitl [HD]; · iexact HD
      isplitl [HA]; · iexact HA
      iexact HB
    · iintro ⟨-, HD, HA, HB⟩
      isplitl [HA]; · iexact HA
      isplitl [HB]; · iexact HB
      iexact HD
  · rw [if_neg (by omega)]
    rcases Nat.lt_or_ge p 12 with h12 | h12
    · rw [if_pos h12]
      have h : srcs (p + 1) = srcs p + 1 := by interval_cases p <;> rfl
      by_cases hb : p = 3 ∨ p = 5 ∨ p = 7 ∨ p = 9
      · rw [if_pos hb, h, bigSep_Ico_one, show sndSrc X c (srcs p) = ringP X c (pD p) (pJ p) qB by rcases hb with rfl | rfl | rfl | rfl <;> rfl]
        constructor
        · iintro ⟨HA, HB, HD⟩
          isplitl [HA]; · iexact HA
          isplitl [HD]; · iexact HD
          iexact HB
        · iintro ⟨HA, HD, HB⟩
          isplitl [HA]; · iexact HA
          isplitl [HB]; · iexact HB
          iexact HD
      · rw [if_neg hb, h, bigSep_Ico_one, show sndSrc X c (srcs p) = ringP X c (pD p) (pJ p) qA by interval_cases p <;> first | (exact (hb (by decide)).elim) | rfl]
        constructor
        · iintro ⟨HA, HB, HD⟩
          isplitl [HB]; · iexact HB
          isplitl [HD]; · iexact HD
          iexact HA
        · iintro ⟨HB, HD, HA⟩
          isplitl [HA]; · iexact HA
          isplitl [HB]; · iexact HB
          iexact HD
    · rw [if_neg (by omega), if_pos hp, show srcs p = 17 by interval_cases p <;> rfl, show srcs (p + 1) = 17 by interval_cases p <;> rfl, Finset.Ico_self, bigSep_empty]
      constructor
      · iintro ⟨HA, HB, HD⟩
        isplitl [HA HB]
        · isplitl [HA]; · iexact HA
          iexact HB
        isplitl [HD]; · iexact HD
        iempintro
      · iintro ⟨⟨HA, HB⟩, HD, -⟩
        isplitl [HA]; · iexact HA
        isplitl [HB]; · iexact HB
        iexact HD

/-- What a received piece is used for. -/
theorem recv_split (p : ℕ) (hp : p < 16) :
    dmaPay X c (rS p) ⊢ iprop(left X c p ∗ prest X c p ∗ bigSep (Finset.Ico (srcs p) (srcs (p + 1))) (sndSrc X c)) := by
  rw [rS_pay X c p hp]
  exact (ring_shares X c (pD p) (pJ p)).1.trans (recv_sorted X c p hp).1
/-- The shares put together again. -/
theorem recv_join (p : ℕ) (hp : p < 16) :
    iprop(left X c p ∗ prest X c p ∗ bigSep (Finset.Ico (srcs p) (srcs (p + 1))) (sndSrc X c)) ⊢ ringP X c (pD p) (pJ p) fullShare :=
  (recv_sorted X c p hp).2.trans (ring_shares X c (pD p) (pJ p)).2

/-- A half-piece of the ring received. -/
theorem recvStep (s : Cnt) {sp sp' : Space} {t t' : Shape} {e e' : EltTy} {srcw : Memref sig .tc sp t e} {dst : Memref sig .tc sp' t' e'}
    {sem : DmaSem sig} (hsem : sem = dq (rS s.r)) (hN : dst.view.dmaCredit = amtq (rS s.r)) {hsrc hdst}
    {k : PUnit → Prog (TpuEff nD τ sig (Elt F) Λ₀ .tc) α} {Q : α → sProp 𝕄} (hr : s.r < 16) (hsb : s.sb = srcs s.r) (hn : s.n ≤ s.sb) (hd : s.rd ≤ s.r)
    (hlt : ∀ i : Fin 20, s.g + s.n ≤ i.val → lvq (rS s.r) < lvs (pSem i.val))
    (h : St X K c { s with r := s.r + 1, sb := srcs (s.r + 1) } ⊢ WP c (k ⟨⟩) Q) :
    St X K c s ⊢ WP c (.op (.waitDma2 sem srcw dst hsrc hdst) k) Q := by
  have hmono : srcs s.r ≤ srcs (s.r + 1) := by
    have := hr
    generalize s.r = p at this
    interval_cases p <;> decide
  unfold St at h ⊢
  rw [hsb] at hn ⊢
  unfold RCV SND at h ⊢
  simp only at h
  rw [bigSep_Ico_append hn hmono, Nat.min_eq_left (show s.r + 1 ≤ 16 by omega)] at h
  rw [Nat.min_eq_left (show s.r ≤ 16 by omega)]
  iintro ⟨#HR, HO, HL, HI, HB, ⟨S1, S2, S3, S4⟩, HW, ⟨C1, C2, C3, C4, C5⟩⟩
  ihave C1 := (take_first (show s.r < 17 by omega) _) $$ C1
  unfold rcvTodo
  icases C1 with ⟨⟨Hc, Hat⟩, C1⟩
  iapply (wait_cell X K c (rS s.r) (rS_range (by omega)) hsem (s.g + s.n) hN hlt) $$ [HO Hc Hat]
  · isplitr; · iexact HR
    isplitl [Hc]; · iexact Hc
    isplitl [Hat]; · iexact Hat
    iexact HO
  iintro ⟨Hp, Hz, HO⟩
  ihave Hp := (recv_split X c s.r hr) $$ Hp
  icases Hp with ⟨P1, P2, P3⟩
  iapply h
  isplitr; · iexact HR
  isplitl [HO]; · iexact HO
  isplitl [HL]; · iexact HL
  isplitl [HI]; · iexact HI
  isplitl [HB]; · iexact HB
  isplitl [S1 S2 S3 S4 P3]
  · isplitl [S1]; · iexact S1
    isplitl [S2]; · iexact S2
    isplitl [S3 P3]
    · isplitl [S3]; · iexact S3
      iexact P3
    iexact S4
  isplitl [HW]; · iexact HW
  isplitl [C1]; · iexact C1
  isplitl [C2 Hz]
  · iapply (put_last (Nat.zero_le _) _)
    isplitl [Hz]; · unfold rcvZ; iexact Hz
    iexact C2
  isplitl [C3 P1]
  · iapply (put_last (Nat.zero_le _) _)
    isplitl [P1]; · iexact P1
    iexact C3
  isplitl [C4 P2]
  · iapply (put_last hd _)
    isplitl [P2]; · iexact P2
    iexact C4
  iexact C5

/-- The rest received. -/
theorem recvRem (s : Cnt) {sp sp' : Space} {t t' : Shape} {e e' : EltTy} {srcw : Memref sig .tc sp t e} {dst : Memref sig .tc sp' t' e'}
    {sem : DmaSem sig} (hsem : sem = dq 7) (hN : dst.view.dmaCredit = NR) {hsrc hdst}
    {k : PUnit → Prog (TpuEff nD τ sig (Elt F) Λ₀ .tc) α} {Q : α → sProp 𝕄} (hr : s.r = 16) (hn : s.g + s.n = 20)
    (h : St X K c { s with r := s.r + 1 } ⊢ WP c (k ⟨⟩) Q) :
    St X K c s ⊢ WP c (.op (.waitDma2 sem srcw dst hsrc hdst) k) Q := by
  refine on_RCV X K c s h ?_
  unfold RCV
  have hlast : dmaPay X c (rS s.r) = left X c s.r := by
    rw [hr, show rS 16 = 7 from rfl]
    unfold dmaPay left
    rw [if_neg (by decide), if_neg (by decide), if_neg (by decide), if_pos rfl, if_neg (by decide), if_neg (by decide), if_neg (by decide)]
  have e1 : Finset.Ico s.rd (min (s.r + 1) 16) = Finset.Ico s.rd (min s.r 16) := by rw [hr, Nat.min_self, Nat.min_eq_right (show 16 ≤ 16 + 1 by decide)]
  rw [e1]
  iintro ⟨#HR, HO, C1, C2, C3, C4⟩ Hk
  ihave C1 := (take_first (show s.r < 17 by omega) _) $$ C1
  unfold rcvTodo
  icases C1 with ⟨⟨Hc, Hat⟩, C1⟩
  iapply (wait_cell X K c (rS s.r) (rS_range (by omega)) (hsem.trans (by rw [hr]; rfl)) (s.g + s.n) (hN.trans (by rw [hr]; exact (if_pos (Or.inr rfl)).symm)) (fun i hi => absurd i.isLt (by omega))) $$ [HO Hc Hat]
  · isplitr; · iexact HR
    isplitl [Hc]; · iexact Hc
    isplitl [Hat]; · iexact Hat
    iexact HO
  iintro ⟨Hp, Hz, HO⟩
  ihave Hp := (Entails.of_eq (show dmaPay X c (rS s.r) = left X c s.r from hlast)) $$ Hp
  iapply Hk
  isplitl [HO]; · iexact HO
  isplitl [C1]; · iexact C1
  isplitl [C2 Hz]
  · iapply (put_last (Nat.zero_le _) _)
    isplitl [Hz]; · unfold rcvZ; iexact Hz
    iexact C2
  isplitl [C3 Hp]
  · iapply (put_last (Nat.zero_le _) _)
    isplitl [Hp]; · iexact Hp
    iexact C3
  iexact C4

/-! ## From the ring into the result -/

/-- A half-piece of the ring starts on its way into the result. -/
theorem ringStart (s : Cnt) (δ : Fin 8) (j : ℕ) (hδ : pD s.rd = δ) (hj : pJ s.rd = j) {o1 o2 : Fin 2 → ℕ} (h1 : o1 = ![prow c δ j, 0])
    (h2 : o2 = ![16384 * (1 - grp c) + prow c δ j, 0])
    {inb1 : ∀ i, o1 i + (![704, 1024] : Fin 2 → ℕ) i ≤ S11264x1024.size i} {inb2 : ∀ i, o2 i + (![704, 1024] : Fin 2 → ℕ) i ≤ S32768x1024.size i}
    {sem : DmaSem sig} (hsem : sem = dq (36 + s.rd % 8)) {hsrc hdst hty}
    {k : PUnit → Prog (TpuEff nD τ sig (Elt F) Λ₀ .tc) α} {Q : α → sProp 𝕄}
    (hs : s.rd < min s.r 16) (hw : s.rw ≤ s.rd) (hf : s.rd < s.rw + 8) (h : St X K c { s with rd := s.rd + 1 } ⊢ WP c (k ⟨⟩) Q) :
    St X K c s ⊢ WP c (.op (.enqueueDma ((Memref.whole cc0_scratch0).slice (Rect.unit (s := S11264x1024) o1 ![704, 1024] inb1) (fun _ => rfl) : Memref sig .tc .vmem ⟨2, ![704, 1024]⟩ .bf16)
      (.here ((Memref.whole main_v1).slice (Rect.unit (s := S32768x1024) o2 ![704, 1024] inb2) (fun _ => rfl) : Memref sig .tc .hbm ⟨2, ![704, 1024]⟩ .bf16))
      (.dma sem) hsrc hdst hty) k) Q := by
  subst hsem hδ hj
  have hfly : (Transfers.Flight EC (c : Thread nD τ) (.dma (dq (36 + s.rd % 8))) () NP
      iprop((outL c ↦[rs S32768x1024 0 (hrow c s.rd) 704]{fullShare} (outC X c : Buf (Elt F) (outL c)))
        ∗ ringL c ↦[rs S11264x1024 0 (prow c (pD s.rd) (pJ s.rd)) 704]{qD} (ringC X c : Buf (Elt F) (ringL c))) : sProp 𝕄) = ringFly X c s.rd := rfl
  have hpr : prow c (pD s.rd) (pJ s.rd) + 704 ≤ 11264 := by
    have h0 : (pos c + pD s.rd).val < 8 := (pos c + pD s.rd).isLt
    have h1 : pJ s.rd < 2 := by
      have : s.rd < 16 := by omega
      generalize s.rd = p at this
      interval_cases p <;> decide
    unfold prow; omega
  refine on_RCV X K c s h ?_
  unfold RCV
  iintro ⟨-, HO, H1, H2, H3, Hst, Hot, Hfl, Hsm, Hrest⟩ Hk
  ihave Hst := (take_first hs _) $$ Hst
  icases Hst with ⟨Hi, Hst⟩
  ihave Hot := (take_first (show s.rd < 16 by omega) _) $$ Hot
  icases Hot with ⟨Hd, Hot⟩
  ihave Hsm := (take_first hf _) $$ Hsm
  icases Hsm with ⟨Hv, Hsm⟩
  unfold ringSem ringTodo outAny prest ringP
  iapply (start_local c (ringC X c) (outC X c) NP rfl NP_pos (ring_set h1 inb1) (out_set h2 inb2)
    (fun x => (ring_read X h1 inb1 c x).trans ((outN_ring X c _ _ (by
      have : (x 0).val < 704 := (x 0).isLt
      omega)).symm.trans (by exact (congrArg (fun r => outN X c r (x 1).val) (Nat.add_assoc _ _ _).symm).trans (out_read X h2 inb2 c x).symm)))) $$ [Hi Hd Hv]
  · isplitl [Hi]; · iexact Hi
    isplitl [Hd]; · iexact Hd
    iexact Hv
  iintro HF
  iapply Hk
  isplitl [HO]; · iexact HO
  isplitl [H1]; · iexact H1
  isplitl [H2]; · iexact H2
  isplitl [H3]; · iexact H3
  isplitl [Hst]; · iexact Hst
  isplitl [Hot]; · iexact Hot
  isplitl [HF Hfl]
  · iapply (put_last hw _)
    isplitl [HF]
    · iapply (Entails.of_eq hfly); iexact HF
    iexact Hfl
  isplitl [Hsm]; · iexact Hsm
  iexact Hrest

/-- A half-piece of the ring is in the result. -/
theorem ringWait (s : Cnt) {sp sp' : Space} {t t' : Shape} {e e' : EltTy} {srcw : Memref sig .tc sp t e} {dst : Memref sig .tc sp' t' e'}
    {sem : DmaSem sig} (hsem : sem = dq (36 + s.rw % 8)) (hN : dst.view.dmaCredit = NP) {hsrc hdst}
    {k : PUnit → Prog (TpuEff nD τ sig (Elt F) Λ₀ .tc) α} {Q : α → sProp 𝕄}
    (hw : s.rw < s.rd) (hf : s.rd ≤ s.rw + 8) (h : St X K c { s with rw := s.rw + 1 } ⊢ WP c (k ⟨⟩) Q) :
    St X K c s ⊢ WP c (.op (.waitDma2 sem srcw dst hsrc hdst) k) Q := by
  subst hsem
  refine on_RCV X K c s h ?_
  unfold RCV
  rw [show s.rw + 1 + 8 = s.rw + 8 + 1 by omega]
  iintro ⟨#HR, HO, H1, H2, H3, Hst, Hot, Hfl, Hsm, Hdn⟩ Hk
  ihave Hfl := (take_first hw _) $$ Hfl
  icases Hfl with ⟨HF, Hfl⟩
  unfold ringFly
  iapply (wait_local X K c NP (s.g + s.n) hN (low _ _ (by
    have : s.rw % 8 < 8 := Nat.mod_lt _ (by decide)
    interval_cases s.rw % 8 <;> rfl))) $$ [HF HO]
  · isplitl [HF]; · iexact HF
    isplitl [HO]; · iexact HO
    iexact HR
  iintro ⟨HD, Hv, HO⟩
  have hsm : ringSem (F := F) c (s.rw + 8) = semVal ((c : Thread nD τ), .dma (dq (36 + s.rw % 8))) 0 := by
    unfold ringSem; rw [show (s.rw + 8) % 8 = s.rw % 8 by omega]
  iapply Hk
  isplitl [HO]; · iexact HO
  isplitl [H1]; · iexact H1
  isplitl [H2]; · iexact H2
  isplitl [H3]; · iexact H3
  isplitl [Hst]; · iexact Hst
  isplitl [Hot]; · iexact Hot
  isplitl [Hfl]; · iexact Hfl
  isplitl [Hsm Hv]
  · iapply (put_last hf _)
    isplitl [Hv]; · rw [hsm]; iexact Hv
    iexact Hsm
  iapply (put_last (Nat.zero_le _) _)
  isplitl [HD]; · iexact HD
  iexact Hdn

end Steps

end Cert.KernelIdealGather

end
-- ==== Proof.KernelIdeal.Ends.lean ====
/-
# The two ends of a device's run

At the start a device holds its buffers whole; they are cut into the pieces the run moves. At the end all pieces are back
and put together again, the result holding its final contents.
-/
module

public import proofs.«01_k».proof.Proof.KernelIdeal.StepsD

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Cutting a buffer of any contents, and joining it again -/

/-- Elements `U` of a buffer, with any contents. -/
def anyOn (ℓ : Loc nD τ sig) (U : Finset (Idx ℓ)) : sProp 𝕄 := iprop(∃ f : Buf (Elt F) ℓ, ℓ ↦[U]{fullShare} f)

omit [FloatOps F] in
theorem any_of {ℓ : Loc nD τ sig} {U : Finset (Idx ℓ)} (f : Buf (Elt F) ℓ) : (ℓ ↦[U]{fullShare} f : sProp 𝕄) ⊢ anyOn (F := F) ℓ U := by
  unfold anyOn
  iintro H
  iexists f
  iexact H

omit [FloatOps F] in
theorem any_split {ℓ : Loc nD τ sig} {U : Finset (Idx ℓ)} (S : Finset ℕ) (P : ℕ → Finset (Idx ℓ)) (hU : S.biUnion P = U)
    (hd : ∀ t ∈ S, ∀ t' ∈ S, t ≠ t' → Disjoint (P t) (P t')) : anyOn (F := F) ℓ U ⊢ bigSep S (fun k => anyOn (F := F) ℓ (P k)) := by
  subst hU
  unfold anyOn
  refine exists_elim fun f => (Entails.of_eq (pointsTo_biUnion S P hd)).trans ?_
  exact bigSep_mono fun k _ => any_of f

omit [FloatOps F] in
theorem any_join {ℓ : Loc nD τ sig} {U : Finset (Idx ℓ)} (S : Finset ℕ) (P : ℕ → Finset (Idx ℓ)) (hU : S.biUnion P = U)
    (hd : ∀ t ∈ S, ∀ t' ∈ S, t ≠ t' → Disjoint (P t) (P t')) (f₀ : Buf (Elt F) ℓ) : bigSep S (fun k => anyOn (F := F) ℓ (P k)) ⊢ anyOn (F := F) ℓ U := by
  subst hU; unfold anyOn
  haveI : Nonempty (Buf (Elt F) ℓ) := ⟨f₀⟩
  have h := bigSep_exists_pi (Y := fun _ => Buf (Elt F) ℓ) S (fun k f => (ℓ ↦[P k]{fullShare} f : sProp 𝕄))
  iintro H
  ihave H := h $$ H
  icases H with ⟨%fs, H⟩
  ihave H := (pointsTo_biUnion_join S P fs f₀ hd) $$ H
  icases H with ⟨%g, -, H⟩
  iexists g
  iexact H

/-! ## How the pieces cover the buffers -/

theorem slot_surj : ∀ (x : Fin 8) (m : Fin 16), ∃ p : Fin 16, 2 * (x + pD p.val).val + pJ p.val = m.val := by decide
theorem slot_inj : ∀ (x : Fin 8) (p p' : Fin 16), 2 * (x + pD p.val).val + pJ p.val = 2 * (x + pD p'.val).val + pJ p'.val → p = p' := by
  decide +kernel

theorem ring_cover {s : Shape} {a₀ : Fin s.rank} (c : Dev nD) (base : ℕ) :
    (Finset.Ico 0 16).biUnion (fun p => rs s a₀ (base + prow c (pD p) (pJ p)) 704) = rs s a₀ base 11264 := by
  ext i
  rw [Finset.mem_biUnion, mem_rs]
  constructor
  · rintro ⟨p, hp, h⟩
    rw [mem_rs] at h
    have h1 := (pos c + pD p).isLt
    have h2 : pJ p ≤ 1 := by
      rw [Finset.mem_Ico] at hp
      exact (show ∀ p : Fin 16, pJ p.val ≤ 1 by decide) ⟨p, hp.2⟩
    unfold prow at h
    omega
  · intro h
    obtain ⟨p, hp⟩ := slot_surj (pos c) ⟨((i a₀).val - base) / 704, by omega⟩
    refine ⟨p.val, Finset.mem_Ico.mpr ⟨Nat.zero_le _, p.isLt⟩, ?_⟩
    rw [mem_rs]; unfold prow
    simp only at hp
    omega
theorem ring_disjoint {s : Shape} {a₀ : Fin s.rank} (c : Dev nD) (base : ℕ) :
    ∀ t ∈ Finset.Ico 0 16, ∀ t' ∈ Finset.Ico 0 16, t ≠ t' →
      Disjoint (rs s a₀ (base + prow c (pD t) (pJ t)) 704) (rs s a₀ (base + prow c (pD t') (pJ t')) 704) := by
  intro t ht t' ht' hne
  rw [Finset.mem_Ico] at ht ht'
  have h : 2 * (pos c + pD t).val + pJ t ≠ 2 * (pos c + pD t').val + pJ t' :=
    fun h => hne (congrArg Fin.val (slot_inj (pos c) ⟨t, ht.2⟩ ⟨t', ht'.2⟩ h))
  refine rs_disjoint ?_
  unfold prow
  omega

/-- Consecutive slots of a rotating buffer are all its slots. -/
theorem slot_cover {s : Shape} {a₀ : Fin s.rank} {n : ℕ} (hs : s.size a₀ = n) (a : ℕ) (ha : a % n = 0) :
    (Finset.Ico a (a + n)).biUnion (fun k => rs s a₀ (k % n) 1) = Finset.univ := by
  ext i
  rw [Finset.mem_biUnion]
  refine ⟨fun _ => Finset.mem_univ _, fun _ => ⟨a + (i a₀).val, ?_, ?_⟩⟩
  · have := (i a₀).isLt
    rw [Finset.mem_Ico]; omega
  · have h := (i a₀).isLt
    rw [mem_rs, Nat.add_mod, ha, Nat.zero_add, Nat.mod_mod, Nat.mod_eq_of_lt (by omega)]; omega
theorem slot_disjoint {s : Shape} {a₀ : Fin s.rank} {n : ℕ} (a : ℕ) (ha : a % n = 0) :
    ∀ t ∈ Finset.Ico a (a + n), ∀ t' ∈ Finset.Ico a (a + n), t ≠ t' → Disjoint (rs s a₀ (t % n) 1) (rs s a₀ (t' % n) 1) := by
  intro t ht t' ht' hne
  rw [Finset.mem_Ico] at ht ht'
  have key : ∀ u, a ≤ u → u < a + n → u % n = u - a := by
    intro u h1 h2
    obtain ⟨v, rfl⟩ := Nat.exists_eq_add_of_le h1
    rw [Nat.add_mod, ha, Nat.zero_add, Nat.mod_mod, Nat.mod_eq_of_lt (by omega)]; omega
  refine rs_disjoint ?_
  rw [key t ht.1 ht.2, key t' ht'.1 ht'.2]
  omega

/-- The three parts of the result: the own half, the ring's rows, the rest. -/
def outPart (c : Dev nD) (i : ℕ) : Finset S32768x1024.Idx :=
  if i = 0 then rs S32768x1024 0 (16384 * grp c) 16384
  else if i = 1 then rs S32768x1024 0 (16384 * (1 - grp c)) 11264
  else rs S32768x1024 0 (orem c) 5120
theorem out_cover (c : Dev nD) : (Finset.Ico 0 3).biUnion (outPart c) = Finset.univ := by
  have hg := grp_lt c
  ext i
  rw [Finset.mem_biUnion]
  refine ⟨fun _ => Finset.mem_univ _, fun _ => ?_⟩
  have hi : (i 0).val < 32768 := (i 0).isLt
  by_cases h0 : (i 0).val / 16384 = grp c
  · exact ⟨0, by decide, by unfold outPart; rw [if_pos rfl, mem_rs]; omega⟩
  by_cases h1 : (i 0).val < 16384 * (1 - grp c) + 11264
  · exact ⟨1, by decide, by unfold outPart; rw [if_neg (by decide), if_pos rfl, mem_rs]; omega⟩
  · exact ⟨2, by decide, by unfold outPart orem; rw [if_neg (by decide), if_neg (by decide), mem_rs]; omega⟩
theorem out_disjoint (c : Dev nD) : ∀ t ∈ Finset.Ico 0 3, ∀ t' ∈ Finset.Ico 0 3, t ≠ t' → Disjoint (outPart c t) (outPart c t') := by
  have hg := grp_lt c
  intro t ht t' ht' hne
  rw [Finset.mem_Ico] at ht ht'
  unfold outPart
  (repeat' split) <;> first | omega | (refine rs_disjoint ?_; omega) | (refine rs_disjoint ?_; dsimp only [orem]; omega)

/-- The chunks of the own half cover it. -/
def Bo (c : Dev nD) (k : ℕ) : ℕ := 16384 * grp c + Bk k
theorem Bo_mono (c : Dev nD) : Monotone (Bo c) := fun _ _ h => Nat.add_le_add_left (Bk_mono h) _
theorem Bo_step (c : Dev nD) {k : ℕ} (h : k < 24) : Bo c k = orow c k ∧ Bo c (k + 1) - Bo c k = cntK k := by
  have h1 := Bk_step h
  have h2 : Bk k ≤ Bk (k + 1) := Bk_mono (Nat.le_succ k)
  unfold Bo orow; omega
theorem own_cover (c : Dev nD) : (Finset.Ico 0 24).biUnion (fun k => rs S32768x1024 0 (orow c k) (cntK k)) = outPart c 0 := by
  have h := rs_chain (s := S32768x1024) (a₀ := 0) (Bo c) (Bo_mono c) (show 0 ≤ 24 by decide)
  have e : (Finset.Ico 0 24).biUnion (fun k => rs S32768x1024 0 (orow c k) (cntK k))
      = (Finset.Ico 0 24).biUnion (fun k => rs S32768x1024 0 (Bo c k) (Bo c (k + 1) - Bo c k)) :=
    Finset.biUnion_congr rfl fun k hk => by
      rw [Finset.mem_Ico] at hk; obtain ⟨e1, e2⟩ := Bo_step c hk.2
      rw [e2, e1]
  rw [e, h]
  have e0 : Bo c 0 = 16384 * grp c := rfl
  have e1 : Bo c 24 = 16384 * grp c + 16384 := rfl
  unfold outPart
  rw [if_pos rfl, e0, e1, Nat.add_sub_cancel_left]
theorem own_disjoint (c : Dev nD) : ∀ t ∈ Finset.Ico 0 24, ∀ t' ∈ Finset.Ico 0 24, t ≠ t' →
    Disjoint (rs S32768x1024 0 (orow c t) (cntK t)) (rs S32768x1024 0 (orow c t') (cntK t')) := by
  intro t ht t' ht' hne
  have h := rs_chain_disjoint (s := S32768x1024) (a₀ := 0) (Bo c) (Bo_mono c) (Finset.Ico 0 24) t ht t' ht' hne
  rw [Finset.mem_Ico] at ht ht'
  rw [(Bo_step c ht.2).2, (Bo_step c ht.2).1, (Bo_step c ht'.2).2, (Bo_step c ht'.2).1] at h
  exact h

theorem rem_cover : (Finset.Ico 16 24).biUnion (fun k => rs S5120x1024 0 (704 * (k - 16)) (cntK k)) = Finset.univ := by
  have h := rs_chain (s := S5120x1024) (a₀ := 0) Br Br_mono (show 16 ≤ 24 by decide)
  have e : (Finset.Ico 16 24).biUnion (fun k => rs S5120x1024 0 (704 * (k - 16)) (cntK k))
      = (Finset.Ico 16 24).biUnion (fun k => rs S5120x1024 0 (Br k) (Br (k + 1) - Br k)) :=
    Finset.biUnion_congr rfl fun k hk => by
      rw [Finset.mem_Ico] at hk; obtain ⟨e1, e2⟩ := Br_step hk.1 hk.2
      rw [e2, e1]
  rw [e, h]
  exact rs_full (s := S5120x1024) (a₀ := 0) le_rfl
theorem rem_disjoint : ∀ t ∈ Finset.Ico 16 24, ∀ t' ∈ Finset.Ico 16 24, t ≠ t' →
    Disjoint (rs S5120x1024 0 (704 * (t - 16)) (cntK t)) (rs S5120x1024 0 (704 * (t' - 16)) (cntK t')) := by
  intro t ht t' ht' hne
  have h := rs_chain_disjoint (s := S5120x1024) (a₀ := 0) Br Br_mono (Finset.Ico 16 24) t ht t' ht' hne
  rw [Finset.mem_Ico] at ht ht'
  rw [(Br_step ht.1 ht.2).2, (Br_step ht.1 ht.2).1, (Br_step ht'.1 ht'.2).2, (Br_step ht'.1 ht'.2).1] at h
  exact h

theorem inj_cover : (Finset.Ico 0 2).biUnion (fun j => rs S1408x1024 0 (704 * j) 704) = Finset.univ := by
  ext i
  rw [Finset.mem_biUnion]
  have hi : (i 0).val < 1408 := (i 0).isLt
  refine ⟨fun _ => Finset.mem_univ _, fun _ => ⟨(i 0).val / 704, ?_, ?_⟩⟩
  · rw [Finset.mem_Ico]; omega
  · rw [mem_rs]; omega
theorem inj_disjoint : ∀ t ∈ Finset.Ico 0 2, ∀ t' ∈ Finset.Ico 0 2, t ≠ t' →
    Disjoint (rs S1408x1024 0 (704 * t) 704) (rs S1408x1024 0 (704 * t') 704) := by
  intro t _ t' _ hne; exact rs_disjoint (by omega)

/-! ## Semaphores and runs -/

/-- Semaphore `q` at zero. -/
def sv (c : Dev nD) (q : ℕ) : sProp 𝕄 := semVal (dcell c q) 0

omit [FloatOps F] in
/-- A family over the image of a run is the family over the run. -/
theorem image_runs {I : Type} [DecidableEq I] (A : I → sProp 𝕄) (S : Finset ℕ) (T : Finset I) (f : ℕ → I) (hT : S.image f = T)
    (hf : ∀ a ∈ S, ∀ b ∈ S, f a = f b → a = b) : bigSep S (fun n => A (f n)) = bigSep T A := by
  subst hT
  induction S using Finset.induction_on with
  | empty => rfl
  | insert a S ha ih =>
    rw [Finset.image_insert, bigSep_insert ha, bigSep_insert, ih]
    · exact fun x hx y hy => hf x (Finset.mem_insert_of_mem hx) y (Finset.mem_insert_of_mem hy)
    · intro h
      obtain ⟨b, hb, e⟩ := Finset.mem_image.mp h
      exact ha (hf b (Finset.mem_insert_of_mem hb) a (Finset.mem_insert_self _ _) e ▸ hb)
omit [FloatOps F] in
theorem sems_image (c : Dev nD) (S T : Finset ℕ) (f : ℕ → ℕ) (hT : S.image f = T) (hf : ∀ a ∈ S, ∀ b ∈ S, f a = f b → a = b) :
    bigSep S (fun n => sv (F := F) c (f n)) = bigSep T (sv (F := F) c) := image_runs (sv (F := F) c) S T f hT hf

/-- A run of runs is one run. -/
theorem bigSep_runs {M : Type} [URA M] (B : ℕ → ℕ) (A : ℕ → sProp M) (a : ℕ) : ∀ b, a ≤ b → (∀ p, a ≤ p → p < b → B p ≤ B (p + 1)) →
    B a ≤ B b ∧ bigSep (Finset.Ico a b) (fun p => bigSep (Finset.Ico (B p) (B (p + 1))) A) = bigSep (Finset.Ico (B a) (B b)) A := by
  intro b hab
  induction b, hab using Nat.le_induction with
  | base => intro _; rw [Finset.Ico_self, Finset.Ico_self]; exact ⟨le_rfl, rfl⟩
  | succ n hn ih =>
    intro h
    obtain ⟨h1, h2⟩ := ih fun p hp hp' => h p hp (by omega)
    have h3 := h n hn (by omega)
    refine ⟨h1.trans h3, ?_⟩
    rw [bigSep_Ico_append hn (Nat.le_succ n), h2, show Finset.Ico n n.succ = Finset.Ico n (n + 1) from rfl, bigSep_Ico_one, bigSep_Ico_append h1 h3]

section Ends
variable (X : Dev nD → S16384x1024.Idx → Elt F .f32) (K : Dev nD × Fin 35 → ℕ) (c : Dev nD)

/-! ## The start -/

/-- The scratch buffers, with any contents. -/
def scratch : sProp 𝕄 :=
  iprop(anyOn (F := F) (ringL c) Finset.univ ∗ anyOn (F := F) (injL c) Finset.univ ∗ anyOn (F := F) (remL c) Finset.univ
    ∗ anyOn (F := F) (rotL c) Finset.univ ∗ anyOn (F := F) (ldL c) Finset.univ)
/-- The duties, the credit and the places in the schedule a device starts with. -/
def ghost : sProp 𝕄 :=
  iprop(bigSep (Finset.Ico 0 3) (fun i => dutyTok ER (barCell (toward c i)) 0 (Fin.ofNat 3 i)) ∗ bigSep (Finset.Ico 0 17) (sndTok (F := F) c)
    ∗ cred (tallyAt (barCell c) () 3) ∗ atPos ER (barCell c) 0 ∅ 0 ∗ bigSep (Finset.Ico 0 17) (sndPos (F := F) c)
    ∗ bigSep (Finset.Ico 0 17) (rcvTodo (F := F) c))

theorem arg_shares : (argL c ↦[Finset.univ]{fullShare} (X c : Buf (Elt F) (argL c)) : sProp 𝕄)
    ⊣⊢ iprop((argL c ↦[Finset.univ]{hf 0} (X c : Buf (Elt F) (argL c))) ∗ argL c ↦[Finset.univ]{hf 1} (X c : Buf (Elt F) (argL c))) := by
  unfold hf; rw [if_pos rfl, if_neg (by decide)]
  exact pointsTo_share (PosShare.mem_left_op_right fullShare)

/-- The load buffer's slots, their semaphores and the halves of the input are what the loads `a` and `a + 1` need. -/
theorem loads (a : ℕ) (ha : a % 2 = 0) :
    iprop((sv (F := F) c 0 ∗ sv (F := F) c 1) ∗ anyOn (F := F) (ldL c) Finset.univ ∗ (argL c ↦[Finset.univ]{fullShare} (X c : Buf (Elt F) (argL c))))
      ⊣⊢ bigSep (Finset.Ico a (a + 2)) (ldFree X c) := by
  have e : bigSep (Finset.Ico a (a + 2)) (ldFree X c)
      = iprop(bigSep (Finset.Ico a (a + 2)) (fun l => sv (F := F) c (l % 2))
        ∗ bigSep (Finset.Ico a (a + 2)) (fun l => anyOn (F := F) (ldL c) (rs S2x704x1024 0 (l % 2) 1 : Finset S2x704x1024.Idx))
        ∗ bigSep (Finset.Ico a (a + 2)) (fun l => (argL c ↦[Finset.univ]{hf (l % 2)} (X c : Buf (Elt F) (argL c)) : sProp 𝕄))) := by
    rw [show ldFree X c = fun l => iprop(sv (F := F) c (l % 2) ∗ anyOn (F := F) (ldL c) (rs S2x704x1024 0 (l % 2) 1 : Finset S2x704x1024.Idx)
      ∗ (argL c ↦[Finset.univ]{hf (l % 2)} (X c : Buf (Elt F) (argL c)))) from rfl]
    exact (bigSep_sep _ _ _).trans (congrArg (fun R => iprop(_ ∗ R)) (bigSep_sep _ _ _))
  have two : ∀ A : ℕ → sProp 𝕄, bigSep (Finset.Ico a (a + 2)) (fun l => A (l % 2)) = iprop(A 0 ∗ A 1) := by
    intro A
    rw [bigSep_Ico_succ_bot (by omega), bigSep_Ico_one, ha, show (a + 1) % 2 = 1 by omega]
  rw [e, two (sv (F := F) c), two (fun b => (argL c ↦[Finset.univ]{hf b} (X c : Buf (Elt F) (argL c)) : sProp 𝕄))]
  have hc : (Finset.Ico a (a + 2)).biUnion (fun k => (rs S2x704x1024 0 (k % 2) 1 : Finset S2x704x1024.Idx)) = Finset.univ := slot_cover rfl a ha
  have hd := slot_disjoint (s := S2x704x1024) (a₀ := 0) (n := 2) a ha
  constructor
  · iintro ⟨HS, HL, HA⟩
    isplitl [HS]; · iexact HS
    isplitl [HL]
    · iapply (any_split (F := F) (ℓ := ldL c) _ (fun k => (rs S2x704x1024 0 (k % 2) 1 : Finset S2x704x1024.Idx)) hc hd)
      iexact HL
    iapply (arg_shares X c).1
    iexact HA
  · iintro ⟨HS, HL, HA⟩
    isplitl [HS]; · iexact HS
    isplitl [HL]
    · iapply (any_join (F := F) (ℓ := ldL c) _ (fun k => (rs S2x704x1024 0 (k % 2) 1 : Finset S2x704x1024.Idx)) hc hd (ldC X c 0))
      iexact HL
    iapply (arg_shares X c).2
    iexact HA

/-- What the device hands over with its three signals: the places of its ring buffer and of the rest. -/
theorem handover :
    iprop(bigSep (Finset.Ico 0 3) (fun i => dutyTok ER (barCell (toward c i)) 0 (Fin.ofNat 3 i)) ∗ anyOn (F := F) (ringL c) Finset.univ
      ∗ outAny (F := F) c (orem c) 5120) ⊢ bigSep (Finset.Ico 0 3) (give (F := F) c) := by
  have hb : anyOn (F := F) (ringL c) Finset.univ ⊢ bigSep (Finset.Ico 0 16) (fun p => ringAny (F := F) c (pD p) (pJ p)) := by
    refine (any_split (F := F) (ℓ := ringL c) (Finset.Ico 0 16) (fun p => (rs S11264x1024 0 (0 + prow c (pD p) (pJ p)) 704 : Finset S11264x1024.Idx))
      ((ring_cover c 0).trans (rs_full (s := S11264x1024) (a₀ := 0) le_rfl)) (ring_disjoint c 0)).trans ?_
    refine Entails.of_eq (bigSep_congr fun p _ => ?_)
    unfold anyOn ringAny; rw [Nat.zero_add]
  have hl : bigSep (Finset.Ico 0 16) (fun p => ringAny (F := F) c (pD p) (pJ p))
      = iprop(ringAny (F := F) c 0 0 ∗ ringAny (F := F) c 0 1 ∗ ringAny (F := F) c 7 0 ∗ ringAny (F := F) c 1 0 ∗ ringAny (F := F) c 7 1 ∗ ringAny (F := F) c 1 1 ∗ ringAny (F := F) c 6 0 ∗ ringAny (F := F) c 2 0 ∗ ringAny (F := F) c 6 1 ∗ ringAny (F := F) c 2 1 ∗ ringAny (F := F) c 5 0 ∗ ringAny (F := F) c 5 1 ∗ ringAny (F := F) c 4 0 ∗ ringAny (F := F) c 3 0 ∗ ringAny (F := F) c 4 1 ∗ ringAny (F := F) c 3 1) :=
    bigSep_eq_bigSepL_of_eq [0, 1, 2, 3, 4, 5, 6, 7, 8, 9, 10, 11, 12, 13, 14, 15] (by decide) (by decide) _
  have p0 : barPay (F := F) (toward c 0) (Fin.ofNat 3 0) = iprop(ringAny (F := F) c 0 0 ∗ ringAny (F := F) c 0 1 ∗ outAny (F := F) c (orem c) 5120) := by
    show barPay (F := F) (partner c) 0 = _
    unfold barPay; rw [if_pos rfl, partner_partner]
  have p1 : barPay (F := F) (toward c 1) (Fin.ofNat 3 1) = iprop(ringAny (F := F) c 1 0 ∗ ringAny (F := F) c 1 1 ∗ ringAny (F := F) c 2 0 ∗ ringAny (F := F) c 2 1 ∗ ringAny (F := F) c 3 0 ∗ ringAny (F := F) c 3 1) := by
    show barPay (F := F) (cwd c) 1 = _
    unfold barPay; rw [if_neg (by decide), if_pos rfl, ccwd_cwd]
  have p2 : barPay (F := F) (toward c 2) (Fin.ofNat 3 2) = iprop(ringAny (F := F) c 7 0 ∗ ringAny (F := F) c 7 1 ∗ ringAny (F := F) c 6 0 ∗ ringAny (F := F) c 6 1 ∗ ringAny (F := F) c 5 0 ∗ ringAny (F := F) c 5 1 ∗ ringAny (F := F) c 4 0 ∗ ringAny (F := F) c 4 1) := by
    show barPay (F := F) (ccwd c) 2 = _
    unfold barPay; rw [if_neg (by decide), if_neg (by decide), cwd_ccwd]
  rw [show bigSep (Finset.Ico 0 3) (give (F := F) c) = iprop(bigSep (Finset.Ico 0 3) (fun i => dutyTok ER (barCell (toward c i)) 0 (Fin.ofNat 3 i))
    ∗ bigSep (Finset.Ico 0 3) (fun i => barPay (F := F) (toward c i) (Fin.ofNat 3 i))) from bigSep_sep _ _ _,
    show bigSep (Finset.Ico 0 3) (fun i => barPay (F := F) (toward c i) (Fin.ofNat 3 i))
      = iprop(barPay (F := F) (toward c 0) (Fin.ofNat 3 0) ∗ barPay (F := F) (toward c 1) (Fin.ofNat 3 1) ∗ barPay (F := F) (toward c 2) (Fin.ofNat 3 2))
      from bigSep_eq_bigSepL_of_eq [0, 1, 2] (by decide) (by decide) _, p0, p1, p2]
  iintro ⟨HT, HR, HO⟩
  isplitl [HT]; · iexact HT
  ihave HR := (hb.trans (Entails.of_eq hl)) $$ HR
  icases HR with ⟨R00, R01, R70, R10, R71, R11, R60, R20, R61, R21, R50, R51, R40, R30, R41, R31⟩
  isplitl [R00 R01 HO]
  · isplitl [R00]; · iexact R00
    isplitl [R01]; · iexact R01
    iexact HO
  isplitl [R10 R11 R20 R21 R30 R31]
  · isplitl [R10]; · iexact R10
    isplitl [R11]; · iexact R11
    isplitl [R20]; · iexact R20
    isplitl [R21]; · iexact R21
    isplitl [R30]; · iexact R30
    iexact R31
  isplitl [R70]; · iexact R70
  isplitl [R71]; · iexact R71
  isplitl [R60]; · iexact R60
  isplitl [R61]; · iexact R61
  isplitl [R50]; · iexact R50
  isplitl [R51]; · iexact R51
  isplitl [R40]; · iexact R40
  iexact R41

/-- The result's buffer cut into the chunks of the own half, the ring's rows and the rest. -/
theorem out_split : anyOn (F := F) (outL c) Finset.univ
    ⊢ iprop(bigSep (Finset.Ico 0 24) (ownTodo (F := F) c) ∗ bigSep (Finset.Ico 0 16) (ringTodo (F := F) c) ∗ outAny (F := F) c (orem c) 5120) := by
  have h3 : bigSep (Finset.Ico 0 3) (fun k => anyOn (F := F) (outL c) (outPart c k : Finset S32768x1024.Idx))
      = iprop(anyOn (F := F) (outL c) (outPart c 0 : Finset S32768x1024.Idx) ∗ anyOn (F := F) (outL c) (outPart c 1 : Finset S32768x1024.Idx)
        ∗ anyOn (F := F) (outL c) (outPart c 2 : Finset S32768x1024.Idx)) := bigSep_eq_bigSepL_of_eq [0, 1, 2] (by decide) (by decide) _
  refine ((any_split (F := F) (ℓ := outL c) (Finset.Ico 0 3) (fun k => (outPart c k : Finset S32768x1024.Idx)) (out_cover c) (out_disjoint c)).trans
    (Entails.of_eq h3)).trans ?_
  refine sep_mono (any_split (F := F) (ℓ := outL c) (Finset.Ico 0 24) (fun k => (rs S32768x1024 0 (orow c k) (cntK k) : Finset S32768x1024.Idx)) (own_cover c) (own_disjoint c))
    (sep_mono ?_ (Entails.of_eq rfl))
  refine (any_split (F := F) (ℓ := outL c) (Finset.Ico 0 16) (fun p => (rs S32768x1024 0 (16384 * (1 - grp c) + prow c (pD p) (pJ p)) 704 : Finset S32768x1024.Idx))
    (ring_cover c _) (ring_disjoint c _)).trans (Entails.of_eq rfl)

/-- The first state, out of what the device is launched with. -/
theorem begin_run :
    iprop(Rec X K ∗ OW (F := F) c 0 ∗ (argL c ↦[Finset.univ]{fullShare} (X c : Buf (Elt F) (argL c))) ∗ anyOn (F := F) (outL c) Finset.univ ∗ scratch (F := F) c
      ∗ (sv (F := F) c 0 ∗ sv (F := F) c 1) ∗ bigSep (Finset.Ico 36 44) (sv (F := F) c) ∗ bigSep (Finset.Ico 44 48) (sv (F := F) c) ∗ ghost (F := F) c)
      ⊢ St X K c ⟨0, 0, 0, 0, 0, 0, 0, 0, 0, 0, 0, 0, 0, 16, 0, 0, 0⟩ := by
  have e1 : bigSep (Finset.Ico 36 44) (sv (F := F) c) = bigSep (Finset.Ico 0 8) (ringSem (F := F) c) :=
    (sems_image (F := F) c (Finset.Ico 0 8) _ (fun p => 36 + p % 8) (by decide) (by decide)).symm
  have e2 : bigSep (Finset.Ico 44 48) (sv (F := F) c) = bigSep (Finset.Ico 0 4) (ownSem (F := F) c) :=
    (sems_image (F := F) c (Finset.Ico 0 4) _ (fun p => 44 + p % 4) (by decide) (by decide)).symm
  have hinj : anyOn (F := F) (injL c) Finset.univ ⊢ bigSep (Finset.Ico 0 2) (injAny (F := F) c) :=
    any_split (F := F) (ℓ := injL c) (Finset.Ico 0 2) (fun j => (rs S1408x1024 0 (704 * j) 704 : Finset S1408x1024.Idx)) inj_cover inj_disjoint
  have hrem : anyOn (F := F) (remL c) Finset.univ ⊢ bigSep (Finset.Ico 16 24) (remTodo (F := F) c) :=
    any_split (F := F) (ℓ := remL c) (Finset.Ico 16 24) (fun k => (rs S5120x1024 0 (704 * (k - 16)) (cntK k) : Finset S5120x1024.Idx)) rem_cover rem_disjoint
  have hrot : anyOn (F := F) (rotL c) Finset.univ ⊢ bigSep (Finset.Ico 0 4) (rotAny (F := F) c) :=
    any_split (F := F) (ℓ := rotL c) (Finset.Ico 0 4) (fun k => (rs S4x704x1024 0 (k % 4) 1 : Finset S4x704x1024.Idx)) (slot_cover rfl 0 rfl) (slot_disjoint (s := S4x704x1024) (a₀ := 0) (n := 4) 0 rfl)
  rw [e1, e2]
  unfold St LD INJ BAR SND OWN RCV scratch ghost
  simp only [Finset.Ico_self, bigSep_empty, Nat.zero_add, Nat.min_self, Nat.zero_min, Nat.max_eq_right (show 0 ≤ 16 by decide), if_true,
    Finset.Ico_eq_empty (show ¬ 16 < 0 by decide)]
  iintro ⟨HR, HO, HA, HOut, ⟨M1, M2, M3, M4, M5⟩, S1, S2, S3, G1, G2, G3, G4, G5, G6⟩
  ihave HOut := (out_split (F := F) c) $$ HOut
  icases HOut with ⟨O1, O2, O3⟩
  isplitl [HR]; · iexact HR
  isplitl [HO]; · iexact HO
  isplitl [S1 M5 HA]
  · isplitl [S1 M5 HA]
    · iapply (loads X c 0 rfl).1
      isplitl [S1]; · iexact S1
      isplitl [M5]; · iexact M5
      iexact HA
    isplitr <;> iempintro
  isplitl [M2]
  · iapply hinj; iexact M2
  isplitl [G1 M1 O3 G3 G4]
  · isplitl [G1 M1 O3]
    · iapply (handover (F := F) c)
      isplitl [G1]; · iexact G1
      isplitl [M1]; · iexact M1
      iexact O3
    isplitl [G3]; · iexact G3
    iexact G4
  isplitl [G2 G5]
  · isplitl [G2]; · iexact G2
    isplitr; · iempintro
    isplitr; · iempintro
    isplitr; · iempintro
    isplitl [G5]; · iexact G5
    iempintro
  isplitl [M4 M3 O1 S3]
  · isplitl [M4]; · iapply hrot; iexact M4
    isplitl [M3]; · iapply hrem; iexact M3
    isplitr; · iempintro
    isplitr; · iempintro
    isplitl [O1]; · iexact O1
    isplitr; · iempintro
    isplitl [S3]; · iexact S3
    iempintro
  isplitl [G6]; · iexact G6
  isplitr; · iempintro
  isplitr; · iempintro
  isplitr; · iempintro
  isplitl [O2]; · iexact O2
  isplitr; · iempintro
  isplitl [S2]; · iexact S2
  iempintro

/-! ## The end -/

theorem snd_back : bigSep (Finset.Ico 0 17) (sndDone X c)
    = iprop(bigSep ((Finset.Ico 0 17).image sS) (sv (F := F) c) ∗ (injP X c 0 ∗ injP X c 1 ∗ remP X c 0 5120 fullShare.right) ∗ bigSep (Finset.Ico 3 17) (sndSrc X c)) := by
  have h1 : bigSep (Finset.Ico 0 17) (sndDone X c) = iprop(bigSep (Finset.Ico 0 17) (fun n => sv (F := F) c (sS n)) ∗ bigSep (Finset.Ico 0 17) (sndSrc X c)) :=
    bigSep_sep _ _ _
  have h3 : bigSep (Finset.Ico 0 3) (sndSrc X c) = iprop(sndSrc X c 0 ∗ sndSrc X c 1 ∗ sndSrc X c 2) :=
    bigSep_eq_bigSepL_of_eq [0, 1, 2] (by decide) (by decide) _
  rw [h1, sems_image (F := F) c (Finset.Ico 0 17) _ sS rfl (by decide), bigSep_Ico_append (show 0 ≤ 3 by decide) (show 3 ≤ 17 by decide), h3,
    show sndSrc X c 0 = injP X c 0 from rfl, show sndSrc X c 1 = injP X c 1 from rfl, show sndSrc X c 2 = remP X c 0 5120 fullShare.right from rfl]

/-- A part of the result, computed. -/
def outDone (i : ℕ) : sProp 𝕄 := outL c ↦[(outPart c i : Finset S32768x1024.Idx)]{fullShare} (outC X c : Buf (Elt F) (outL c))

theorem own_back : bigSep (Finset.Ico 0 24) (ownDone X c) ⊢ iprop(outDone X c 0 ∗ remP X c 0 5120 fullShare.left) := by
  have h1 : bigSep (Finset.Ico 0 24) (ownDone X c) = iprop(bigSep (Finset.Ico 0 24) (fun k => outP X c (orow c k) (cntK k))
      ∗ bigSep (Finset.Ico 0 24) (fun k => if k < 16 then (iprop(emp) : sProp 𝕄) else remP X c (704 * (k - 16)) (cntK k) fullShare.left)) :=
    bigSep_sep _ _ _
  have h2 : bigSep (Finset.Ico 0 24) (fun k => outP X c (orow c k) (cntK k)) = outDone X c 0 := by
    unfold outP outDone
    refine (pointsTo_biUnion (ℓ := outL c) (q := fullShare) (f := (outC X c : Buf (Elt F) (outL c))) (Finset.Ico 0 24)
      (fun k => (rs S32768x1024 0 (orow c k) (cntK k) : Finset S32768x1024.Idx)) (own_disjoint c)).symm.trans ?_
    exact congrArg (fun S : Finset (Idx (outL c)) => (outL c ↦[S]{fullShare} (outC X c : Buf (Elt F) (outL c)) : sProp 𝕄)) (own_cover c)
  have h3 : bigSep (Finset.Ico 16 24) (fun k => if k < 16 then (iprop(emp) : sProp 𝕄) else remP X c (704 * (k - 16)) (cntK k) fullShare.left)
      = remP X c 0 5120 fullShare.left := by
    rw [← rem_chain X c fullShare.left]
    refine bigSep_congr fun k hk => ?_
    rw [Finset.mem_Ico] at hk
    rw [if_neg (by omega)]
  rw [h1, h2, bigSep_Ico_append (show 0 ≤ 16 by decide) (show 16 ≤ 24 by decide), h3]
  iintro ⟨H1, -, H2⟩
  isplitl [H1]; · iexact H1
  iexact H2

theorem ring_whole : bigSep (Finset.Ico 0 16) (fun p => ringP X c (pD p) (pJ p) fullShare) ⊢ anyOn (F := F) (ringL c) Finset.univ := by
  refine Entails.trans (Entails.of_eq ?_) (any_of (F := F) (ℓ := ringL c) (ringC X c : Buf (Elt F) (ringL c)))
  rw [show bigSep (Finset.Ico 0 16) (fun p => ringP X c (pD p) (pJ p) fullShare)
      = bigSep (Finset.Ico 0 16) (fun p => (ringL c ↦[(rs S11264x1024 0 (0 + prow c (pD p) (pJ p)) 704 : Finset S11264x1024.Idx)]{fullShare} (ringC X c : Buf (Elt F) (ringL c)) : sProp 𝕄))
    from bigSep_congr fun p _ => by rw [Nat.zero_add]; rfl]
  refine (pointsTo_biUnion (ℓ := ringL c) (q := fullShare) (f := (ringC X c : Buf (Elt F) (ringL c))) (Finset.Ico 0 16)
    (fun p => (rs S11264x1024 0 (0 + prow c (pD p) (pJ p)) 704 : Finset S11264x1024.Idx)) (ring_disjoint c 0)).symm.trans ?_
  exact congrArg (fun S : Finset (Idx (ringL c)) => (ringL c ↦[S]{fullShare} (ringC X c : Buf (Elt F) (ringL c)) : sProp 𝕄))
    ((ring_cover c 0).trans (rs_full (s := S11264x1024) (a₀ := 0) le_rfl))

theorem ring_back : iprop(bigSep (Finset.Ico 0 17) (left X c) ∗ bigSep (Finset.Ico 0 16) (ringDone X c) ∗ bigSep (Finset.Ico 3 17) (sndSrc X c))
    ⊢ iprop(outDone X c 1 ∗ outDone X c 2 ∗ anyOn (F := F) (ringL c) Finset.univ) := by
  have h1 : bigSep (Finset.Ico 0 16) (ringDone X c) = iprop(bigSep (Finset.Ico 0 16) (fun p => outP X c (hrow c p) 704) ∗ bigSep (Finset.Ico 0 16) (prest X c)) :=
    bigSep_sep _ _ _
  have h2 : bigSep (Finset.Ico 0 16) (fun p => outP X c (hrow c p) 704) = outDone X c 1 := by
    unfold outP outDone hrow
    refine (pointsTo_biUnion (ℓ := outL c) (q := fullShare) (f := (outC X c : Buf (Elt F) (outL c))) (Finset.Ico 0 16)
      (fun p => (rs S32768x1024 0 (16384 * (1 - grp c) + prow c (pD p) (pJ p)) 704 : Finset S32768x1024.Idx)) (ring_disjoint c _)).symm.trans ?_
    exact congrArg (fun S : Finset (Idx (outL c)) => (outL c ↦[S]{fullShare} (outC X c : Buf (Elt F) (outL c)) : sProp 𝕄)) (ring_cover c _)
  have h3 : left X c 16 = outDone X c 2 := by unfold left; rw [if_neg (by decide), if_neg (by decide), if_neg (by decide)]; rfl
  have h4 : bigSep (Finset.Ico 3 17) (sndSrc X c) = bigSep (Finset.Ico 0 16) (fun p => bigSep (Finset.Ico (srcs p) (srcs (p + 1))) (sndSrc X c)) :=
    (bigSep_runs srcs (sndSrc X c) 0 16 (by decide) fun p _ hp => by interval_cases p <;> decide).2.symm
  have h5 : iprop(bigSep (Finset.Ico 0 16) (left X c) ∗ bigSep (Finset.Ico 0 16) (prest X c)
      ∗ bigSep (Finset.Ico 0 16) (fun p => bigSep (Finset.Ico (srcs p) (srcs (p + 1))) (sndSrc X c))) ⊢ anyOn (F := F) (ringL c) Finset.univ := by
    refine Entails.trans (Entails.of_eq ?_) ((bigSep_mono fun p hp => recv_join X c p (Finset.mem_Ico.mp hp).2).trans (ring_whole X c))
    exact ((bigSep_sep _ _ _).trans (congrArg (fun R => iprop(_ ∗ R)) (bigSep_sep _ _ _))).symm
  rw [h1, h2, h4, bigSep_Ico_append (show 0 ≤ 16 by decide) (show 16 ≤ 17 by decide), show Finset.Ico 16 17 = Finset.Ico 16 (16 + 1) from rfl, bigSep_Ico_one, h3]
  iintro ⟨⟨H1, H2⟩, ⟨H3, H4⟩, H5⟩
  isplitl [H3]; · iexact H3
  isplitl [H2]; · iexact H2
  iapply h5
  isplitl [H1]; · iexact H1
  isplitl [H4]; · iexact H4
  iexact H5

theorem out_join : iprop(outDone X c 0 ∗ outDone X c 1 ∗ outDone X c 2) ⊢ (outL c ↦[Finset.univ]{fullShare} (outC X c : Buf (Elt F) (outL c)) : sProp 𝕄) := by
  have h3 : bigSep (Finset.Ico 0 3) (outDone X c) = iprop(outDone X c 0 ∗ outDone X c 1 ∗ outDone X c 2) := bigSep_eq_bigSepL_of_eq [0, 1, 2] (by decide) (by decide) _
  rw [← h3]
  refine Entails.of_eq ((pointsTo_biUnion (ℓ := outL c) (q := fullShare) (f := (outC X c : Buf (Elt F) (outL c))) (Finset.Ico 0 3)
    (fun k => (outPart c k : Finset S32768x1024.Idx)) (out_disjoint c)).symm.trans ?_)
  exact congrArg (fun S : Finset (Idx (outL c)) => (outL c ↦[S]{fullShare} (outC X c : Buf (Elt F) (outL c)) : sProp 𝕄)) (out_cover c)

theorem inj_join : iprop(injP X c 0 ∗ injP X c 1) ⊢ anyOn (F := F) (injL c) Finset.univ := by
  have h2 : bigSep (Finset.Ico 0 2) (injP X c) = iprop(injP X c 0 ∗ injP X c 1) := bigSep_eq_bigSepL_of_eq [0, 1] (by decide) (by decide) _
  rw [← h2]
  refine Entails.trans (Entails.of_eq ?_) (any_of (F := F) (ℓ := injL c) (injC X c : Buf (Elt F) (injL c)))
  refine (pointsTo_biUnion (ℓ := injL c) (q := fullShare) (f := (injC X c : Buf (Elt F) (injL c))) (Finset.Ico 0 2)
    (fun j => (rs S1408x1024 0 (704 * j) 704 : Finset S1408x1024.Idx)) inj_disjoint).symm.trans ?_
  exact congrArg (fun S : Finset (Idx (injL c)) => (injL c ↦[S]{fullShare} (injC X c : Buf (Elt F) (injL c)) : sProp 𝕄)) inj_cover

theorem rem_join : iprop(remP X c 0 5120 fullShare.left ∗ remP X c 0 5120 fullShare.right) ⊢ anyOn (F := F) (remL c) Finset.univ := by
  have h := pointsTo_share (Ix := Unit) (Lvl := ℕ) (Name := ℕ) (U := UU) (nD := nD) (τ := τ) (sig := sig) (Val := Elt F) (ℓ := remL c) (I := rs S5120x1024 0 0 5120)
    (f := (remC X c : Buf (Elt F) (remL c))) (PosShare.mem_left_op_right fullShare)
  refine (h.2.trans (Entails.of_eq ?_)).trans (any_of (F := F) (ℓ := remL c) (remC X c : Buf (Elt F) (remL c)))
  exact congrArg (fun S : Finset (Idx (remL c)) => (remL c ↦[S]{fullShare} (remC X c : Buf (Elt F) (remL c)) : sProp 𝕄)) (rs_full (s := S5120x1024) (a₀ := 0) le_rfl)

/-- All the DMA semaphores the run uses. -/
theorem sems_all : iprop((sv (F := F) c 0 ∗ sv (F := F) c 1) ∗ bigSep ((Finset.Ico 0 17).image sS) (sv (F := F) c) ∗ bigSep ((Finset.Ico 0 17).image rS) (sv (F := F) c)
    ∗ bigSep (Finset.Ico 36 44) (sv (F := F) c) ∗ bigSep (Finset.Ico 44 48) (sv (F := F) c)) = bigSep (Finset.Ico 0 48) (sv (F := F) c) := by
  have h2 : bigSep (Finset.Ico 0 2) (sv (F := F) c) = iprop(sv (F := F) c 0 ∗ sv (F := F) c 1) := bigSep_eq_bigSepL_of_eq [0, 1] (by decide) (by decide) _
  have hm : bigSep (Finset.Ico 2 36) (sv (F := F) c) = iprop(bigSep ((Finset.Ico 0 17).image sS) (sv (F := F) c) ∗ bigSep ((Finset.Ico 0 17).image rS) (sv (F := F) c)) := by
    rw [show Finset.Ico 2 36 = (Finset.Ico 0 17).image sS ∪ (Finset.Ico 0 17).image rS by decide]
    exact bigSep_union (by decide)
  rw [bigSep_Ico_append (show 0 ≤ 2 by decide) (show 2 ≤ 48 by decide), bigSep_Ico_append (show 2 ≤ 36 by decide) (show 36 ≤ 48 by decide),
    bigSep_Ico_append (show 36 ≤ 44 by decide) (show 44 ≤ 48 by decide), h2, hm]
  exact congrArg (fun R : sProp 𝕄 => iprop((sv (F := F) c 0 ∗ sv (F := F) c 1) ∗ R)) (equiv_iff.mp ⟨BI.sep_assoc, BI.sep_assoc'⟩).symm

/-- The last state gives the buffers back whole, the result computed, and every semaphore at zero. -/
theorem end_run :
    St X K c ⟨26, 26, 26, 2, 3, 1, 17, 17, 17, 17, 24, 24, 24, 24, 17, 16, 16⟩
      ⊢ iprop(OW (F := F) c 20 ∗ (argL c ↦[Finset.univ]{fullShare} (X c : Buf (Elt F) (argL c))) ∗ (outL c ↦[Finset.univ]{fullShare} (outC X c : Buf (Elt F) (outL c)))
        ∗ scratch (F := F) c ∗ semVal (barCell c) 0 ∗ bigSep (Finset.Ico 0 48) (sv (F := F) c)) := by
  have e1 : bigSep (Finset.Ico 16 24) (ringSem (F := F) c) = bigSep (Finset.Ico 36 44) (sv (F := F) c) :=
    sems_image (F := F) c (Finset.Ico 16 24) _ (fun p => 36 + p % 8) (by decide) (by decide)
  have e2 : bigSep (Finset.Ico 24 28) (ownSem (F := F) c) = bigSep (Finset.Ico 44 48) (sv (F := F) c) :=
    sems_image (F := F) c (Finset.Ico 24 28) _ (fun p => 44 + p % 4) (by decide) (by decide)
  have e3 : bigSep (Finset.Ico 0 17) (rcvZ (F := F) c) = bigSep ((Finset.Ico 0 17).image rS) (sv (F := F) c) :=
    sems_image (F := F) c (Finset.Ico 0 17) _ rS rfl (by decide)
  have hrot : bigSep (Finset.Ico 16 20) (rotAny (F := F) c) ⊢ anyOn (F := F) (rotL c) Finset.univ :=
    any_join (F := F) (ℓ := rotL c) (Finset.Ico 16 20) (fun k => (rs S4x704x1024 0 (k % 4) 1 : Finset S4x704x1024.Idx)) (slot_cover rfl 16 rfl)
      (slot_disjoint (s := S4x704x1024) (a₀ := 0) (n := 4) 16 rfl) (rotC X c 0)
  rw [← sems_all (F := F) c]
  unfold St LD INJ BAR SND OWN RCV scratch
  simp only [Finset.Ico_self, bigSep_empty, Nat.reduceAdd, Nat.min_eq_right (show 16 ≤ 24 by decide), Nat.min_eq_right (show 16 ≤ 17 by decide),
    Nat.max_eq_left (show 16 ≤ 24 by decide), if_neg (show ¬ (1 : ℕ) = 0 by decide)]
  rw [snd_back X c, e1, e2, e3]
  iintro ⟨-, HO, ⟨HL, -, -⟩, -, ⟨-, HB⟩, ⟨-, -, -, -, -, S1, ⟨I1, I2, R2⟩, S2⟩, ⟨W1, -, -, -, -, -, W2, W3⟩, ⟨-, C1, C2, -, -, -, C3, C4⟩⟩
  ihave HL := (loads X c 26 rfl).2 $$ HL
  icases HL with ⟨L1, L2, L3⟩
  ihave HW := (own_back X c) $$ W3
  icases HW with ⟨O0, R1⟩
  ihave HC := (ring_back X c) $$ [C2 C4 S2]
  · isplitl [C2]; · iexact C2
    isplitl [C4]; · iexact C4
    iexact S2
  icases HC with ⟨O1, O2, HR⟩
  isplitl [HO]; · iexact HO
  isplitl [L3]; · iexact L3
  isplitl [O0 O1 O2]
  · iapply (out_join X c)
    isplitl [O0]; · iexact O0
    isplitl [O1]; · iexact O1
    iexact O2
  isplitl [HR I1 I2 R1 R2 W1 L2]
  · isplitl [HR]; · iexact HR
    isplitl [I1 I2]
    · iapply (inj_join X c)
      isplitl [I1]; · iexact I1
      iexact I2
    isplitl [R1 R2]
    · iapply (rem_join X c)
      isplitl [R1]; · iexact R1
      iexact R2
    isplitl [W1]; · iapply hrot; iexact W1
    iexact L2
  isplitl [HB]; · iexact HB
  isplitl [L1]; · iexact L1
  isplitl [S1]; · iexact S1
  isplitl [C1]; · iexact C1
  isplitl [C3]; · iexact C3
  iexact W2

end Ends

end Cert.KernelIdealGather

end
-- ==== Proof.KernelIdeal.Parts1.lean ====
/-
# The parts of the body, 1 to 14
-/
module

public import proofs.«01_k».proof.Proof.KernelIdeal.StepsD

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (X : Dev nD → S16384x1024.Idx → Elt F .f32) (K : Dev nD × Fin 35 → ℕ) (c : Dev nD)
variable {α : Type}

theorem part1  {k} {Q : α → sProp 𝕄}
    (h : ∀ w0 w1 w2 w3 w4 w5 w6 w7 w8 w9, St X K c ⟨0, 0, 0, 0, 0, 0, 0, 0, 0, 0, 0, 0, 0, 16, 0, 0, 0⟩ ⊢ WP c (k ⟨c, w0, w1, w2, w3, w4, w5, w6, w7, w8, w9⟩) Q) :
    St X K c ⟨0, 0, 0, 0, 0, 0, 0, 0, 0, 0, 0, 0, 0, 16, 0, 0, 0⟩ ⊢ WP c (onBufs (k0_part1 (F := F))  >>= k) Q := by
  unfold onBufs; rw [k0_part1_eq_skeleton]; unfold k0_part1_skel
  simp only [semSignalWord, semWaitWord, Prog.lift, Prog.bind_op, Prog.bind_ret, Prog.pure_eq_ret, Prog.bind_assoc, bind_assoc, wp_deviceId]
  exact h _ _ _ _ _ _ _ _ _ _

theorem part2 (v5 : BitVec 32) (v8 : BitVec 32) (v9 : BitVec 32) (v12 : BitVec 32) (v31 : BitVec 32) (v32 : BitVec 32) (c0_i32_19 : BitVec 32) {k} {Q : α → sProp 𝕄}
    (h : ∀ w0 w1 w2 w3, St X K c ⟨0, 0, 2, 0, 0, 0, 0, 0, 0, 0, 0, 0, 0, 16, 0, 0, 0⟩ ⊢ WP c (k ⟨w0, w1, (SemArray.scalar (sig.barrier 0 rfl)), w2, w3⟩) Q) :
    St X K c ⟨0, 0, 0, 0, 0, 0, 0, 0, 0, 0, 0, 0, 0, 16, 0, 0, 0⟩ ⊢ WP c (onBufs (k0_part2 (F := F)) c v5 v8 v9 v12 v31 v32 c0_i32_19 >>= k) Q := by
  unfold onBufs; rw [k0_part2_eq_skeleton]; unfold k0_part2_skel
  simp only [semSignalWord, semWaitWord, Prog.lift, Prog.bind_op, Prog.bind_ret, Prog.pure_eq_ret, Prog.bind_assoc, bind_assoc]
  refine ldStart X K c _ (n := 704) rfl (off1_at c 0) rfl rfl (by decide) (by decide) ?_
  refine ldStart X K c _ (n := 704) rfl (off1_at c 1) rfl rfl (by decide) (by decide) ?_
  exact h _ _ _ _

theorem part3 (v2 : BitVec 32) (v12 : BitVec 32) (v25 : BitVec 32) (v28 : BitVec 32) (v41 : BitVec 32) (v44 : BitVec 32) (v63 : BitVec 32) (v64 : BitVec 32) {k} {Q : α → sProp 𝕄}
    (h : St X K c ⟨1, 1, 2, 1, 3, 1, 0, 17, 0, 1, 0, 0, 0, 16, 0, 0, 0⟩ ⊢ WP c (k ⟨⟩) Q) :
    St X K c ⟨0, 0, 2, 0, 0, 0, 0, 0, 0, 0, 0, 0, 0, 16, 0, 0, 0⟩ ⊢ WP c (onBufs (k0_part3 (F := F)) c v2 v12 v25 v28 v41 v44 (SemArray.scalar (sig.barrier 0 rfl)) v63 v64 >>= k) Q := by
  unfold onBufs; rw [k0_part3_eq_skeleton]; unfold k0_part3_skel
  simp only [semSignalWord, semWaitWord, Prog.lift, Prog.bind_op, Prog.bind_ret, Prog.pure_eq_ret, Prog.bind_assoc, bind_assoc]
  refine barSignal X K c _ (by decide) rfl (dev1_at c) rfl ?_
  refine barSignal X K c _ (by decide) rfl (dev2_at c) rfl ?_
  refine barSignal X K c _ (by decide) rfl (dev3_at c) rfl ?_
  refine barWait X K c _ rfl rfl rfl rfl rfl ?_
  refine ldWait X K c _ rfl rfl (by decide) (by decide) ?_
  refine ldLoad X K c _ (n := 704) rfl rfl (by decide) (by decide) ?_
  refine injDead X K c _ rfl (by decide) fun _ => ?_
  refine injStore X K c _ rfl (fun x => pay_rows X c _ _ _ x) (by decide) rfl ?_ (by decide)
  exact h

theorem part4 (v5 : BitVec 32) (v8 : BitVec 32) (v9 : BitVec 32) (v12 : BitVec 32) {k} {Q : α → sProp 𝕄}
    (h : ∀ w0 w1, St X K c ⟨2, 2, 2, 2, 3, 1, 1, 17, 0, 2, 0, 0, 0, 16, 0, 0, 0⟩ ⊢ WP c (k ⟨w0, w1⟩) Q) :
    St X K c ⟨1, 1, 2, 1, 3, 1, 0, 17, 0, 1, 0, 0, 0, 16, 0, 0, 0⟩ ⊢ WP c (onBufs (k0_part4 (F := F)) c v5 v8 v9 v12 >>= k) Q := by
  unfold onBufs; rw [k0_part4_eq_skeleton]; unfold k0_part4_skel
  simp only [semSignalWord, semWaitWord, Prog.lift, Prog.bind_op, Prog.bind_ret, Prog.pure_eq_ret, Prog.bind_assoc, bind_assoc]
  refine sendInj X K c _ (by decide) (dev4_at c) rfl (off2_at c 0) rfl rfl rfl (by decide) (by decide) (by decide) ?_
  refine ldWait X K c _ rfl rfl (by decide) (by decide) ?_
  refine ldLoad X K c _ (n := 704) rfl rfl (by decide) (by decide) ?_
  refine injDead X K c _ rfl (by decide) fun _ => ?_
  refine injStore X K c _ rfl (fun x => pay_rows X c _ _ _ x) (by decide) rfl ?_ (by decide)
  exact h _ _

theorem part5 (v121 : BitVec 32) (v122 : BitVec 32) {k} {Q : α → sProp 𝕄}
    (h : St X K c ⟨3, 3, 4, 2, 3, 1, 2, 17, 0, 2, 1, 0, 0, 16, 0, 0, 0⟩ ⊢ WP c (k ⟨⟩) Q) :
    St X K c ⟨2, 2, 2, 2, 3, 1, 1, 17, 0, 2, 0, 0, 0, 16, 0, 0, 0⟩ ⊢ WP c (onBufs (k0_part5 (F := F)) c v121 v122 >>= k) Q := by
  unfold onBufs; rw [k0_part5_eq_skeleton]; unfold k0_part5_skel
  simp only [semSignalWord, semWaitWord, Prog.lift, Prog.bind_op, Prog.bind_ret, Prog.pure_eq_ret, Prog.bind_assoc, bind_assoc]
  refine sendInj X K c _ (by decide) (dev5_at c) rfl (off2_at c 1) rfl rfl rfl (by decide) (by decide) (by decide) ?_
  refine ldStart X K c _ (n := 704) rfl rfl rfl rfl (by decide) (by decide) ?_
  refine ldStart X K c _ (n := 704) rfl rfl rfl rfl (by decide) (by decide) ?_
  refine ldWait X K c _ rfl rfl (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

theorem part6 (v2 : BitVec 32) {k} {Q : α → sProp 𝕄}
    (h : St X K c ⟨4, 4, 5, 2, 3, 1, 2, 17, 0, 2, 2, 1, 0, 16, 0, 0, 0⟩ ⊢ WP c (k ⟨⟩) Q) :
    St X K c ⟨3, 3, 4, 2, 3, 1, 2, 17, 0, 2, 1, 0, 0, 16, 0, 0, 0⟩ ⊢ WP c (onBufs (k0_part6 (F := F)) c v2 >>= k) Q := by
  unfold onBufs; rw [k0_part6_eq_skeleton]; unfold k0_part6_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 0) rfl (by decide) (by decide) (by decide) (by decide) ?_
  refine ldWait X K c _ rfl rfl (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

theorem part7 (v2 : BitVec 32) {k} {Q : α → sProp 𝕄}
    (h : St X K c ⟨5, 5, 7, 2, 3, 1, 2, 17, 0, 2, 3, 2, 0, 16, 0, 0, 0⟩ ⊢ WP c (k ⟨⟩) Q) :
    St X K c ⟨4, 4, 5, 2, 3, 1, 2, 17, 0, 2, 2, 1, 0, 16, 0, 0, 0⟩ ⊢ WP c (onBufs (k0_part7 (F := F)) c v2 >>= k) Q := by
  unfold onBufs; rw [k0_part7_eq_skeleton]; unfold k0_part7_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 1) rfl (by decide) (by decide) (by decide) (by decide) ?_
  refine ldWait X K c _ rfl rfl (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h

theorem part8 (v2 : BitVec 32) {k} {Q : α → sProp 𝕄}
    (h : St X K c ⟨6, 6, 8, 2, 3, 1, 2, 17, 0, 2, 4, 3, 0, 16, 0, 0, 0⟩ ⊢ WP c (k ⟨⟩) Q) :
    St X K c ⟨5, 5, 7, 2, 3, 1, 2, 17, 0, 2, 3, 2, 0, 16, 0, 0, 0⟩ ⊢ WP c (onBufs (k0_part8 (F := F)) c v2 >>= k) Q := by
  unfold onBufs; rw [k0_part8_eq_skeleton]; unfold k0_part8_skel
  simp only [semSignalWord, semWaitWord, Prog.lift, Prog.bind_op, Prog.bind_ret, Prog.pure_eq_ret, Prog.bind_assoc, bind_assoc]
  refine ownStartRot X K c _ rfl (off3_at c 2) rfl (by decide) (by decide) (by decide) (by decide) ?_
  refine ldWait X K c _ rfl rfl (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h

theorem part9 (v2 : BitVec 32) {k} {Q : α → sProp 𝕄}
    (h : St X K c ⟨7, 7, 9, 2, 3, 1, 2, 17, 0, 2, 5, 4, 1, 16, 0, 0, 0⟩ ⊢ WP c (k ⟨⟩) Q) :
    St X K c ⟨6, 6, 8, 2, 3, 1, 2, 17, 0, 2, 4, 3, 0, 16, 0, 0, 0⟩ ⊢ WP c (onBufs (k0_part9 (F := F)) c v2 >>= k) Q := by
  unfold onBufs; rw [k0_part9_eq_skeleton]; unfold k0_part9_skel
  simp only [semSignalWord, semWaitWord, Prog.lift, Prog.bind_op, Prog.bind_ret, Prog.pure_eq_ret, Prog.bind_assoc, bind_assoc]
  refine ownStartRot X K c _ rfl (off3_at c 3) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h

theorem part10 (v2 : BitVec 32) {k} {Q : α → sProp 𝕄}
    (h : St X K c ⟨8, 8, 10, 2, 3, 1, 2, 17, 0, 2, 6, 5, 2, 16, 0, 0, 0⟩ ⊢ WP c (k ⟨⟩) Q) :
    St X K c ⟨7, 7, 9, 2, 3, 1, 2, 17, 0, 2, 5, 4, 1, 16, 0, 0, 0⟩ ⊢ WP c (onBufs (k0_part10 (F := F)) c v2 >>= k) Q := by
  unfold onBufs; rw [k0_part10_eq_skeleton]; unfold k0_part10_skel
  simp only [semSignalWord, semWaitWord, Prog.lift, Prog.bind_op, Prog.bind_ret, Prog.pure_eq_ret, Prog.bind_assoc, bind_assoc]
  refine ownStartRot X K c _ rfl (off3_at c 4) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h

theorem part11 (v2 : BitVec 32) {k} {Q : α → sProp 𝕄}
    (h : ∀ w0 w1, St X K c ⟨9, 9, 11, 2, 3, 1, 2, 17, 0, 2, 7, 6, 3, 16, 0, 0, 0⟩ ⊢ WP c (k ⟨w0, w1⟩) Q) :
    St X K c ⟨8, 8, 10, 2, 3, 1, 2, 17, 0, 2, 6, 5, 2, 16, 0, 0, 0⟩ ⊢ WP c (onBufs (k0_part11 (F := F)) c v2 >>= k) Q := by
  unfold onBufs; rw [k0_part11_eq_skeleton]; unfold k0_part11_skel
  simp only [semSignalWord, semWaitWord, Prog.lift, Prog.bind_op, Prog.bind_ret, Prog.pure_eq_ret, Prog.bind_assoc, bind_assoc]
  refine ownStartRot X K c _ rfl (off3_at c 5) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h _ _

theorem part12 (v309 : BitVec 32) (c4224_i32_282 : BitVec 32) {k} {Q : α → sProp 𝕄}
    (h : St X K c ⟨10, 10, 12, 2, 3, 1, 2, 17, 0, 2, 8, 7, 4, 16, 0, 0, 0⟩ ⊢ WP c (k ⟨⟩) Q) :
    St X K c ⟨9, 9, 11, 2, 3, 1, 2, 17, 0, 2, 7, 6, 3, 16, 0, 0, 0⟩ ⊢ WP c (onBufs (k0_part12 (F := F)) c v309 c4224_i32_282 >>= k) Q := by
  unfold onBufs; rw [k0_part12_eq_skeleton]; unfold k0_part12_skel
  simp only [semSignalWord, semWaitWord, Prog.lift, Prog.bind_op, Prog.bind_ret, Prog.pure_eq_ret, Prog.bind_assoc, bind_assoc]
  refine ownStartRot X K c _ rfl (off3_at c 6) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  exact h

theorem part13 (v2 : BitVec 32) {k} {Q : α → sProp 𝕄}
    (h : St X K c ⟨11, 11, 12, 2, 3, 1, 2, 17, 0, 2, 9, 8, 5, 16, 0, 0, 0⟩ ⊢ WP c (k ⟨⟩) Q) :
    St X K c ⟨10, 10, 12, 2, 3, 1, 2, 17, 0, 2, 8, 7, 4, 16, 0, 0, 0⟩ ⊢ WP c (onBufs (k0_part13 (F := F)) c v2 >>= k) Q := by
  unfold onBufs; rw [k0_part13_eq_skeleton]; unfold k0_part13_skel
  simp only [semSignalWord, semWaitWord, Prog.lift, Prog.bind_op, Prog.bind_ret, Prog.pure_eq_ret, Prog.bind_assoc, bind_assoc]
  refine ownStartRot X K c _ rfl (off3_at c 7) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

theorem part14 (v2 : BitVec 32) {k} {Q : α → sProp 𝕄}
    (h : St X K c ⟨12, 12, 13, 2, 3, 1, 2, 17, 0, 2, 10, 9, 6, 16, 0, 0, 0⟩ ⊢ WP c (k ⟨⟩) Q) :
    St X K c ⟨11, 11, 12, 2, 3, 1, 2, 17, 0, 2, 9, 8, 5, 16, 0, 0, 0⟩ ⊢ WP c (onBufs (k0_part14 (F := F)) c v2 >>= k) Q := by
  unfold onBufs; rw [k0_part14_eq_skeleton]; unfold k0_part14_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 8) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

end Parts

end Cert.KernelIdealGather

end
-- ==== Proof.KernelIdeal.Parts2.lean ====
/-
# The parts of the body, 15 to 28
-/
module

public import proofs.«01_k».proof.Proof.KernelIdeal.StepsD

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (X : Dev nD → S16384x1024.Idx → Elt F .f32) (K : Dev nD × Fin 35 → ℕ) (c : Dev nD)
variable {α : Type}

theorem part15 (v2 : BitVec 32) {k} {Q : α → sProp 𝕄}
    (h : St X K c ⟨13, 13, 14, 2, 3, 1, 2, 17, 0, 2, 11, 10, 7, 16, 0, 0, 0⟩ ⊢ WP c (k ⟨⟩) Q) :
    St X K c ⟨12, 12, 13, 2, 3, 1, 2, 17, 0, 2, 10, 9, 6, 16, 0, 0, 0⟩ ⊢ WP c (onBufs (k0_part15 (F := F)) c v2 >>= k) Q := by
  unfold onBufs; rw [k0_part15_eq_skeleton]; unfold k0_part15_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 9) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

theorem part16 (v2 : BitVec 32) {k} {Q : α → sProp 𝕄}
    (h : St X K c ⟨14, 14, 15, 2, 3, 1, 2, 17, 0, 2, 12, 11, 8, 16, 0, 0, 0⟩ ⊢ WP c (k ⟨⟩) Q) :
    St X K c ⟨13, 13, 14, 2, 3, 1, 2, 17, 0, 2, 11, 10, 7, 16, 0, 0, 0⟩ ⊢ WP c (onBufs (k0_part16 (F := F)) c v2 >>= k) Q := by
  unfold onBufs; rw [k0_part16_eq_skeleton]; unfold k0_part16_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 10) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  exact h

theorem part17 (v2 : BitVec 32) {k} {Q : α → sProp 𝕄}
    (h : ∀ w0, St X K c ⟨15, 15, 16, 2, 3, 1, 2, 17, 0, 2, 12, 12, 9, 16, 0, 0, 0⟩ ⊢ WP c (k ⟨(k0_pay15 (ldV X c (row0 c 14) 704)), w0⟩) Q) :
    St X K c ⟨14, 14, 15, 2, 3, 1, 2, 17, 0, 2, 12, 11, 8, 16, 0, 0, 0⟩ ⊢ WP c (onBufs (k0_part17 (F := F)) c v2 >>= k) Q := by
  unfold onBufs; rw [k0_part17_eq_skeleton]; unfold k0_part17_skel
  simp only [semSignalWord, semWaitWord, Prog.lift, Prog.bind_op, Prog.bind_ret, Prog.pure_eq_ret, Prog.bind_assoc, bind_assoc]
  refine ldStart X K c _ (n := 704) rfl rfl rfl rfl (by decide) (by decide) ?_
  refine ownStartRot X K c _ rfl (off3_at c 11) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  refine rotDead X K c _ rfl (by decide) (by decide) fun _ => ?_
  exact h _

theorem part18 (v2 : BitVec 32) (v469 : Vec F S1x704x1024 .bf16) {k} {Q : α → sProp 𝕄}
    (h : St X K c ⟨16, 16, 17, 2, 3, 1, 2, 17, 0, 2, 13, 13, 10, 16, 0, 0, 0⟩ ⊢ WP c (k (k0_pay17 (ldV X c (row0 c 15) 704))) Q) :
    St X K c ⟨15, 15, 16, 2, 3, 1, 2, 17, 0, 2, 12, 12, 9, 16, 0, 0, 0⟩ ⊢ WP c (onBufs (k0_part18 (F := F)) c v2 (k0_pay15 (ldV X c (row0 c 14) 704)) v469 >>= k) Q := by
  unfold onBufs; rw [k0_part18_eq_skeleton]; unfold k0_part18_skel
  simp only [semSignalWord, semWaitWord, Prog.lift, Prog.bind_op, Prog.bind_ret, Prog.pure_eq_ret, Prog.bind_assoc, bind_assoc]
  refine rotStore X K c _ rfl (fun x => pay_slot X c _ _ _ x) (by decide) (by decide) (by decide) rfl ?_
  refine ldStart X K c _ (n := 704) rfl rfl rfl rfl (by decide) (by decide) ?_
  refine ownStartRot X K c _ rfl (off3_at c 12) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  exact h

theorem part19 (v2 : BitVec 32) {k} {Q : α → sProp 𝕄}
    (h : St X K c ⟨17, 17, 18, 2, 3, 1, 2, 17, 0, 2, 14, 14, 11, 16, 0, 0, 0⟩ ⊢ WP c (k (ldV X c (row0 c 16) 704)) Q) :
    St X K c ⟨16, 16, 17, 2, 3, 1, 2, 17, 0, 2, 13, 13, 10, 16, 0, 0, 0⟩ ⊢ WP c (onBufs (k0_part19 (F := F)) c v2 (k0_pay17 (ldV X c (row0 c 15) 704)) >>= k) Q := by
  unfold onBufs; rw [k0_part19_eq_skeleton]; unfold k0_part19_skel
  simp only [semSignalWord, semWaitWord, Prog.lift, Prog.bind_op, Prog.bind_ret, Prog.pure_eq_ret, Prog.bind_assoc, bind_assoc]
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  refine ownStartRot X K c _ rfl (off3_at c 13) rfl (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  exact h

theorem part20 (v2 : BitVec 32) {k} {Q : α → sProp 𝕄}
    (h : St X K c ⟨17, 18, 19, 2, 3, 1, 2, 17, 0, 2, 15, 15, 12, 16, 0, 0, 0⟩ ⊢ WP c (k ⟨⟩) Q) :
    St X K c ⟨17, 17, 18, 2, 3, 1, 2, 17, 0, 2, 14, 14, 11, 16, 0, 0, 0⟩ ⊢ WP c (onBufs (k0_part20 (F := F)) c v2 (ldV X c (row0 c 16) 704) >>= k) Q := by
  unfold onBufs; rw [k0_part20_eq_skeleton]; unfold k0_part20_skel
  simp only [semSignalWord, semWaitWord, Prog.lift, Prog.bind_op, Prog.bind_ret, Prog.pure_eq_ret, Prog.bind_assoc, bind_assoc]
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  refine ownStartRot X K c _ rfl (off3_at c 14) rfl (by decide) (by decide) (by decide) (by decide) ?_
  refine ldWait X K c _ rfl rfl (by decide) (by decide) ?_
  refine ownWait X K c _ rfl rfl (by decide) (by decide) (by decide) ?_
  exact h

theorem part21 (v2 : BitVec 32) {k} {Q : α → sProp 𝕄}
    (h : St X K c ⟨18, 19, 20, 2, 3, 1, 2, 17, 0, 2, 16, 16, 12, 16, 0, 0, 0⟩ ⊢ WP c (k ⟨⟩) Q) :
    St X K c ⟨17, 18, 19, 2, 3, 1, 2, 17, 0, 2, 15, 15, 12, 16, 0, 0, 0⟩ ⊢ WP c (onBufs (k0_part21 (F := F)) c v2 >>= k) Q := by
  unfold onBufs; rw [k0_part21_eq_skeleton]; unfold k0_part21_skel
  simp only [semSignalWord, semWaitWord, Prog.lift, Prog.bind_op, Prog.bind_ret, Prog.pure_eq_ret, Prog.bind_assoc, bind_assoc]
  refine ldLoad X K c _ (n := 704) rfl rfl (by decide) (by decide) ?_
  refine rotDead X K c _ rfl (by decide) (by decide) fun _ => ?_
  refine rotStore X K c _ rfl (fun x => pay_slot X c _ _ _ x) (by decide) (by decide) (by decide) rfl ?_
  refine ldStart X K c _ (n := 704) rfl rfl rfl rfl (by decide) (by decide) ?_
  refine ownStartRot X K c _ rfl (off3_at c 15) rfl (by decide) (by decide) (by decide) (by decide) ?_
  refine ldWait X K c _ rfl rfl (by decide) (by decide) ?_
  exact h

theorem part22 (v2 : BitVec 32) {k} {Q : α → sProp 𝕄}
    (h : St X K c ⟨19, 20, 21, 2, 3, 1, 2, 17, 0, 2, 17, 17, 13, 16, 0, 0, 0⟩ ⊢ WP c (k ⟨⟩) Q) :
    St X K c ⟨18, 19, 20, 2, 3, 1, 2, 17, 0, 2, 16, 16, 12, 16, 0, 0, 0⟩ ⊢ WP c (onBufs (k0_part22 (F := F)) c v2 >>= k) Q := by
  unfold onBufs; rw [k0_part22_eq_skeleton]; unfold k0_part22_skel
  simp only [semSignalWord, semWaitWord, Prog.lift, Prog.bind_op, Prog.bind_ret, Prog.pure_eq_ret, Prog.bind_assoc, bind_assoc]
  refine ownWait X K c _ rfl rfl (by decide) (by decide) (by decide) ?_
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 704) rfl rfl rfl rfl (by decide) (by decide) ?_
  refine ownStartRem X K c _ (n := 704) rfl rfl (off3_at c 16) rfl (by decide) (by decide) (by decide) (by decide) (by decide) ?_
  refine ldWait X K c _ rfl rfl (by decide) (by decide) ?_
  exact h

theorem part23 (v2 : BitVec 32) {k} {Q : α → sProp 𝕄}
    (h : St X K c ⟨20, 21, 22, 2, 3, 1, 2, 17, 0, 2, 18, 18, 14, 16, 0, 0, 0⟩ ⊢ WP c (k ⟨⟩) Q) :
    St X K c ⟨19, 20, 21, 2, 3, 1, 2, 17, 0, 2, 17, 17, 13, 16, 0, 0, 0⟩ ⊢ WP c (onBufs (k0_part23 (F := F)) c v2 >>= k) Q := by
  unfold onBufs; rw [k0_part23_eq_skeleton]; unfold k0_part23_skel
  simp only [semSignalWord, semWaitWord, Prog.lift, Prog.bind_op, Prog.bind_ret, Prog.pure_eq_ret, Prog.bind_assoc, bind_assoc]
  refine ownWait X K c _ rfl rfl (by decide) (by decide) (by decide) ?_
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 704) rfl rfl rfl rfl (by decide) (by decide) ?_
  refine ownStartRem X K c _ (n := 704) rfl rfl (off3_at c 17) rfl (by decide) (by decide) (by decide) (by decide) (by decide) ?_
  refine ldWait X K c _ rfl rfl (by decide) (by decide) ?_
  exact h

theorem part24 (v2 : BitVec 32) {k} {Q : α → sProp 𝕄}
    (h : St X K c ⟨21, 22, 23, 2, 3, 1, 2, 17, 0, 2, 19, 19, 15, 16, 0, 0, 0⟩ ⊢ WP c (k ⟨⟩) Q) :
    St X K c ⟨20, 21, 22, 2, 3, 1, 2, 17, 0, 2, 18, 18, 14, 16, 0, 0, 0⟩ ⊢ WP c (onBufs (k0_part24 (F := F)) c v2 >>= k) Q := by
  unfold onBufs; rw [k0_part24_eq_skeleton]; unfold k0_part24_skel
  simp only [semSignalWord, semWaitWord, Prog.lift, Prog.bind_op, Prog.bind_ret, Prog.pure_eq_ret, Prog.bind_assoc, bind_assoc]
  refine ownWait X K c _ rfl rfl (by decide) (by decide) (by decide) ?_
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 704) rfl rfl rfl rfl (by decide) (by decide) ?_
  refine ownStartRem X K c _ (n := 704) rfl rfl (off3_at c 18) rfl (by decide) (by decide) (by decide) (by decide) (by decide) ?_
  refine ldWait X K c _ rfl rfl (by decide) (by decide) ?_
  exact h

theorem part25 (v2 : BitVec 32) {k} {Q : α → sProp 𝕄}
    (h : St X K c ⟨22, 23, 24, 2, 3, 1, 2, 17, 0, 2, 20, 20, 17, 16, 0, 0, 0⟩ ⊢ WP c (k ⟨⟩) Q) :
    St X K c ⟨21, 22, 23, 2, 3, 1, 2, 17, 0, 2, 19, 19, 15, 16, 0, 0, 0⟩ ⊢ WP c (onBufs (k0_part25 (F := F)) c v2 >>= k) Q := by
  unfold onBufs; rw [k0_part25_eq_skeleton]; unfold k0_part25_skel
  simp only [semSignalWord, semWaitWord, Prog.lift, Prog.bind_op, Prog.bind_ret, Prog.pure_eq_ret, Prog.bind_assoc, bind_assoc]
  refine ownWait X K c _ rfl rfl (by decide) (by decide) (by decide) ?_
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 704) rfl rfl rfl rfl (by decide) (by decide) ?_
  refine ownStartRem X K c _ (n := 704) rfl rfl (off3_at c 19) rfl (by decide) (by decide) (by decide) (by decide) (by decide) ?_
  refine ldWait X K c _ rfl rfl (by decide) (by decide) ?_
  refine ownWait X K c _ rfl rfl (by decide) (by decide) (by decide) ?_
  exact h

theorem part26 (v2 : BitVec 32) {k} {Q : α → sProp 𝕄}
    (h : St X K c ⟨23, 24, 25, 2, 3, 1, 2, 17, 0, 2, 21, 21, 18, 16, 0, 0, 0⟩ ⊢ WP c (k ⟨⟩) Q) :
    St X K c ⟨22, 23, 24, 2, 3, 1, 2, 17, 0, 2, 20, 20, 17, 16, 0, 0, 0⟩ ⊢ WP c (onBufs (k0_part26 (F := F)) c v2 >>= k) Q := by
  unfold onBufs; rw [k0_part26_eq_skeleton]; unfold k0_part26_skel
  simp only [semSignalWord, semWaitWord, Prog.lift, Prog.bind_op, Prog.bind_ret, Prog.pure_eq_ret, Prog.bind_assoc, bind_assoc]
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 704) rfl rfl rfl rfl (by decide) (by decide) ?_
  refine ownStartRem X K c _ (n := 704) rfl rfl (off3_at c 20) rfl (by decide) (by decide) (by decide) (by decide) (by decide) ?_
  refine ldWait X K c _ rfl rfl (by decide) (by decide) ?_
  refine ownWait X K c _ rfl rfl (by decide) (by decide) (by decide) ?_
  exact h

theorem part27 (v2 : BitVec 32) {k} {Q : α → sProp 𝕄}
    (h : St X K c ⟨25, 25, 26, 2, 3, 1, 2, 17, 0, 2, 22, 22, 19, 16, 0, 0, 0⟩ ⊢ WP c (k (ldV X c (row0 c 24) 704)) Q) :
    St X K c ⟨23, 24, 25, 2, 3, 1, 2, 17, 0, 2, 21, 21, 18, 16, 0, 0, 0⟩ ⊢ WP c (onBufs (k0_part27 (F := F)) c v2 >>= k) Q := by
  unfold onBufs; rw [k0_part27_eq_skeleton]; unfold k0_part27_skel
  simp only [semSignalWord, semWaitWord, Prog.lift, Prog.bind_op, Prog.bind_ret, Prog.pure_eq_ret, Prog.bind_assoc, bind_assoc]
  refine ldLoad X K c _ (n := 704) rfl rfl (by decide) (by decide) ?_
  refine remDead X K c _ (n := 704) rfl rfl (by decide) (by decide) fun _ => ?_
  refine remStore X K c _ (n := 704) rfl rfl (fun x => pay_rows X c _ _ _ x) (by decide) (by decide) (by decide) (by decide) ?_
  refine ldStart X K c _ (n := 192) rfl rfl rfl rfl (by decide) (by decide) ?_
  refine ownStartRem X K c _ (n := 704) rfl rfl (off3_at c 21) rfl (by decide) (by decide) (by decide) (by decide) (by decide) ?_
  refine ldWait X K c _ rfl rfl (by decide) (by decide) ?_
  refine ownWait X K c _ rfl rfl (by decide) (by decide) (by decide) ?_
  refine ldLoad X K c _ (n := 704) rfl rfl (by decide) (by decide) ?_
  exact h

theorem part28 (v2 : BitVec 32) {k} {Q : α → sProp 𝕄}
    (h : St X K c ⟨26, 26, 26, 2, 3, 1, 2, 17, 0, 2, 24, 23, 20, 16, 0, 0, 0⟩ ⊢ WP c (k ⟨⟩) Q) :
    St X K c ⟨25, 25, 26, 2, 3, 1, 2, 17, 0, 2, 22, 22, 19, 16, 0, 0, 0⟩ ⊢ WP c (onBufs (k0_part28 (F := F)) c v2 (ldV X c (row0 c 24) 704) >>= k) Q := by
  unfold onBufs; rw [k0_part28_eq_skeleton]; unfold k0_part28_skel
  simp only [semSignalWord, semWaitWord, Prog.lift, Prog.bind_op, Prog.bind_ret, Prog.pure_eq_ret, Prog.bind_assoc, bind_assoc]
  refine remDead X K c _ (n := 704) rfl rfl (by decide) (by decide) fun _ => ?_
  refine remStore X K c _ (n := 704) rfl rfl (fun x => pay_rows X c _ _ _ x) (by decide) (by decide) (by decide) (by decide) ?_
  refine ownStartRem X K c _ (n := 704) rfl rfl (off3_at c 22) rfl (by decide) (by decide) (by decide) (by decide) (by decide) ?_
  refine ldWait X K c _ rfl rfl (by decide) (by decide) ?_
  refine ownWait X K c _ rfl rfl (by decide) (by decide) (by decide) ?_
  refine ldLoad X K c _ (n := 192) rfl rfl (by decide) (by decide) ?_
  refine remDead X K c _ (n := 192) rfl rfl (by decide) (by decide) fun _ => ?_
  refine remStore X K c _ (n := 192) rfl rfl (fun x => pay_rows X c _ _ _ x) (by decide) (by decide) (by decide) (by decide) ?_
  exact h

end Parts

end Cert.KernelIdealGather

end
-- ==== Proof.KernelIdeal.Parts3.lean ====
/-
# The parts of the body, 29 to 43
-/
module

public import proofs.«01_k».proof.Proof.KernelIdeal.StepsD

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (X : Dev nD → S16384x1024.Idx → Elt F .f32) (K : Dev nD × Fin 35 → ℕ) (c : Dev nD)
variable {α : Type}

theorem part29 (v2 : BitVec 32) (v5 : BitVec 32) (v8 : BitVec 32) (v9 : BitVec 32) (v12 : BitVec 32) {k} {Q : α → sProp 𝕄}
    (h : St X K c ⟨26, 26, 26, 2, 3, 1, 3, 17, 0, 5, 24, 24, 20, 24, 1, 0, 0⟩ ⊢ WP c (k ⟨⟩) Q) :
    St X K c ⟨26, 26, 26, 2, 3, 1, 2, 17, 0, 2, 24, 23, 20, 16, 0, 0, 0⟩ ⊢ WP c (onBufs (k0_part29 (F := F)) c v2 v5 v8 v9 v12 >>= k) Q := by
  unfold onBufs; rw [k0_part29_eq_skeleton]; unfold k0_part29_skel
  simp only [semSignalWord, semWaitWord, Prog.lift, Prog.bind_op, Prog.bind_ret, Prog.pure_eq_ret, Prog.bind_assoc, bind_assoc]
  refine ownStartRem X K c _ (n := 192) rfl rfl (off4_at c) rfl (by decide) (by decide) (by decide) (by decide) (by decide) ?_
  refine (remReady X K c _ (by decide) rfl rfl rfl).trans ?_
  refine sendRem X K c _ rfl (dev6_at c) (off5_at c) rfl rfl rfl (by decide) (by decide) (by decide) ?_
  refine recvStep X K c _ rfl (wait_amt (by decide) rfl) (by decide) rfl (by decide) (by decide) (by decide) ?_
  exact h

theorem part30 (v2 : BitVec 32) (v12 : BitVec 32) (v25 : BitVec 32) (v28 : BitVec 32) (v41 : BitVec 32) {k} {Q : α → sProp 𝕄}
    (h : ∀ w0 w1, St X K c ⟨26, 26, 26, 2, 3, 1, 4, 17, 0, 5, 24, 24, 20, 24, 1, 1, 0⟩ ⊢ WP c (k ⟨w0, w1⟩) Q) :
    St X K c ⟨26, 26, 26, 2, 3, 1, 3, 17, 0, 5, 24, 24, 20, 24, 1, 0, 0⟩ ⊢ WP c (onBufs (k0_part30 (F := F)) c v2 v12 v25 v28 v41 >>= k) Q := by
  unfold onBufs; rw [k0_part30_eq_skeleton]; unfold k0_part30_skel
  simp only [semSignalWord, semWaitWord, Prog.lift, Prog.bind_op, Prog.bind_ret, Prog.pure_eq_ret, Prog.bind_assoc, bind_assoc]
  refine ringStart X K c _ 0 0 rfl rfl (off2_at c 0) (off6_at c 0) rfl (by decide) (by decide) (by decide) ?_
  refine sendStream X K c _ 0 7 0 qA (dev7_at c) ((congrArg grp (dev7_at c)).trans (grp_cwd c)) ((congrArg (fun d => prow d 7 0) (dev7_at c)).trans (prow_cwd c 7 0)) (off2_at c 0) (off2_at c 0) rfl rfl (if_neg (by decide)) rfl rfl rfl (by decide) rfl (by decide) (by decide) (by decide) ?_
  exact h _ _

theorem part31 (v5 : BitVec 32) (v8 : BitVec 32) (v9 : BitVec 32) (v12 : BitVec 32) (v44 : BitVec 32) (v826 : BitVec 32) (v827 : BitVec 32) {k} {Q : α → sProp 𝕄}
    (h : ∀ w0, St X K c ⟨26, 26, 26, 2, 3, 1, 5, 17, 0, 7, 24, 24, 20, 24, 2, 2, 0⟩ ⊢ WP c (k w0) Q) :
    St X K c ⟨26, 26, 26, 2, 3, 1, 4, 17, 0, 5, 24, 24, 20, 24, 1, 1, 0⟩ ⊢ WP c (onBufs (k0_part31 (F := F)) c v5 v8 v9 v12 v44 v826 v827 >>= k) Q := by
  unfold onBufs; rw [k0_part31_eq_skeleton]; unfold k0_part31_skel
  simp only [semSignalWord, semWaitWord, Prog.lift, Prog.bind_op, Prog.bind_ret, Prog.pure_eq_ret, Prog.bind_assoc, bind_assoc]
  refine sendStream X K c _ 0 1 0 qB (dev8_at c) ((congrArg grp (dev8_at c)).trans (grp_ccwd c)) ((congrArg (fun d => prow d 1 0) (dev8_at c)).trans (prow_ccwd c 1 0)) (off2_at c 0) (off2_at c 0) rfl rfl (if_neg (by decide)) rfl rfl rfl (by decide) rfl (by decide) (by decide) (by decide) ?_
  refine recvStep X K c _ rfl (wait_amt (by decide) rfl) (by decide) rfl (by decide) (by decide) (by decide) ?_
  refine ringStart X K c _ 0 1 rfl rfl (off2_at c 1) (off6_at c 1) rfl (by decide) (by decide) (by decide) ?_
  exact h _

theorem part32 (v2 : BitVec 32) (v12 : BitVec 32) (v25 : BitVec 32) (v28 : BitVec 32) (v41 : BitVec 32) (v44 : BitVec 32) (v860 : BitVec 32) {k} {Q : α → sProp 𝕄}
    (h : St X K c ⟨26, 26, 26, 2, 3, 1, 6, 17, 0, 7, 24, 24, 20, 24, 2, 2, 0⟩ ⊢ WP c (k ⟨⟩) Q) :
    St X K c ⟨26, 26, 26, 2, 3, 1, 5, 17, 0, 7, 24, 24, 20, 24, 2, 2, 0⟩ ⊢ WP c (onBufs (k0_part32 (F := F)) c v2 v12 v25 v28 v41 v44 v860 >>= k) Q := by
  unfold onBufs; rw [k0_part32_eq_skeleton]; unfold k0_part32_skel
  simp only [semSignalWord, semWaitWord, Prog.lift, Prog.bind_op, Prog.bind_ret, Prog.pure_eq_ret, Prog.bind_assoc, bind_assoc]
  refine sendStream X K c _ 0 7 1 qA (dev9_at c) ((congrArg grp (dev9_at c)).trans (grp_cwd c)) ((congrArg (fun d => prow d 7 1) (dev9_at c)).trans (prow_cwd c 7 1)) (off2_at c 1) (off2_at c 1) rfl rfl (if_neg (by decide)) rfl rfl rfl (by decide) rfl (by decide) (by decide) (by decide) ?_
  exact h

theorem part33 (v2 : BitVec 32) (v12 : BitVec 32) (v25 : BitVec 32) (v28 : BitVec 32) {k} {Q : α → sProp 𝕄}
    (h : ∀ w0 w1, St X K c ⟨26, 26, 26, 2, 3, 1, 7, 17, 0, 8, 24, 24, 20, 24, 3, 2, 0⟩ ⊢ WP c (k ⟨w0, w1⟩) Q) :
    St X K c ⟨26, 26, 26, 2, 3, 1, 6, 17, 0, 7, 24, 24, 20, 24, 2, 2, 0⟩ ⊢ WP c (onBufs (k0_part33 (F := F)) c v2 v12 v25 v28 >>= k) Q := by
  unfold onBufs; rw [k0_part33_eq_skeleton]; unfold k0_part33_skel
  simp only [semSignalWord, semWaitWord, Prog.lift, Prog.bind_op, Prog.bind_ret, Prog.pure_eq_ret, Prog.bind_assoc, bind_assoc]
  refine sendStream X K c _ 0 1 1 qB (dev10_at c) ((congrArg grp (dev10_at c)).trans (grp_ccwd c)) ((congrArg (fun d => prow d 1 1) (dev10_at c)).trans (prow_ccwd c 1 1)) (off2_at c 1) (off2_at c 1) rfl rfl (if_neg (by decide)) rfl rfl rfl (by decide) rfl (by decide) (by decide) (by decide) ?_
  refine recvStep X K c _ rfl (wait_amt (by decide) rfl) (by decide) rfl (by decide) (by decide) (by decide) ?_
  exact h _ _

theorem part34 (v2 : BitVec 32) (v9 : BitVec 32) (v12 : BitVec 32) (v25 : BitVec 32) (v28 : BitVec 32) (v905 : BitVec 32) (v926 : BitVec 32) {k} {Q : α → sProp 𝕄}
    (h : ∀ w0 w1 w2 w3 w4, St X K c ⟨26, 26, 26, 2, 3, 1, 8, 17, 0, 8, 24, 24, 20, 24, 3, 3, 0⟩ ⊢ WP c (k ⟨w0, w1, w2, w3, w4⟩) Q) :
    St X K c ⟨26, 26, 26, 2, 3, 1, 7, 17, 0, 8, 24, 24, 20, 24, 3, 2, 0⟩ ⊢ WP c (onBufs (k0_part34 (F := F)) c v2 v9 v12 v25 v28 v905 v926 >>= k) Q := by
  unfold onBufs; rw [k0_part34_eq_skeleton]; unfold k0_part34_skel
  simp only [semSignalWord, semWaitWord, Prog.lift, Prog.bind_op, Prog.bind_ret, Prog.pure_eq_ret, Prog.bind_assoc, bind_assoc]
  refine sendStream X K c _ 7 6 0 qA (dev11_at c) ((congrArg grp (dev11_at c)).trans (grp_cwd c)) ((congrArg (fun d => prow d 6 0) (dev11_at c)).trans (prow_cwd c 6 0)) (off7_at c 0 0) (off7_at c 0 0) rfl rfl (if_neg (by decide)) rfl rfl rfl (by decide) rfl (by decide) (by decide) (by decide) ?_
  refine ringStart X K c _ 7 0 rfl rfl (off7_at c 0 0) (off8_at c 0 0) rfl (by decide) (by decide) (by decide) ?_
  exact h _ _ _ _ _

theorem part35 (v2 : BitVec 32) (v25 : BitVec 32) (v28 : BitVec 32) (v41 : BitVec 32) (v44 : BitVec 32) (v954 : BitVec 32) (v955 : BitVec 32) (v956 : BitVec 1) (v957 : BitVec 1) (v958 : BitVec 1) {k} {Q : α → sProp 𝕄}
    (h : ∀ w0, St X K c ⟨26, 26, 26, 2, 3, 1, 8, 17, 0, 9, 24, 24, 20, 24, 4, 3, 0⟩ ⊢ WP c (k w0) Q) :
    St X K c ⟨26, 26, 26, 2, 3, 1, 8, 17, 0, 8, 24, 24, 20, 24, 3, 3, 0⟩ ⊢ WP c (onBufs (k0_part35 (F := F)) c v2 v25 v28 v41 v44 v954 v955 v956 v957 v958 >>= k) Q := by
  unfold onBufs; rw [k0_part35_eq_skeleton]; unfold k0_part35_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  exact h _

theorem part36 (v9 : BitVec 32) (v12 : BitVec 32) (v962 : BitVec 32) {k} {Q : α → sProp 𝕄}
    (h : ∀ w0, St X K c ⟨26, 26, 26, 2, 3, 1, 9, 17, 0, 9, 24, 24, 20, 24, 4, 4, 0⟩ ⊢ WP c (k w0) Q) :
    St X K c ⟨26, 26, 26, 2, 3, 1, 8, 17, 0, 9, 24, 24, 20, 24, 4, 3, 0⟩ ⊢ WP c (onBufs (k0_part36 (F := F)) c v9 v12 v962 >>= k) Q := by
  unfold onBufs; rw [k0_part36_eq_skeleton]; unfold k0_part36_skel
  simp only [semSignalWord, semWaitWord, Prog.lift, Prog.bind_op, Prog.bind_ret, Prog.pure_eq_ret, Prog.bind_assoc, bind_assoc]
  refine sendStream X K c _ 1 2 0 qB (dev12_at c) ((congrArg grp (dev12_at c)).trans (grp_ccwd c)) ((congrArg (fun d => prow d 2 0) (dev12_at c)).trans (prow_ccwd c 2 0)) (off9_at c 0 0) (off9_at c 0 0) rfl rfl (if_neg (by decide)) rfl rfl rfl (by decide) rfl (by decide) (by decide) (by decide) ?_
  refine ringStart X K c _ 1 0 rfl rfl (off9_at c 0 0) (off10_at c 0 0) rfl (by decide) (by decide) (by decide) ?_
  exact h _

theorem part37 (v2 : BitVec 32) (v9 : BitVec 32) (v25 : BitVec 32) (v28 : BitVec 32) (v1019 : BitVec 32) {k} {Q : α → sProp 𝕄}
    (h : ∀ w0 w1, St X K c ⟨26, 26, 26, 2, 3, 1, 10, 17, 0, 10, 24, 24, 20, 24, 5, 4, 0⟩ ⊢ WP c (k ⟨w0, w1⟩) Q) :
    St X K c ⟨26, 26, 26, 2, 3, 1, 9, 17, 0, 9, 24, 24, 20, 24, 4, 4, 0⟩ ⊢ WP c (onBufs (k0_part37 (F := F)) c v2 v9 v25 v28 v1019 >>= k) Q := by
  unfold onBufs; rw [k0_part37_eq_skeleton]; unfold k0_part37_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine sendStream X K c _ 7 6 1 qA (dev13_at c) ((congrArg grp (dev13_at c)).trans (grp_cwd c)) ((congrArg (fun d => prow d 6 1) (dev13_at c)).trans (prow_cwd c 6 1)) (off7_at c 0 1) (off7_at c 0 1) rfl rfl (if_neg (by decide)) rfl rfl rfl (by decide) rfl (by decide) (by decide) (by decide) ?_
  exact h _ _

theorem part38 (v2 : BitVec 32) (v12 : BitVec 32) (v25 : BitVec 32) (v28 : BitVec 32) (v1019 : BitVec 32) (v1057 : BitVec 32) (c2_i32_972 : BitVec 32) {k} {Q : α → sProp 𝕄}
    (h : ∀ w0, St X K c ⟨26, 26, 26, 2, 3, 1, 10, 17, 0, 10, 24, 24, 20, 24, 5, 5, 0⟩ ⊢ WP c (k w0) Q) :
    St X K c ⟨26, 26, 26, 2, 3, 1, 10, 17, 0, 10, 24, 24, 20, 24, 5, 4, 0⟩ ⊢ WP c (onBufs (k0_part38 (F := F)) c v2 v12 v25 v28 v1019 v1057 c2_i32_972 >>= k) Q := by
  unfold onBufs; rw [k0_part38_eq_skeleton]; unfold k0_part38_skel
  simp only [semSignalWord, semWaitWord, Prog.lift, Prog.bind_op, Prog.bind_ret, Prog.pure_eq_ret, Prog.bind_assoc, bind_assoc]
  refine ringStart X K c _ 7 1 rfl rfl (off7_at c 0 1) (off8_at c 0 1) rfl (by decide) (by decide) (by decide) ?_
  exact h _

theorem part39 (v2 : BitVec 32) (v9 : BitVec 32) (v12 : BitVec 32) (v41 : BitVec 32) (v44 : BitVec 32) (v1076 : BitVec 32) {k} {Q : α → sProp 𝕄}
    (h : ∀ w0, St X K c ⟨26, 26, 26, 2, 3, 1, 11, 17, 0, 11, 24, 24, 20, 24, 6, 6, 0⟩ ⊢ WP c (k w0) Q) :
    St X K c ⟨26, 26, 26, 2, 3, 1, 10, 17, 0, 10, 24, 24, 20, 24, 5, 5, 0⟩ ⊢ WP c (onBufs (k0_part39 (F := F)) c v2 v9 v12 v41 v44 v1076 >>= k) Q := by
  unfold onBufs; rw [k0_part39_eq_skeleton]; unfold k0_part39_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine sendStream X K c _ 1 2 1 qB (dev14_at c) ((congrArg grp (dev14_at c)).trans (grp_ccwd c)) ((congrArg (fun d => prow d 2 1) (dev14_at c)).trans (prow_ccwd c 2 1)) (off9_at c 0 1) (off9_at c 0 1) rfl rfl (if_neg (by decide)) rfl rfl rfl (by decide) rfl (by decide) (by decide) (by decide) ?_
  refine ringStart X K c _ 1 1 rfl rfl (off9_at c 0 1) (off10_at c 0 1) rfl (by decide) (by decide) (by decide) ?_
  exact h _

theorem part40 (v2 : BitVec 32) (v25 : BitVec 32) (v28 : BitVec 32) (v1123 : BitVec 32) {k} {Q : α → sProp 𝕄}
    (h : ∀ w0, St X K c ⟨26, 26, 26, 2, 3, 1, 11, 17, 0, 12, 24, 24, 20, 24, 7, 6, 0⟩ ⊢ WP c (k w0) Q) :
    St X K c ⟨26, 26, 26, 2, 3, 1, 11, 17, 0, 11, 24, 24, 20, 24, 6, 6, 0⟩ ⊢ WP c (onBufs (k0_part40 (F := F)) c v2 v25 v28 v1123 >>= k) Q := by
  unfold onBufs; rw [k0_part40_eq_skeleton]; unfold k0_part40_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  exact h _

theorem part41 (v2 : BitVec 32) (v9 : BitVec 32) (v12 : BitVec 32) (v25 : BitVec 32) (v28 : BitVec 32) (v1133 : BitVec 32) {k} {Q : α → sProp 𝕄}
    (h : ∀ w0, St X K c ⟨26, 26, 26, 2, 3, 1, 12, 17, 0, 12, 24, 24, 20, 24, 7, 7, 0⟩ ⊢ WP c (k w0) Q) :
    St X K c ⟨26, 26, 26, 2, 3, 1, 11, 17, 0, 12, 24, 24, 20, 24, 7, 6, 0⟩ ⊢ WP c (onBufs (k0_part41 (F := F)) c v2 v9 v12 v25 v28 v1133 >>= k) Q := by
  unfold onBufs; rw [k0_part41_eq_skeleton]; unfold k0_part41_skel
  simp only [semSignalWord, semWaitWord, Prog.lift, Prog.bind_op, Prog.bind_ret, Prog.pure_eq_ret, Prog.bind_assoc, bind_assoc]
  refine sendStream X K c _ 6 5 0 qA (dev15_at c) ((congrArg grp (dev15_at c)).trans (grp_cwd c)) ((congrArg (fun d => prow d 5 0) (dev15_at c)).trans (prow_cwd c 5 0)) (off7_at c 1 0) (off7_at c 1 0) rfl rfl (if_neg (by decide)) rfl rfl rfl (by decide) rfl (by decide) (by decide) (by decide) ?_
  refine ringStart X K c _ 6 0 rfl rfl (off7_at c 1 0) (off8_at c 1 0) rfl (by decide) (by decide) (by decide) ?_
  exact h _

theorem part42 (v2 : BitVec 32) (v25 : BitVec 32) (v28 : BitVec 32) (v41 : BitVec 32) (v44 : BitVec 32) (v1190 : BitVec 32) {k} {Q : α → sProp 𝕄}
    (h : St X K c ⟨26, 26, 26, 2, 3, 1, 12, 17, 0, 13, 24, 24, 20, 24, 8, 7, 0⟩ ⊢ WP c (k ⟨⟩) Q) :
    St X K c ⟨26, 26, 26, 2, 3, 1, 12, 17, 0, 12, 24, 24, 20, 24, 7, 7, 0⟩ ⊢ WP c (onBufs (k0_part42 (F := F)) c v2 v25 v28 v41 v44 v1190 >>= k) Q := by
  unfold onBufs; rw [k0_part42_eq_skeleton]; unfold k0_part42_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  exact h

theorem part43 (v2 : BitVec 32) (v9 : BitVec 32) (v12 : BitVec 32) (v1190 : BitVec 32) {k} {Q : α → sProp 𝕄}
    (h : ∀ w0 w1 w2, St X K c ⟨26, 26, 26, 2, 3, 1, 13, 17, 0, 13, 24, 24, 20, 24, 8, 8, 0⟩ ⊢ WP c (k ⟨w0, w1, w2⟩) Q) :
    St X K c ⟨26, 26, 26, 2, 3, 1, 12, 17, 0, 13, 24, 24, 20, 24, 8, 7, 0⟩ ⊢ WP c (onBufs (k0_part43 (F := F)) c v2 v9 v12 v1190 >>= k) Q := by
  unfold onBufs; rw [k0_part43_eq_skeleton]; unfold k0_part43_skel
  simp only [semSignalWord, semWaitWord, Prog.lift, Prog.bind_op, Prog.bind_ret, Prog.pure_eq_ret, Prog.bind_assoc, bind_assoc]
  refine sendStream X K c _ 2 3 0 qB (dev16_at c) ((congrArg grp (dev16_at c)).trans (grp_ccwd c)) ((congrArg (fun d => prow d 3 0) (dev16_at c)).trans (prow_ccwd c 3 0)) (off9_at c 1 0) (off9_at c 1 0) rfl rfl (if_neg (by decide)) rfl rfl rfl (by decide) rfl (by decide) (by decide) (by decide) ?_
  refine ringStart X K c _ 2 0 rfl rfl (off9_at c 1 0) (off10_at c 1 0) rfl (by decide) (by decide) (by decide) ?_
  exact h _ _ _

end Parts

end Cert.KernelIdealGather

end
-- ==== Proof.KernelIdeal.Parts4.lean ====
/-
# The parts of the body, 44 to 61
-/
module

public import proofs.«01_k».proof.Proof.KernelIdeal.StepsD

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Parts
variable (X : Dev nD → S16384x1024.Idx → Elt F .f32) (K : Dev nD × Fin 35 → ℕ) (c : Dev nD)
variable {α : Type}

theorem part44 (v2 : BitVec 32) (v25 : BitVec 32) (v28 : BitVec 32) (v1247 : BitVec 32) (v1254 : BitVec 32) (c0_i32_1123 : BitVec 32) {k} {Q : α → sProp 𝕄}
    (h : ∀ w0 w1, St X K c ⟨26, 26, 26, 2, 3, 1, 14, 17, 0, 14, 24, 24, 20, 24, 9, 8, 1⟩ ⊢ WP c (k ⟨w0, w1⟩) Q) :
    St X K c ⟨26, 26, 26, 2, 3, 1, 13, 17, 0, 13, 24, 24, 20, 24, 8, 8, 0⟩ ⊢ WP c (onBufs (k0_part44 (F := F)) c v2 v25 v28 v1247 v1254 c0_i32_1123 >>= k) Q := by
  unfold onBufs; rw [k0_part44_eq_skeleton]; unfold k0_part44_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine sendStream X K c _ 6 5 1 qA (dev17_at c) ((congrArg grp (dev17_at c)).trans (grp_cwd c)) ((congrArg (fun d => prow d 5 1) (dev17_at c)).trans (prow_cwd c 5 1)) (off7_at c 1 1) (off7_at c 1 1) rfl rfl (if_neg (by decide)) rfl rfl rfl (by decide) rfl (by decide) (by decide) (by decide) ?_
  refine ringWait X K c _ rfl rfl (by decide) (by decide) ?_
  exact h _ _

theorem part45 (v2 : BitVec 32) (v9 : BitVec 32) (v12 : BitVec 32) (v25 : BitVec 32) (v28 : BitVec 32) (v1247 : BitVec 32) (v1287 : BitVec 32) (c704_i32_1147 : BitVec 32) {k} {Q : α → sProp 𝕄}
    (h : ∀ w0, St X K c ⟨26, 26, 26, 2, 3, 1, 14, 17, 0, 14, 24, 24, 20, 24, 9, 9, 1⟩ ⊢ WP c (k w0) Q) :
    St X K c ⟨26, 26, 26, 2, 3, 1, 14, 17, 0, 14, 24, 24, 20, 24, 9, 8, 1⟩ ⊢ WP c (onBufs (k0_part45 (F := F)) c v2 v9 v12 v25 v28 v1247 v1287 c704_i32_1147 >>= k) Q := by
  unfold onBufs; rw [k0_part45_eq_skeleton]; unfold k0_part45_skel
  simp only [semSignalWord, semWaitWord, Prog.lift, Prog.bind_op, Prog.bind_ret, Prog.pure_eq_ret, Prog.bind_assoc, bind_assoc]
  refine ringStart X K c _ 6 1 rfl rfl (off7_at c 1 1) (off8_at c 1 1) rfl (by decide) (by decide) (by decide) ?_
  exact h _

theorem part46 (v2 : BitVec 32) (v9 : BitVec 32) (v41 : BitVec 32) (v44 : BitVec 32) (v1308 : BitVec 32) {k} {Q : α → sProp 𝕄}
    (h : ∀ w0 w1 w2, St X K c ⟨26, 26, 26, 2, 3, 1, 15, 17, 0, 15, 24, 24, 20, 24, 10, 9, 2⟩ ⊢ WP c (k ⟨w0, w1, w2⟩) Q) :
    St X K c ⟨26, 26, 26, 2, 3, 1, 14, 17, 0, 14, 24, 24, 20, 24, 9, 9, 1⟩ ⊢ WP c (onBufs (k0_part46 (F := F)) c v2 v9 v41 v44 v1308 >>= k) Q := by
  unfold onBufs; rw [k0_part46_eq_skeleton]; unfold k0_part46_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine sendStream X K c _ 2 3 1 qB (dev18_at c) ((congrArg grp (dev18_at c)).trans (grp_ccwd c)) ((congrArg (fun d => prow d 3 1) (dev18_at c)).trans (prow_ccwd c 3 1)) (off9_at c 1 1) (off9_at c 1 1) rfl rfl (if_neg (by decide)) rfl rfl rfl (by decide) rfl (by decide) (by decide) (by decide) ?_
  refine ringWait X K c _ rfl rfl (by decide) (by decide) ?_
  exact h _ _ _

theorem part47 (v2 : BitVec 32) (v12 : BitVec 32) (v25 : BitVec 32) (v28 : BitVec 32) (v1350 : BitVec 32) (v1352 : BitVec 32) (c704_i32_1198 : BitVec 32) {k} {Q : α → sProp 𝕄}
    (h : ∀ w0 w1, St X K c ⟨26, 26, 26, 2, 3, 1, 15, 17, 0, 16, 24, 24, 20, 24, 11, 10, 2⟩ ⊢ WP c (k ⟨w0, w1⟩) Q) :
    St X K c ⟨26, 26, 26, 2, 3, 1, 15, 17, 0, 15, 24, 24, 20, 24, 10, 9, 2⟩ ⊢ WP c (onBufs (k0_part47 (F := F)) c v2 v12 v25 v28 v1350 v1352 c704_i32_1198 >>= k) Q := by
  unfold onBufs; rw [k0_part47_eq_skeleton]; unfold k0_part47_skel
  simp only [semSignalWord, semWaitWord, Prog.lift, Prog.bind_op, Prog.bind_ret, Prog.pure_eq_ret, Prog.bind_assoc, bind_assoc]
  refine ringStart X K c _ 2 1 rfl rfl (off9_at c 1 1) (off10_at c 1 1) rfl (by decide) (by decide) (by decide) ?_
  refine recvStep X K c _ rfl (wait_amt (by decide) rfl) (by decide) rfl (by decide) (by decide) (by decide) ?_
  exact h _ _

theorem part48 (v2 : BitVec 32) (v9 : BitVec 32) (v25 : BitVec 32) (v28 : BitVec 32) (v1369 : BitVec 32) (v1386 : BitVec 32) {k} {Q : α → sProp 𝕄}
    (h : St X K c ⟨26, 26, 26, 2, 3, 1, 16, 17, 0, 16, 24, 24, 20, 24, 11, 10, 3⟩ ⊢ WP c (k ⟨⟩) Q) :
    St X K c ⟨26, 26, 26, 2, 3, 1, 15, 17, 0, 16, 24, 24, 20, 24, 11, 10, 2⟩ ⊢ WP c (onBufs (k0_part48 (F := F)) c v2 v9 v25 v28 v1369 v1386 >>= k) Q := by
  unfold onBufs; rw [k0_part48_eq_skeleton]; unfold k0_part48_skel
  simp only [semSignalWord, semWaitWord, Prog.lift, Prog.bind_op, Prog.bind_ret, Prog.pure_eq_ret, Prog.bind_assoc, bind_assoc]
  refine sendStream X K c _ 5 4 0 qA (dev19_at c) ((congrArg grp (dev19_at c)).trans (grp_cwd c)) ((congrArg (fun d => prow d 4 0) (dev19_at c)).trans (prow_cwd c 4 0)) (off7_at c 2 0) (off7_at c 2 0) rfl rfl (if_neg (by decide)) rfl rfl rfl (by decide) rfl (by decide) (by decide) (by decide) ?_
  refine ringWait X K c _ rfl rfl (by decide) (by decide) ?_
  exact h

theorem part49 (v2 : BitVec 32) (v12 : BitVec 32) (v25 : BitVec 32) (v28 : BitVec 32) {k} {Q : α → sProp 𝕄}
    (h : ∀ w0 w1, St X K c ⟨26, 26, 26, 2, 3, 1, 16, 17, 0, 17, 24, 24, 20, 24, 12, 11, 3⟩ ⊢ WP c (k ⟨w0, w1⟩) Q) :
    St X K c ⟨26, 26, 26, 2, 3, 1, 16, 17, 0, 16, 24, 24, 20, 24, 11, 10, 3⟩ ⊢ WP c (onBufs (k0_part49 (F := F)) c v2 v12 v25 v28 >>= k) Q := by
  unfold onBufs; rw [k0_part49_eq_skeleton]; unfold k0_part49_skel
  simp only [semSignalWord, semWaitWord, Prog.lift, Prog.bind_op, Prog.bind_ret, Prog.pure_eq_ret, Prog.bind_assoc, bind_assoc]
  refine ringStart X K c _ 5 0 rfl rfl (off7_at c 2 0) (off8_at c 2 0) rfl (by decide) (by decide) (by decide) ?_
  refine recvStep X K c _ rfl (wait_amt (by decide) rfl) (by decide) rfl (by decide) (by decide) (by decide) ?_
  exact h _ _

theorem part50 (v2 : BitVec 32) (v9 : BitVec 32) (v12 : BitVec 32) (v25 : BitVec 32) (v28 : BitVec 32) (v1430 : BitVec 32) (v1451 : BitVec 32) {k} {Q : α → sProp 𝕄}
    (h : ∀ w0 w1 w2 w3, St X K c ⟨26, 26, 26, 2, 3, 1, 17, 17, 0, 17, 24, 24, 20, 24, 12, 12, 4⟩ ⊢ WP c (k ⟨w0, w1, w2, w3⟩) Q) :
    St X K c ⟨26, 26, 26, 2, 3, 1, 16, 17, 0, 17, 24, 24, 20, 24, 12, 11, 3⟩ ⊢ WP c (onBufs (k0_part50 (F := F)) c v2 v9 v12 v25 v28 v1430 v1451 >>= k) Q := by
  unfold onBufs; rw [k0_part50_eq_skeleton]; unfold k0_part50_skel
  simp only [semSignalWord, semWaitWord, Prog.lift, Prog.bind_op, Prog.bind_ret, Prog.pure_eq_ret, Prog.bind_assoc, bind_assoc]
  refine sendStream X K c _ 5 4 1 qA (dev20_at c) ((congrArg grp (dev20_at c)).trans (grp_cwd c)) ((congrArg (fun d => prow d 4 1) (dev20_at c)).trans (prow_cwd c 4 1)) (off7_at c 2 1) (off7_at c 2 1) rfl rfl (if_neg (by decide)) rfl rfl rfl (by decide) rfl (by decide) (by decide) (by decide) ?_
  refine ringWait X K c _ rfl rfl (by decide) (by decide) ?_
  refine ringStart X K c _ 5 1 rfl rfl (off7_at c 2 1) (off8_at c 2 1) rfl (by decide) (by decide) (by decide) ?_
  exact h _ _ _ _

theorem part51 (v2 : BitVec 32) (v12 : BitVec 32) (v25 : BitVec 32) (v28 : BitVec 32) (v1481 : BitVec 32) (c8_i32_1297 : BitVec 32) (v1482 : BitVec 1) (c1_i32_1299 : BitVec 32) {k} {Q : α → sProp 𝕄}
    (h : ∀ w0, St X K c ⟨26, 26, 26, 2, 3, 1, 17, 17, 0, 17, 24, 24, 20, 24, 13, 12, 4⟩ ⊢ WP c (k w0) Q) :
    St X K c ⟨26, 26, 26, 2, 3, 1, 17, 17, 0, 17, 24, 24, 20, 24, 12, 12, 4⟩ ⊢ WP c (onBufs (k0_part51 (F := F)) c v2 v12 v25 v28 v1481 c8_i32_1297 v1482 c1_i32_1299 >>= k) Q := by
  unfold onBufs; rw [k0_part51_eq_skeleton]; unfold k0_part51_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  exact h _

theorem part52 (v9 : BitVec 32) (v12 : BitVec 32) (v1518 : BitVec 32) {k} {Q : α → sProp 𝕄}
    (h : ∀ w0 w1, St X K c ⟨26, 26, 26, 2, 3, 1, 17, 17, 0, 17, 24, 24, 20, 24, 13, 13, 5⟩ ⊢ WP c (k ⟨w0, w1⟩) Q) :
    St X K c ⟨26, 26, 26, 2, 3, 1, 17, 17, 0, 17, 24, 24, 20, 24, 13, 12, 4⟩ ⊢ WP c (onBufs (k0_part52 (F := F)) c v9 v12 v1518 >>= k) Q := by
  unfold onBufs; rw [k0_part52_eq_skeleton]; unfold k0_part52_skel
  simp only [semSignalWord, semWaitWord, Prog.lift, Prog.bind_op, Prog.bind_ret, Prog.pure_eq_ret, Prog.bind_assoc, bind_assoc]
  refine ringWait X K c _ rfl rfl (by decide) (by decide) ?_
  refine ringStart X K c _ 4 0 rfl rfl (off7_at c 3 0) (off8_at c 3 0) rfl (by decide) (by decide) (by decide) ?_
  exact h _ _

theorem part53 (v2 : BitVec 32) (v9 : BitVec 32) (v12 : BitVec 32) (v25 : BitVec 32) (v28 : BitVec 32) (v1550 : BitVec 32) (c704_i32_1348 : BitVec 32) {k} {Q : α → sProp 𝕄}
    (h : St X K c ⟨26, 26, 26, 2, 3, 1, 17, 17, 0, 17, 24, 24, 20, 24, 14, 13, 6⟩ ⊢ WP c (k ⟨⟩) Q) :
    St X K c ⟨26, 26, 26, 2, 3, 1, 17, 17, 0, 17, 24, 24, 20, 24, 13, 13, 5⟩ ⊢ WP c (onBufs (k0_part53 (F := F)) c v2 v9 v12 v25 v28 v1550 c704_i32_1348 >>= k) Q := by
  unfold onBufs; rw [k0_part53_eq_skeleton]; unfold k0_part53_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine ringWait X K c _ rfl rfl (by decide) (by decide) ?_
  exact h

theorem part54 (v2 : BitVec 32) (v12 : BitVec 32) (v25 : BitVec 32) (v28 : BitVec 32) {k} {Q : α → sProp 𝕄}
    (h : ∀ w0 w1 w2, St X K c ⟨26, 26, 26, 2, 3, 1, 17, 17, 0, 17, 24, 24, 20, 24, 15, 14, 6⟩ ⊢ WP c (k ⟨w0, w1, w2⟩) Q) :
    St X K c ⟨26, 26, 26, 2, 3, 1, 17, 17, 0, 17, 24, 24, 20, 24, 14, 13, 6⟩ ⊢ WP c (onBufs (k0_part54 (F := F)) c v2 v12 v25 v28 >>= k) Q := by
  unfold onBufs; rw [k0_part54_eq_skeleton]; unfold k0_part54_skel
  simp only [semSignalWord, semWaitWord, Prog.lift, Prog.bind_op, Prog.bind_ret, Prog.pure_eq_ret, Prog.bind_assoc, bind_assoc]
  refine ringStart X K c _ 3 0 rfl rfl (off9_at c 2 0) (off10_at c 2 0) rfl (by decide) (by decide) (by decide) ?_
  refine recvStep X K c _ rfl (wait_amt (by decide) rfl) (by decide) rfl (by decide) (by decide) (by decide) ?_
  exact h _ _ _

theorem part55 (v9 : BitVec 32) (v12 : BitVec 32) (v1616 : BitVec 32) (c8_i32_1397 : BitVec 32) (c0_i32_1398 : BitVec 32) {k} {Q : α → sProp 𝕄}
    (h : ∀ w0 w1 w2 w3, St X K c ⟨26, 26, 26, 2, 3, 1, 17, 17, 0, 17, 24, 24, 20, 24, 15, 15, 7⟩ ⊢ WP c (k ⟨w0, w1, w2, w3⟩) Q) :
    St X K c ⟨26, 26, 26, 2, 3, 1, 17, 17, 0, 17, 24, 24, 20, 24, 15, 14, 6⟩ ⊢ WP c (onBufs (k0_part55 (F := F)) c v9 v12 v1616 c8_i32_1397 c0_i32_1398 >>= k) Q := by
  unfold onBufs; rw [k0_part55_eq_skeleton]; unfold k0_part55_skel
  simp only [semSignalWord, semWaitWord, Prog.lift, Prog.bind_op, Prog.bind_ret, Prog.pure_eq_ret, Prog.bind_assoc, bind_assoc]
  refine ringWait X K c _ rfl rfl (by decide) (by decide) ?_
  refine ringStart X K c _ 4 1 rfl rfl (off7_at c 3 1) (off8_at c 3 1) rfl (by decide) (by decide) (by decide) ?_
  exact h _ _ _ _

theorem part56 (v2 : BitVec 32) (v12 : BitVec 32) (v25 : BitVec 32) (v28 : BitVec 32) (v1645 : BitVec 32) (v1646 : BitVec 32) (v1647 : BitVec 1) (v1650 : BitVec 1) {k} {Q : α → sProp 𝕄}
    (h : ∀ w0 w1, St X K c ⟨26, 26, 26, 2, 3, 1, 17, 17, 0, 17, 24, 24, 20, 24, 16, 15, 8⟩ ⊢ WP c (k ⟨w0, w1⟩) Q) :
    St X K c ⟨26, 26, 26, 2, 3, 1, 17, 17, 0, 17, 24, 24, 20, 24, 15, 15, 7⟩ ⊢ WP c (onBufs (k0_part56 (F := F)) c v2 v12 v25 v28 v1645 v1646 v1647 v1650 >>= k) Q := by
  unfold onBufs; rw [k0_part56_eq_skeleton]; unfold k0_part56_skel
  simp only [semSignalWord, semWaitWord, Prog.lift, Prog.bind_op, Prog.bind_ret, Prog.pure_eq_ret, Prog.bind_assoc, bind_assoc]
  refine recvStep X K c _ rfl (wait_amt (by decide) rfl) (by decide) rfl (by decide) (by decide) (by decide) ?_
  refine ringWait X K c _ rfl rfl (by decide) (by decide) ?_
  exact h _ _

theorem part57 (v5 : BitVec 32) (v8 : BitVec 32) (v9 : BitVec 32) (v1680 : BitVec 32) (c2_i32_1446 : BitVec 32) {k} {Q : α → sProp 𝕄}
    (h : St X K c ⟨26, 26, 26, 2, 3, 1, 17, 17, 2, 17, 24, 24, 20, 24, 17, 16, 8⟩ ⊢ WP c (k ⟨⟩) Q) :
    St X K c ⟨26, 26, 26, 2, 3, 1, 17, 17, 0, 17, 24, 24, 20, 24, 16, 15, 8⟩ ⊢ WP c (onBufs (k0_part57 (F := F)) c v5 v8 v9 v1680 c2_i32_1446 >>= k) Q := by
  unfold onBufs; rw [k0_part57_eq_skeleton]; unfold k0_part57_skel
  simp only [semSignalWord, semWaitWord, Prog.lift, Prog.bind_op, Prog.bind_ret, Prog.pure_eq_ret, Prog.bind_assoc, bind_assoc]
  refine ringStart X K c _ 3 1 rfl rfl (off9_at c 2 1) (off10_at c 2 1) rfl (by decide) (by decide) (by decide) ?_
  refine recvRem X K c _ rfl rfl rfl rfl ?_
  refine sendWait X K c _ rfl (wait_amt (by decide) rfl) (by decide) (by decide) ?_
  refine sendWait X K c _ rfl (wait_amt (by decide) rfl) (by decide) (by decide) ?_
  exact h

theorem part58  {k} {Q : α → sProp 𝕄}
    (h : St X K c ⟨26, 26, 26, 2, 3, 1, 17, 17, 8, 17, 24, 24, 20, 24, 17, 16, 8⟩ ⊢ WP c (k ⟨⟩) Q) :
    St X K c ⟨26, 26, 26, 2, 3, 1, 17, 17, 2, 17, 24, 24, 20, 24, 17, 16, 8⟩ ⊢ WP c (onBufs (k0_part58 (F := F)) c  >>= k) Q := by
  unfold onBufs; rw [k0_part58_eq_skeleton]; unfold k0_part58_skel
  simp only [semSignalWord, semWaitWord, Prog.lift, Prog.bind_op, Prog.bind_ret, Prog.pure_eq_ret, Prog.bind_assoc, bind_assoc]
  refine sendWait X K c _ rfl (Eq.trans (b := NR) rfl (if_pos (by decide)).symm) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  exact h

theorem part59  {k} {Q : α → sProp 𝕄}
    (h : St X K c ⟨26, 26, 26, 2, 3, 1, 17, 17, 14, 17, 24, 24, 20, 24, 17, 16, 8⟩ ⊢ WP c (k ⟨⟩) Q) :
    St X K c ⟨26, 26, 26, 2, 3, 1, 17, 17, 8, 17, 24, 24, 20, 24, 17, 16, 8⟩ ⊢ WP c (onBufs (k0_part59 (F := F)) c  >>= k) Q := by
  unfold onBufs; rw [k0_part59_eq_skeleton]; unfold k0_part59_skel
  simp only [semSignalWord, semWaitWord, Prog.lift, Prog.bind_op, Prog.bind_ret, Prog.pure_eq_ret, Prog.bind_assoc, bind_assoc]
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  exact h

theorem part60  {k} {Q : α → sProp 𝕄}
    (h : St X K c ⟨26, 26, 26, 2, 3, 1, 17, 17, 17, 17, 24, 24, 24, 24, 17, 16, 8⟩ ⊢ WP c (k ⟨⟩) Q) :
    St X K c ⟨26, 26, 26, 2, 3, 1, 17, 17, 14, 17, 24, 24, 20, 24, 17, 16, 8⟩ ⊢ WP c (onBufs (k0_part60 (F := F)) c  >>= k) Q := by
  unfold onBufs; rw [k0_part60_eq_skeleton]; unfold k0_part60_skel
  simp only [semSignalWord, semWaitWord, Prog.lift, Prog.bind_op, Prog.bind_ret, Prog.pure_eq_ret, Prog.bind_assoc, bind_assoc]
  refine sendWait X K c _ rfl (wait_amt (by decide) rfl) (by decide) (by decide) ?_
  refine sendWait X K c _ rfl (wait_amt (by decide) rfl) (by decide) (by decide) ?_
  refine sendWait X K c _ rfl (wait_amt (by decide) rfl) (by decide) (by decide) ?_
  refine ownWait X K c _ rfl rfl (by decide) (by decide) (by decide) ?_
  refine ownWait X K c _ rfl rfl (by decide) (by decide) (by decide) ?_
  refine ownWait X K c _ rfl rfl (by decide) (by decide) (by decide) ?_
  refine ownWait X K c _ rfl rfl (by decide) (by decide) (by decide) ?_
  exact h

theorem part61  {k} {Q : α → sProp 𝕄}
    (h : St X K c ⟨26, 26, 26, 2, 3, 1, 17, 17, 17, 17, 24, 24, 24, 24, 17, 16, 15⟩ ⊢ WP c (k ⟨⟩) Q) :
    St X K c ⟨26, 26, 26, 2, 3, 1, 17, 17, 17, 17, 24, 24, 24, 24, 17, 16, 8⟩ ⊢ WP c (onBufs (k0_part61 (F := F)) c  >>= k) Q := by
  unfold onBufs; rw [k0_part61_eq_skeleton]; unfold k0_part61_skel
  simp only [semSignalWord, semWaitWord, Prog.lift, Prog.bind_op, Prog.bind_ret, Prog.pure_eq_ret, Prog.bind_assoc, bind_assoc]
  refine ringWait X K c _ rfl rfl (by decide) (by decide) ?_
  refine ringWait X K c _ rfl rfl (by decide) (by decide) ?_
  refine ringWait X K c _ rfl rfl (by decide) (by decide) ?_
  refine ringWait X K c _ rfl rfl (by decide) (by decide) ?_
  refine ringWait X K c _ rfl rfl (by decide) (by decide) ?_
  refine ringWait X K c _ rfl rfl (by decide) (by decide) ?_
  refine ringWait X K c _ rfl rfl (by decide) (by decide) ?_
  exact h

end Parts

end Cert.KernelIdealGather

end
-- ==== Proof.KernelIdeal.Body.lean ====
/-
# The whole body, from the state it starts in to the state it ends in
-/
module

public import proofs.«01_k».proof.Proof.KernelIdeal.Parts1
public import proofs.«01_k».proof.Proof.KernelIdeal.Parts2
public import proofs.«01_k».proof.Proof.KernelIdeal.Parts3
public import proofs.«01_k».proof.Proof.KernelIdeal.Parts4
public import proofs.«01_k».proof.Proof.Gen.KernelIdeal.Points

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Body
variable (X : Dev nD → S16384x1024.Idx → Elt F .f32) (K : Dev nD × Fin 35 → ℕ) (c : Dev nD)

theorem part62 {Q : Dev nD → sProp 𝕄} (h : St X K c ⟨26, 26, 26, 2, 3, 1, 17, 17, 17, 17, 24, 24, 24, 24, 17, 16, 8⟩ ⊢ Q c) :
    St X K c ⟨0, 0, 0, 0, 0, 0, 0, 0, 0, 0, 0, 0, 0, 16, 0, 0, 0⟩ ⊢ WP c (k0_part62 (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16) Q := by
  rw [k0_part62_eq_skeleton]; unfold k0_part62_skel
  refine part1 X K c (fun _ _ _ _ _ _ _ _ _ _ => ?_)
  refine part2 X K c _ _ _ _ _ _ _ (fun _ _ _ _ => ?_)
  refine part3 X K c _ _ _ _ _ _ _ _ ?_
  refine part4 X K c _ _ _ _ (fun _ _ => ?_)
  refine part5 X K c _ _ ?_
  refine part6 X K c _ ?_
  refine part7 X K c _ ?_
  refine part8 X K c _ ?_
  refine part9 X K c _ ?_
  refine part10 X K c _ ?_
  refine part11 X K c _ (fun _ _ => ?_)
  refine part12 X K c _ _ ?_
  refine part13 X K c _ ?_
  refine part14 X K c _ ?_
  refine part15 X K c _ ?_
  refine part16 X K c _ ?_
  refine part17 X K c _ (fun _ => ?_)
  refine part18 X K c _ _ ?_
  refine part19 X K c _ ?_
  refine part20 X K c _ ?_
  refine part21 X K c _ ?_
  refine part22 X K c _ ?_
  refine part23 X K c _ ?_
  refine part24 X K c _ ?_
  refine part25 X K c _ ?_
  refine part26 X K c _ ?_
  refine part27 X K c _ ?_
  refine part28 X K c _ ?_
  refine part29 X K c _ _ _ _ _ ?_
  refine part30 X K c _ _ _ _ _ (fun _ _ => ?_)
  refine part31 X K c _ _ _ _ _ _ _ (fun _ => ?_)
  refine part32 X K c _ _ _ _ _ _ _ ?_
  refine part33 X K c _ _ _ _ (fun _ _ => ?_)
  refine part34 X K c _ _ _ _ _ _ _ (fun _ _ _ _ _ => ?_)
  refine part35 X K c _ _ _ _ _ _ _ _ _ _ (fun _ => ?_)
  refine part36 X K c _ _ _ (fun _ => ?_)
  refine part37 X K c _ _ _ _ _ (fun _ _ => ?_)
  refine part38 X K c _ _ _ _ _ _ _ (fun _ => ?_)
  refine part39 X K c _ _ _ _ _ _ (fun _ => ?_)
  refine part40 X K c _ _ _ _ (fun _ => ?_)
  refine part41 X K c _ _ _ _ _ _ (fun _ => ?_)
  refine part42 X K c _ _ _ _ _ _ ?_
  refine part43 X K c _ _ _ _ (fun _ _ _ => ?_)
  refine part44 X K c _ _ _ _ _ _ (fun _ _ => ?_)
  refine part45 X K c _ _ _ _ _ _ _ _ (fun _ => ?_)
  refine part46 X K c _ _ _ _ _ (fun _ _ _ => ?_)
  refine part47 X K c _ _ _ _ _ _ _ (fun _ _ => ?_)
  refine part48 X K c _ _ _ _ _ _ ?_
  refine part49 X K c _ _ _ _ (fun _ _ => ?_)
  refine part50 X K c _ _ _ _ _ _ _ (fun _ _ _ _ => ?_)
  refine part51 X K c _ _ _ _ _ _ _ _ (fun _ => ?_)
  refine part52 X K c _ _ _ (fun _ _ => ?_)
  refine part53 X K c _ _ _ _ _ _ _ ?_
  refine part54 X K c _ _ _ _ (fun _ _ _ => ?_)
  refine part55 X K c _ _ _ _ _ (fun _ _ _ _ => ?_)
  refine part56 X K c _ _ _ _ _ _ _ _ (fun _ _ => ?_)
  refine part57 X K c _ _ _ _ _ ?_
  refine part58 X K c ?_
  refine part59 X K c ?_
  refine part60 X K c ?_
  rw [Prog.pure_eq_ret]; unfold WP; rw [wp_ret]
  exact h.trans fupd_intro

/-- The body takes the first state to the last. -/
theorem body_run (t : Fin cfg0.N) {Q : PUnit → sProp 𝕄} (h : St X K c ⟨26, 26, 26, 2, 3, 1, 17, 17, 17, 17, 24, 24, 24, 24, 17, 16, 16⟩ ⊢ Q ⟨⟩) :
    St X K c ⟨0, 0, 0, 0, 0, 0, 0, 0, 0, 0, 0, 0, 0, 16, 0, 0, 0⟩ ⊢ WP c (Gen.bodyAt0 (F := F) t) Q := by
  unfold Gen.bodyAt0
  rw [cc0_body_eq_skeleton]; unfold cc0_body_skel
  unfold WP; rw [wp_bind]
  refine part62 X K c ?_
  refine part61 X K c ?_
  simp only [Prog.lift, Prog.bind_op, Prog.bind_ret, Prog.pure_eq_ret]
  refine ringWait X K c _ rfl rfl (by decide) (by decide) ?_
  unfold WP; rw [wp_ret]
  exact h.trans fupd_intro

end Body

end Cert.KernelIdealGather

end
-- ==== Proof.KernelIdeal.Launch.lean ====
/-
# The launch

The body's run as the pipeline's one point; the cells' invariants, the duties and the credit the devices start with, dealt
from the launch element; the run of the whole program.
-/
module

public import proofs.«01_k».proof.Proof.KernelIdeal.Ends
public import proofs.«01_k».proof.Proof.KernelIdeal.Body
public import proofs.«01_k».proof.Proof.Gen.KernelIdeal.Points
public import Idealize.ShloMosaic.Lib.Quiescent
public import Idealize.ShloMosaic.Lib.Pipeline.CollectiveSegs

@[expose] public section

noncomputable section

namespace Cert.KernelIdealGather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families over the cells of a device -/

/-- A family over the first `n` numbers, as one over a run. -/
theorem bigSep_fin_run {M : Type} [URA M] (n : ℕ) (A : ℕ → sProp M) : bigSep (Finset.univ : Finset (Fin n)) (fun k => A k.val) = bigSep (Finset.Ico 0 n) A := by
  have h : (Finset.univ : Finset (Fin n)).map Fin.valEmbedding = Finset.Ico 0 n := by
    ext x
    rw [Finset.mem_map, Finset.mem_Ico]
    constructor
    · rintro ⟨k, -, rfl⟩; exact ⟨Nat.zero_le _, k.isLt⟩
    · rintro ⟨-, hx⟩; exact ⟨⟨x, hx⟩, Finset.mem_univ _, rfl⟩
  rw [← h, bigSep_map]; rfl

/-- The cells of one device: the barrier's, and those of the DMA semaphores 2 to 35. -/
theorem cells_split (Φ : GSem nD τ sig → sProp 𝕄) (c : Dev nD) :
    bigSep Finset.univ (fun k : Fin 35 => Φ (kcell (c, k))) = iprop(Φ (barCell c) ∗ bigSep (Finset.Ico 2 36) (fun q => Φ (dcell c q))) := by
  have h1 : bigSep Finset.univ (fun k : Fin 35 => Φ (kcell (c, k)))
      = bigSep (Finset.Ico 0 35) (fun k => Φ ((c : Thread nD τ), if k = 0 then (SemLoc.reg barS : SemLoc sig) else .dma (dq (k + 1)))) :=
    bigSep_fin_run 35 fun k => Φ ((c : Thread nD τ), if k = 0 then (SemLoc.reg barS : SemLoc sig) else .dma (dq (k + 1)))
  rw [h1, bigSep_Ico_succ_bot (by decide), if_pos rfl]
  rw [show bigSep (Finset.Ico (0 + 1) 35) (fun k => Φ ((c : Thread nD τ), if k = 0 then (SemLoc.reg barS : SemLoc sig) else .dma (dq (k + 1))))
      = bigSep (Finset.Ico 1 35) (fun k => Φ (dcell c (k + 1))) from
    bigSep_congr fun k hk => by rw [Finset.mem_Ico] at hk; rw [if_neg (by omega)]]
  rw [image_runs (fun q => Φ (dcell c q)) (Finset.Ico 1 35) (Finset.Ico 2 36) (fun k => k + 1) (by decide) (fun a _ b _ h => by omega)]

/-- The semaphores 2 to 35 are the sending and the receiving ones; the receiving ones in either order. -/
theorem pair_split (Φ : ℕ → sProp 𝕄) : bigSep (Finset.Ico 2 36) Φ = iprop(bigSep (Finset.Ico 0 17) (fun n => Φ (sS n)) ∗ bigSep (Finset.Ico 0 17) (fun n => Φ (sR n))) := by
  rw [image_runs Φ (Finset.Ico 0 17) _ sS rfl (by decide), image_runs Φ (Finset.Ico 0 17) _ sR rfl (by decide),
    show Finset.Ico 2 36 = (Finset.Ico 0 17).image sS ∪ (Finset.Ico 0 17).image sR by decide]
  exact bigSep_union (by decide)
theorem recv_order (Φ : ℕ → sProp 𝕄) : bigSep (Finset.Ico 0 17) (fun n => Φ (sR n)) = bigSep (Finset.Ico 0 17) (fun p => Φ (rS p)) := by
  rw [image_runs Φ (Finset.Ico 0 17) _ rS rfl (by decide)]
  exact image_runs Φ (Finset.Ico 0 17) _ sR (by decide) (by decide)

theorem kcell_injective : Function.Injective (kcell : Dev nD × Fin 35 → GSem nD τ sig) := by
  rintro ⟨c, k⟩ ⟨c', k'⟩ h
  have h1 : c = c' := congrArg (fun g : GSem nD τ sig => g.1.1) h
  have h2 : csem k = csem k' := congrArg Prod.snd h
  have h3 : k = k' := (show ∀ k k' : Fin 35, csem k = csem k' → k = k' by decide +kernel) k k' h2
  rw [h1, h3]
def allCells : Finset (GSem nD τ sig) := Finset.univ.map ⟨kcell, kcell_injective⟩

/-- The duties of a device's cells: the barrier's three, then one for each DMA semaphore 2 to 35. -/
def tokN (j : ℕ) : SemLoc sig × Fin 3 := if j < 3 then (.reg barS, Fin.ofNat 3 j) else (.dma (dq (j - 1)), 0)
abbrev tokOf (cj : Dev nD × Fin 37) : GSem nD τ sig × ℕ × Fin 3 := (((cj.1 : Thread nD τ), (tokN cj.2.val).1), 0, (tokN cj.2.val).2)
theorem tokOf_injective : Function.Injective (tokOf : Dev nD × Fin 37 → GSem nD τ sig × ℕ × Fin 3) := by
  rintro ⟨c, k⟩ ⟨c', k'⟩ h
  have h1 : c = c' := congrArg (fun g : GSem nD τ sig × ℕ × Fin 3 => g.1.1.1) h
  have h2 : tokN k.val = tokN k'.val := congrArg (fun g : GSem nD τ sig × ℕ × Fin 3 => (g.1.2, g.2.2)) h
  have h3 : k = k' := (show ∀ k k' : Fin 37, tokN k.val = tokN k'.val → k = k' by decide +kernel) k k' h2
  rw [h1, h3]
def allToks : Finset (GSem nD τ sig × ℕ × Fin 3) := Finset.univ.map ⟨tokOf, tokOf_injective⟩

def u₀ : UU :=
  (initOf (Pipeline.cells cfgs cellOf_inj) (Pipeline.launchToks cfgs cellOf_inj), (initOf allCells allToks, 1))

/-- The duty tokens of device `c`'s own cells. -/
def toks (c : Dev nD) : sProp 𝕄 :=
  iprop(bigSep (Finset.Ico 0 3) (fun i => dutyTok ER (barCell c) 0 (Fin.ofNat 3 i)) ∗ bigSep (Finset.Ico 2 36) (fun q => dutyTok ER (dcell c q) 0 (0 : Fin 3)))
theorem toks_eq (c : Dev nD) : bigSep Finset.univ (fun j : Fin 37 => (dutyTok ER (tokOf (c, j)).1 (tokOf (c, j)).2.1 (tokOf (c, j)).2.2 : sProp 𝕄)) = toks c := by
  have h1 : bigSep Finset.univ (fun j : Fin 37 => (dutyTok ER (tokOf (c, j)).1 (tokOf (c, j)).2.1 (tokOf (c, j)).2.2 : sProp 𝕄))
      = bigSep (Finset.Ico 0 37) (fun j => dutyTok ER ((c : Thread nD τ), (tokN j).1) 0 (tokN j).2) :=
    bigSep_fin_run 37 fun j => (dutyTok ER ((c : Thread nD τ), (tokN j).1) 0 (tokN j).2 : sProp 𝕄)
  rw [h1, bigSep_Ico_append (show 0 ≤ 3 by decide) (show 3 ≤ 37 by decide)]
  unfold toks
  rw [← image_runs (fun q => (dutyTok ER (dcell c q) 0 (0 : Fin 3) : sProp 𝕄)) (Finset.Ico 3 37) (Finset.Ico 2 36) (fun j => j - 1) (by decide)
    (fun a ha b hb h => by rw [Finset.mem_Ico] at ha hb; omega)]
  refine congrArg₂ (fun P R : sProp 𝕄 => iprop(P ∗ R)) (bigSep_congr fun j hj => ?_) (bigSep_congr fun j hj => ?_)
  · rw [Finset.mem_Ico] at hj; unfold tokN; rw [if_pos hj.2]
  · rw [Finset.mem_Ico] at hj; unfold tokN; rw [if_neg (by omega)]

/-- A family dealt round the mesh, member by member in its own direction. -/
theorem deal_around (S : Finset ℕ) (d : ℕ → ℕ) (A : Dev nD → ℕ → sProp 𝕄) :
    bigSep Finset.univ (fun c : Dev nD => bigSep S (A c)) = bigSep Finset.univ (fun c : Dev nD => bigSep S (fun i => A (toward c (d i)) i)) := by
  induction S using Finset.induction_on with
  | empty => rfl
  | insert a S ha ih =>
    simp only [bigSep_insert ha]
    refine (bigSep_sep _ _ _).trans (Eq.trans ?_ (bigSep_sep _ _ _).symm)
    rw [ih, bigSep_univ_equiv (around (d a)) (fun c => A c a)]
    rfl

/-- The tokens a device pays with. -/
def payToks (c : Dev nD) : sProp 𝕄 :=
  iprop(bigSep (Finset.Ico 0 3) (fun i => dutyTok ER (barCell (toward c i)) 0 (Fin.ofNat 3 i)) ∗ bigSep (Finset.Ico 0 17) (sndTok (F := F) c))
theorem toks_around : bigSep Finset.univ (fun c : Dev nD => (toks c : sProp 𝕄)) = bigSep Finset.univ (fun c : Dev nD => payToks c) := by
  unfold toks payToks sndTok
  rw [bigSep_sep', bigSep_sep', deal_around (Finset.Ico 0 3) (fun i => i) (fun c i => dutyTok ER (barCell c) 0 (Fin.ofNat 3 i))]
  refine congrArg (fun R : sProp 𝕄 => iprop(_ ∗ R)) ?_
  rw [bigSep_congr (s := Finset.univ) (fun (c : Dev nD) _ => pair_split (fun q => (dutyTok ER (dcell c q) 0 (0 : Fin 3) : sProp 𝕄))), bigSep_sep',
    deal_around (Finset.Ico 0 17) sDir (fun c n => dutyTok ER (dcell c (sR n)) 0 (0 : Fin 3)), ← bigSep_sep']
  exact bigSep_congr fun c _ => (bigSep_sep' _ _ _).symm

/-! ## The launch credit -/

theorem toward_eq {d c : Dev nD} {i : ℕ} : toward d i = c ↔ d = back c i :=
  ⟨fun h => by rw [← h, back_toward], fun h => by rw [h, toward_back]⟩

/-- What all devices together owe a cell of device `c`. -/
theorem owed_total (c : Dev nD) (sm : SemLoc sig) :
    (∑ d : Dev nD, owed d 0 ((c : Thread nD τ), sm) ()) = ∑ i ∈ Finset.Ico 0 20, if pSem i = sm then pAmt i else 0 := by
  have h : ∀ d : Dev nD, owed d 0 ((c : Thread nD τ), sm) () = ∑ i ∈ Finset.Ico 0 20, if d = back c (pDir i) then (if pSem i = sm then pAmt i else 0) else 0 := by
    intro d
    unfold owed
    rw [Finset.sum_apply, Finsupp.finset_sum_apply]
    refine Finset.sum_congr rfl fun i _ => ?_
    rw [tallyAt_apply]
    by_cases h1 : d = back c (pDir i)
    · rw [if_pos h1]
      by_cases h2 : pSem i = sm
      · rw [if_pos h2, if_pos ⟨by unfold pCell; rw [toward_eq.mpr h1, h2], rfl⟩]
      · rw [if_neg h2, if_neg fun h => h2 (congrArg Prod.snd h.1).symm]
    · rw [if_neg h1, if_neg fun h => h1 (toward_eq.mp (congrArg (fun g : GSem nD τ sig => g.1.1) h.1).symm)]
  rw [Finset.sum_congr rfl fun d _ => h d, Finset.sum_comm]
  refine Finset.sum_congr rfl fun i _ => ?_
  rw [Finset.sum_ite_eq' Finset.univ (back c (pDir i)), if_pos (Finset.mem_univ _)]

theorem launch_at (c : Dev nD) (sm : SemLoc sig) (k : ℕ) (h : (∑ i ∈ Finset.Ico 0 20, if pSem i = sm then pAmt i else 0) = k) :
    tallyOn ((c : Thread nD τ), sm) (launchCredit (Pipeline.owing fun d => owed d 0) 0 ((c : Thread nD τ), sm)) = (tallyAt ((c : Thread nD τ), sm) () k : CellTallies nD τ sig Unit) := by
  unfold tallyAt; refine congrArg _ (Finsupp.ext fun u => ?_); cases u
  rw [Pipeline.launchCredit_owing, Finsupp.single_eq_same, owed_total, h]

theorem total_bar : (∑ i ∈ Finset.Ico 0 20, if pSem i = SemLoc.reg barS then pAmt i else 0) = 3 := by
  have h : ∀ i ∈ Finset.Ico 0 20, (if pSem i = SemLoc.reg barS then pAmt i else 0) = if i < 3 then 1 else 0 := by
    intro i hi
    by_cases h3 : i < 3
    · rw [if_pos (by unfold pSem; rw [if_pos h3]), if_pos h3]; unfold pAmt; rw [if_pos h3]
    · rw [if_neg (by unfold pSem; rw [if_neg h3]; exact fun h => by cases h), if_neg h3]
  rw [Finset.sum_congr rfl h]; decide
theorem total_recv (p : Fin 17) : (∑ i ∈ Finset.Ico 0 20, if pSem i = SemLoc.dma (dq (rS p.val)) then pAmt i else 0) = amtq (rS p.val) := by
  obtain ⟨j, hj, hs, hu⟩ := (show ∀ p : Fin 17, ∃ j : Fin 20, 3 ≤ j.val ∧ sR (j.val - 3) = rS p.val ∧ ∀ i : Fin 20, pSem i.val = SemLoc.dma (dq (rS p.val)) → i = j by
    decide +kernel) p
  rw [Finset.sum_eq_single j.val]
  · have e : pSem j.val = SemLoc.dma (dq (rS p.val)) := by unfold pSem; rw [if_neg (by omega), hs]
    rw [if_pos e]; unfold pAmt; rw [if_neg (by omega), hs]
  · intro i hi hne
    rw [Finset.mem_Ico] at hi
    rw [if_neg fun h => hne (congrArg Fin.val (hu ⟨i, hi.2⟩ h))]
  · intro h; exact absurd (Finset.mem_Ico.mpr ⟨Nat.zero_le _, j.isLt⟩) h

theorem creds (c : Dev nD) : (Pipeline.launchCred (fun d => owed d 0) c : sProp 𝕄)
    ⊢ iprop(cred (tallyAt (barCell c) () 3) ∗ bigSep (Finset.Ico 0 17) (fun p => cred (tallyAt (dcell c (rS p)) () (amtq (rS p))))) := by
  unfold Pipeline.launchCred
  rw [bigSep_univ_at _ (SemLoc.reg barS), launch_at c _ 3 total_bar]
  refine sep_mono_right ?_
  rw [show bigSep (Finset.Ico 0 17) (fun p => (cred (tallyAt (dcell c (rS p)) () (amtq (rS p))) : sProp 𝕄))
      = bigSep (Finset.Ico 0 17) (fun p => cred (tallyOn ((c : Thread nD τ), SemLoc.dma (dq (rS p))) (launchCredit (Pipeline.owing fun d => owed d 0) 0 ((c : Thread nD τ), .dma (dq (rS p)))))) from
    bigSep_congr fun p hp => by rw [launch_at c _ _ (total_recv ⟨p, (Finset.mem_Ico.mp hp).2⟩)],
    image_runs (fun sm : SemLoc sig => (cred (tallyOn ((c : Thread nD τ), sm) (launchCredit (Pipeline.owing fun d => owed d 0) 0 ((c : Thread nD τ), sm))) : sProp 𝕄))
      (Finset.Ico 0 17) _ (fun p => SemLoc.dma (dq (rS p))) rfl (by decide)]
  rw [bigSep_sdiff_split (s := Finset.univ.erase (SemLoc.reg barS)) (t := (Finset.Ico 0 17).image fun p => SemLoc.dma (dq (rS p)))
    (fun x hx => Finset.mem_erase.mpr ⟨by obtain ⟨p, -, rfl⟩ := Finset.mem_image.mp hx; exact (fun h => by cases h), Finset.mem_univ _⟩)]
  exact sep_elim_left

section Launch
variable (m : (ℓ : Loc nD τ sig) → Buf (Elt F) ℓ) (ρ : Dev nD → PrngReg)

def s₀ : MemSt nD τ sig (Elt F) := ⟨m, fun _ => 0, ρ⟩
/-- The input blocks. -/
def Xm (c : Dev nD) : S16384x1024.Idx → Elt F .f32 := m (argL c)

/-- The kernel's own semaphores. -/
abbrev osem : Fin 49 → SemLoc sig := fun k => .dma (dq k.val)
theorem ownSemFacts : Pipeline.OwnSemFacts cfg0.spec osem := by decide +kernel

/-- The semaphores no cell of the protocol uses. -/
def locals (c : Dev nD) : sProp 𝕄 :=
  iprop((sv (F := F) c 0 ∗ sv (F := F) c 1) ∗ bigSep (Finset.Ico 36 44) (sv (F := F) c) ∗ bigSep (Finset.Ico 44 48) (sv (F := F) c) ∗ sv (F := F) c 48)

theorem ownSems0_eq (c : Dev nD) : (Pipeline.ownSems0 (Ix := Unit) (Name := ℕ) (U := UU) (Lvl := ℕ) (Val := Elt F) (τ := τ) osem c : sProp 𝕄)
    = bigSep (Finset.Ico 0 49) (sv (F := F) c) := by
  unfold Pipeline.ownSems0; exact bigSep_fin_run 49 (sv (F := F) c)
theorem ownSems0_split (c : Dev nD) : (Pipeline.ownSems0 (Ix := Unit) (Name := ℕ) (U := UU) (Lvl := ℕ) (Val := Elt F) (τ := τ) osem c : sProp 𝕄)
    ⊢ iprop(bigSep (Finset.Ico 2 36) (sv (F := F) c) ∗ locals (F := F) c) := by
  have h2 : bigSep (Finset.Ico 0 2) (sv (F := F) c) = iprop(sv (F := F) c 0 ∗ sv (F := F) c 1) := bigSep_eq_bigSepL_of_eq [0, 1] (by decide) (by decide) _
  have h1 : bigSep (Finset.Ico 48 49) (sv (F := F) c) = sv (F := F) c 48 := bigSep_Ico_one 48 _
  rw [ownSems0_eq, bigSep_Ico_append (show 0 ≤ 2 by decide) (show 2 ≤ 49 by decide), bigSep_Ico_append (show 2 ≤ 36 by decide) (show 36 ≤ 49 by decide),
    bigSep_Ico_append (show 36 ≤ 44 by decide) (show 44 ≤ 49 by decide), bigSep_Ico_append (show 44 ≤ 48 by decide) (show 48 ≤ 49 by decide), h2, h1]
  unfold locals
  iintro ⟨H1, H2, H3⟩
  isplitl [H2]; · iexact H2
  isplitl [H1]; · iexact H1
  iexact H3
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ghost state -/

/-- What the launch element deals device `c`, -/
def G (c : Dev nD) : sProp 𝕄 :=
  iprop((bigSep Finset.univ fun k : Fin 35 => roundState ER (Rd (Xm m)) (kcell (c, k)) 0)
    ∗ (bigSep Finset.univ fun k : Fin 35 => atPos ER (kcell (c, k)) 0 ∅ 0) ∗ (bigSep Finset.univ fun k : Fin 35 => reached ER (kcell (c, k)) 0) ∗ toks (F := F) c)
/-- and what the start of all devices together makes of it. -/
def records (K : Dev nD × Fin 35 → ℕ) : sProp 𝕄 :=
  iprop((bigSep Finset.univ fun ck : Dev nD × Fin 35 => cellInv ER (Rd (Xm m)) (K ck) (kcell ck))
    ∗ bigSep Finset.univ fun ck : Dev nD × Fin 35 => reached ER (kcell ck) 0)
instance records_persistent (K : Dev nD × Fin 35 → ℕ) : BI.Persistent (records m K) := by unfold records; infer_instance
def linear (c : Dev nD) : sProp 𝕄 :=
  iprop(locals (F := F) c ∗ (bigSep Finset.univ fun k : Fin 35 => atPos ER (kcell (c, k)) 0 ∅ 0) ∗ payToks (F := F) c)
def G' (c : Dev nD) : sProp 𝕄 := iprop(∃ K, records m K ∗ linear (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 35 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]
    exact bigSep_congr fun c _ => toks_eq (F := F) c
  iintro HX
  imod (Rounds.fund ER (Rd (Xm m)) allCells allToks) $$ HX with ⟨Hst, Hr, Hat, Htok⟩
  imodintro
  ihave Hst' := (Entails.of_eq (hX fun g => roundState ER (Rd (Xm m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Xm m)) κ (kcell (c, k))))
          ∗ (bigSep Finset.univ fun k : Fin 35 => atPos ER (kcell (c, k)) 0 ∅ 0) ∗ (bigSep Finset.univ fun k : Fin 35 => reached ER (kcell (c, k)) 0)
          ∗ locals (F := F) c ∗ toks (F := F) c) := by
  have hv : iprop(semVal (barCell c) 0 ∗ bigSep (Finset.Ico 2 36) (sv (F := F) c)) = (bigSep Finset.univ fun k : Fin 35 => (semVal (kcell (c, k)) 0 : sProp 𝕄)) :=
    (cells_split (fun g => (semVal g 0 : sProp 𝕄)) c).symm
  have hi : iprop((bigSep Finset.univ fun k : Fin 35 => semVal (kcell (c, k)) 0) ∗ bigSep Finset.univ fun k : Fin 35 => roundState ER (Rd (Xm m)) (kcell (c, k)) 0)
      ⊢ (|={Set.univ}=> bigSep Finset.univ fun k => iprop(∃ κ : ℕ, cellInv ER (Rd (Xm m)) κ (kcell (c, k))) : sProp 𝕄) := by
    rw [← bigSep_sep']
    exact (bigSep_mono fun k _ => (Rounds.body_intro ER (Rd (Xm m)) (kcell (c, k))).trans inv_alloc).trans (bigSep_fupd _ _)
  unfold G
  rw [unscopedSems0_eq]
  iintro ⟨Hos, Hus, Hst, Hat, Hr, Htok⟩
  ihave Hos := (ownSems0_split (F := F) c) $$ Hos
  icases Hos with ⟨Hd, Hl⟩
  ihave Hv := (Entails.of_eq hv) $$ [Hus Hd]
  · isplitl [Hus] <;> iassumption
  imod hi $$ [Hv Hst] with Hinv
  · isplitl [Hv] <;> iassumption
  imodintro
  isplitl [Hinv]; · iexact Hinv
  isplitl [Hat]; · iexact Hat
  isplitl [Hr]; · iexact Hr
  isplitl [Hl]; · iexact Hl
  iexact Htok

/-- A persistent fact beside every member of a family. -/
theorem family_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (Xm m)) κ (kcell (c, k))))
          ∗ (bigSep Finset.univ fun k : Fin 35 => atPos ER (kcell (c, k)) 0 ∅ 0) ∗ (bigSep Finset.univ fun k : Fin 35 => reached ER (kcell (c, k)) 0)
          ∗ locals (F := F) c ∗ toks (F := F) c) : sProp 𝕄)
      ⊢ bigSep Finset.univ (G' m) := by
  have hl : iprop((bigSep Finset.univ fun c : Dev nD => locals (F := F) c) ∗ (bigSep Finset.univ fun c : Dev nD => bigSep Finset.univ fun k : Fin 35 => atPos ER (kcell (c, k)) 0 ∅ 0)
      ∗ bigSep Finset.univ fun c : Dev nD => payToks (F := F) c) = bigSep Finset.univ (linear (F := F)) := by
    unfold linear; rw [bigSep_sep', bigSep_sep']
  have hg : ∀ K, iprop(records m K ∗ bigSep Finset.univ (linear (F := F))) ⊢ bigSep Finset.univ (G' m) := fun K =>
    family_with (R := records m K) fun c _ => by
      unfold G'
      iintro ⟨#HR, HL⟩
      iexists K
      isplitr; · iexact HR
      iexact HL
  rw [bigSep_sep', bigSep_sep', bigSep_sep', bigSep_sep', toks_around,
    ← bigSep_univ_prod (fun ck : Dev nD × Fin 35 => iprop(∃ κ : ℕ, cellInv ER (Rd (Xm m)) κ (kcell ck))),
    ← bigSep_univ_prod (fun ck : Dev nD × Fin 35 => (reached ER (kcell ck) 0 : sProp 𝕄))]
  iintro ⟨HI, Hat, #HR, Hl, Htok⟩
  ihave HK := (BI.bigSep_exists_pi Finset.univ (fun (ck : Dev nD × Fin 35) (κ : ℕ) => (cellInv ER (Rd (Xm m)) κ (kcell ck) : sProp 𝕄))) $$ HI
  icases HK with ⟨%K, #HI⟩
  iapply (hg K)
  isplitr
  · unfold records; isplitl; · iexact HI
    iexact HR
  iapply (Entails.of_eq hl)
  isplitl [Hl]; · iexact Hl
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The pipeline's one point -/

/-- What device `c`'s body starts from, but for the scratch buffers; -/
def start (c : Dev nD) : sProp 𝕄 :=
  iprop((∃ K, Rec (Xm m) K) ∗ (argL c ↦[Finset.univ]{fullShare} (Xm m c : Buf (Elt F) (argL c))) ∗ anyOn (F := F) (outL c) Finset.univ ∗ locals (F := F) c ∗ ghost (F := F) c)
def Φ₀ (c : Dev nD) : sProp 𝕄 := iprop(start m c ∗ scratch (F := F) c)
/-- what it ends with: the result computed, the input as it was, the semaphores at zero. -/
def Φ₁ (c : Dev nD) : sProp 𝕄 :=
  iprop((argL c ↦[Finset.univ]{fullShare} (Xm m c : Buf (Elt F) (argL c))) ∗ (outL c ↦[Finset.univ]{fullShare} (outC (Xm m) c : Buf (Elt F) (outL c)))
    ∗ scratch (F := F) c ∗ semVal (barCell c) 0 ∗ bigSep (Finset.Ico 0 49) (sv (F := F) c))

def dats (_ : Fin 1) (c : Dev nD) : Dat τ (Elt F) Unit ℕ UU ℕ cfg0 c where
  A w := (s₀ m ρ).mem ((cfg0.win w).arr.view.loc (c : Thread nD τ))
  after w _ := absurd (show w.val < 0 from w.isLt) (Nat.not_lt_zero _)
  Φ t := match t with
    | ⟨0, _⟩ => Φ₀ m c
    | ⟨_ + 1, _⟩ => Φ₁ m c
  q _ := fullShare
  owed t := match t with
    | ⟨0, _⟩ => owed c 0
    | ⟨_ + 1, _⟩ => 0

/-- The body's run, from everything the device is launched with. -/
theorem body_sound (c : Dev nD) (t : Fin cfg0.N) :
    iprop(Φ₀ m c ∗ OW (F := F) c 0) ⊢ WP c (Gen.bodyAt0 (F := F) t) fun _ => iprop(Φ₁ m c ∗ OW (F := F) c 20) := by
  have h : ∀ K, iprop(St (Xm m) K c ⟨0, 0, 0, 0, 0, 0, 0, 0, 0, 0, 0, 0, 0, 16, 0, 0, 0⟩ ∗ sv (F := F) c 48)
      ⊢ WP c (Gen.bodyAt0 (F := F) t) fun _ => iprop(Φ₁ m c ∗ OW (F := F) c 20) := by
    intro K
    refine (sep_mono_left (body_run (Xm m) K c t (Q := fun _ => St (Xm m) K c ⟨26, 26, 26, 2, 3, 1, 17, 17, 17, 17, 24, 24, 24, 24, 17, 16, 16⟩) (Entails.refl _))).trans ?_
    unfold WP
    refine (wp_frame_r _ _ _).trans (wp_mono _ _ _ fun _ => ?_)
    unfold Φ₁
    rw [bigSep_Ico_append (show 0 ≤ 48 by decide) (show 48 ≤ 49 by decide), show Finset.Ico 48 49 = Finset.Ico 48 (48 + 1) from rfl, bigSep_Ico_one]
    iintro ⟨H, H48⟩
    ihave H := (end_run (Xm m) K c) $$ H
    icases H with ⟨HO, HA, HOut, HS, HB, HV⟩
    isplitr [HO]
    · isplitl [HA]; · iexact HA
      isplitl [HOut]; · iexact HOut
      isplitl [HS]; · iexact HS
      isplitl [HB]; · iexact HB
      isplitl [HV]; · iexact HV
      iexact H48
    iexact HO
  unfold Φ₀ start locals
  iintro ⟨⟨⟨⟨%K, HR⟩, HA, HOut, ⟨S1, S2, S3, S4⟩, HG⟩, HS⟩, HO⟩
  iapply (h K)
  isplitr [S4]
  · iapply (begin_run (Xm m) K c)
    isplitl [HR]; · iexact HR
    isplitl [HO]; · iexact HO
    isplitl [HA]; · iexact HA
    isplitl [HOut]; · iexact HOut
    isplitl [HS]; · iexact HS
    isplitl [S1]; · iexact S1
    isplitl [S2]; · iexact S2
    isplitl [S3]; · iexact S3
    iexact HG
  iexact S4

theorem no_windows (Φ : Fin cfg0.W → sProp 𝕄) : bigSep Finset.univ Φ = iprop(emp) := by
  show bigSep (Finset.univ : Finset (Fin 0)) _ = _
  rw [Finset.univ_eq_empty, bigSep_empty]; rfl

set_option maxRecDepth 100000 in
theorem body_obligation (c : Dev nD) : BodyObligation (dats (F := F) m ρ 0 c) (defs₀ (F := F)) 𝒱₀ () Set.univ := fun t => by
  rw [no_windows, no_windows]
  have ht : t = t0_0 := fin_N0 t
  subst ht
  show iprop(Φ₀ m c ∗ Pipeline.owesWithin c (owed c 0) _ ∗ emp) ⊢ WP c (Gen.bodyAt0 (F := F) t0_0) fun _ => iprop(Φ₁ m c ∗ Pipeline.owesWithin c 0 ((dats (F := F) m ρ 0 c).bound () t0_0.succ) ∗ emp)
  have hpost : iprop(Φ₁ m c ∗ OW (F := F) c 20) ⊢ iprop(Φ₁ m c ∗ Pipeline.owesWithin c 0 ((dats (F := F) m ρ 0 c).bound () t0_0.succ) ∗ emp) := by
    rw [← owed_end c]
    iintro ⟨H, ⟨%W, HO⟩⟩
    isplitl [H]; · iexact H
    isplitl [HO]
    · iexists W
      isplitr; · ipureintro; exact fun x _ => Or.inl trivial
      iexact HO
    iempintro
  refine BIBase.Entails.trans ?_ ((body_sound m c t0_0).trans (wp_mono _ _ _ fun _ => hpost))
  iintro ⟨H, ⟨%W, -, HO⟩, -⟩
  isplitl [H]; · iexact H
  iexists W
  iexact HO

/-! ## The theorem's side conditions -/

theorem start_intro (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' m c)
      ⊢ |={Set.univ}=> iprop(start m c ∗ emp) := by
  have hp : (bigSep Finset.univ fun k : Fin 35 => (atPos ER (kcell (c, k)) 0 ∅ 0 : sProp 𝕄))
      = iprop(atPos ER (barCell c) 0 ∅ 0 ∗ bigSep (Finset.Ico 0 17) (sndPos (F := F) c) ∗ bigSep (Finset.Ico 0 17) (fun p => atPos ER (dcell c (rS p)) 0 ∅ 0)) := by
    rw [cells_split (fun g => (atPos ER g 0 ∅ 0 : sProp 𝕄)) c, pair_split (fun q => (atPos ER (dcell c q) 0 ∅ 0 : sProp 𝕄)),
      recv_order (fun q => (atPos ER (dcell c q) 0 ∅ 0 : sProp 𝕄))]
    rfl
  have hr : iprop(bigSep (Finset.Ico 0 17) (fun p => cred (tallyAt (dcell c (rS p)) () (amtq (rS p)))) ∗ bigSep (Finset.Ico 0 17) (fun p => atPos ER (dcell c (rS p)) 0 ∅ 0))
      = bigSep (Finset.Ico 0 17) (rcvTodo (F := F) c) := (bigSep_sep _ _ _).symm
  rw [Pipeline.unscopedRestP_none, unscopedRest0_eq]
  unfold G' records linear payToks start ghost
  rw [hp]
  iintro ⟨⟨HA, HOut⟩, Hlev, Hcr, -, ⟨%K, ⟨HI, HRe⟩, Hl, ⟨P1, P2, P3⟩, T1, T2⟩⟩
  ihave Hc := (creds (F := F) c) $$ Hcr
  icases Hc with ⟨C1, C2⟩
  imodintro
  isplitl
  · isplitl [HI HRe Hlev]
    · iexists K
      unfold Rec
      isplitl [HI]; · iexact HI
      isplitl [HRe]; · iexact HRe
      iexact Hlev
    isplitl [HA]; · iexact HA
    isplitl [HOut]; · iapply (any_of (F := F) (ℓ := outL c) (m (outL c))); iexact HOut
    isplitl [Hl]; · iexact Hl
    isplitl [T1]; · iexact T1
    isplitl [T2]; · iexact T2
    isplitl [C1]; · iexact C1
    isplitl [P1]; · iexact P1
    isplitl [P2]; · iexact P2
    iapply (Entails.of_eq hr)
    isplitl [C2]; · iexact C2
    iexact P3
  · iempintro

theorem scratch_eq (c : Dev nD) : (Pipeline.scopedRest cfg0.spec c : sProp 𝕄) = scratch (F := F) c := scopedRest0_eq c

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀
  iintro ⟨Hs, -, Hr⟩
  isplitl [Hs]; · iexact Hs
  iexact Hr

/-- What the device gives back. -/
def fin (c : Dev nD) : sProp 𝕄 :=
  iprop((argL c ↦[Finset.univ]{fullShare} (Xm m c : Buf (Elt F) (argL c))) ∗ (outL c ↦[Finset.univ]{fullShare} (outC (Xm m) c : Buf (Elt F) (outL c))) ∗ unscopedSems0 c)

theorem phi1_exit (c : Dev nD) :
    (dats m ρ 0 c).Φ (Fin.last cfg0.N) ⊢ iprop(fin m c ∗ Pipeline.ownSems0 osem c ∗ Pipeline.scopedRest cfg0.spec c) := by
  rw [show (dats m ρ 0 c).Φ (Fin.last cfg0.N) = Φ₁ m c from rfl, scratch_eq, ownSems0_eq]
  unfold Φ₁ fin
  rw [unscopedSems0_eq]
  iintro ⟨HA, HO, HS, HB, HV⟩
  isplitl [HA HO HB]
  · isplitl [HA]; · iexact HA
    isplitl [HO]; · iexact HO
    iexact HB
  isplitl [HV]; · iexact HV
  iexact HS

theorem waits (c : Dev nD) : (levAts L lv : sProp 𝕄) ⊢ Pipeline.cellsWaits cfgs (dats m ρ) () 0 c :=
  Pipeline.cellsWaits_intro cfgs (dats m ρ) () 0 c fun w s t => absurd (show w.val < 0 from w.isLt) (Nat.not_lt_zero _)

/-- What is read off the final memory of one device. -/
def QY (c : Dev nD) (s : MemSt nD τ sig (Elt F)) : Prop :=
  s.mem (argL c) = Xm m c ∧ s.mem (outL c) = outC (Xm m) c ∧ ∀ sm : SemLoc sig, sm.isScoped .tc = false → s.sem ((c.tc : Thread nD τ), sm) = 0

theorem fin_read (c : Dev nD) (s' : Phys nD τ sig (Elt F)) : iprop(fin m c ∗ emp ∗ SI s') ⊢ (|={Set.univ}=> iprop(⌜QY m c s'.mem⌝ ∗ SI s') : sProp 𝕄) := by
  unfold fin
  iintro ⟨⟨HA, HO, Hu⟩, -, HSI⟩
  icombine HSI HA gives %h1
  icombine HSI HO gives %h2
  imod (Pipeline.unscopedSems0_read (X := unscopedSems0 c) (c := c) fupd_intro s') $$ [Hu HSI] with ⟨%h3, HSI⟩
  · isplitl [Hu] <;> iassumption
  imodintro
  isplitr
  · ipureintro
    exact ⟨Buf.eq_of_forall_mem_univ h1, Buf.eq_of_forall_mem_univ h2, h3⟩
  iexact HSI

set_option maxRecDepth 100000 in
/-- From any memory with zero counters every weakly fair run of the program ends, each device's result holding the computed
    contents, its input as it was, and every semaphore at zero. -/
theorem run_main : θ_run defs (onTc (τ := τ) (main (F := F))) (s₀ m ρ)
    (fun r => (∀ c : Dev nD, r.2.mem (argL c) = Xm m c ∧ r.2.mem (outL c) = outC (Xm m) c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => absurd (show w.val < 0 from w.isLt) (Nat.not_lt_zero _)) (harr := arr_whole0) (hstage := stage_whole0)
    (hshare := fun _ w => absurd (show w.val < 0 from w.isLt) (Nat.not_lt_zero _))
    (hdistinct := winFacts0.arr_inj)
    (O₀ := fun c => owed c 0) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (own_pair_emb (ERC (F := F)) _ _) $$ HX
      icases HX with ⟨HX, -⟩
      imod (fund_cells m) $$ HX with HG
      imodintro
      isplitl [HP] <;> iassumption)
    (hglob := glob m)
    (hA := fun _ _ => rfl) (hpf := fun _ k => k.elim0)
    (X := start m) (Y := fin m) (Z := fun _ => iprop(emp))
    (hX := start_intro m ρ) (hin := phi0_intro m ρ) (hout := phi1_exit m ρ)
    (QY := QY m)
    (hY := fin_read m)
    (hQ := fun _ h hs => ⟨fun c => ⟨(h c).2.2.1, (h c).2.2.2.1⟩, sem_eq_zero hs fun c => (h c).2.2.2.2⟩)

end Launch

end Cert.KernelIdealGather

end
-- ==== Proof.Value.lean ====
/-
# The gathered array

What a device's result holds at the end, as one function of the whole array the blocks are cut from: every entry of the
whole array rounded to the result's format, the same on every device.
-/
module

public import proofs.«01_k».proof.Proof.KernelIdeal.Data
public import Idealize.ShloMosaic.Lib.Layout

@[expose] public section

noncomputable section

namespace Cert.KernelIdealGather

open Cert.KernelIdeal Cert.KernelIdeal.Gen
open Idealize.ShloMosaic

variable {F : FTy → Type} [FloatOps F]
variable (X : Dev nD → S16384x1024.Idx → Elt F .f32) (T : S32768x1024.Idx → Elt F .f32)

/-- Each device's block is its group's half of the whole array. -/
def Halves : Prop := ∀ c : Dev nD, X c = Layout.blockN ⟨2, ![16384, 1024]⟩ ⟨2, ![32768, 1024]⟩ (Layout.meshBlock [2, 2, 4] ![[0], []] c) T

theorem lin_grp (c : Dev nD) : Layout.meshLin [2, 2, 4] c.val [0] = grp c := by revert c; decide +kernel
theorem lin_none (c : Dev nD) : Layout.meshLin [2, 2, 4] c.val [] = 0 := by revert c; decide +kernel

/-- A row of a device's block is a row of its half. -/
theorem tat_half (h : Halves X T) (c : Dev nD) (i : S32768x1024.Idx) (hg : (i 0).val / 16384 = grp c) :
    tat X c ((i 0).val % 16384) (i 1).val = FloatOps.truncf .bf16 bitsLt_bf16_f32 (T i : F .f32) := by
  unfold tat xat
  rw [h c, Layout.blockN_apply]
  refine congrArg (fun x => FloatOps.truncf .bf16 bitsLt_bf16_f32 (T x : F .f32)) (funext fun b => Fin.ext ?_)
  rw [Layout.TilesN.idx_val]
  have h1 : (i 1).val < 1024 := (i 1).isLt
  match b with
  | ⟨0, _⟩ =>
    show Layout.meshLin [2, 2, 4] c.val [0] * 16384 + (i 0).val % 16384 % 16384 = (i 0).val
    rw [lin_grp, ← hg]; omega
  | ⟨1, _⟩ =>
    show Layout.meshLin [2, 2, 4] c.val [] * 1024 + (i 1).val % 1024 = (i 1).val
    rw [lin_none]; omega

theorem grp_other (c : Dev nD) (p : ℕ) (hp : p < 8) : grp (devAt (1 - grp c) p) = 1 - grp c := by
  revert c; exact (show ∀ p : Fin 8, ∀ c : Dev nD, grp (devAt (1 - grp c) p.val) = 1 - grp c by decide +kernel) ⟨p, hp⟩

/-- Every device ends with the whole array, rounded entry by entry. -/
theorem out_whole (h : Halves X T) (c : Dev nD) : outC X c = fun i => FloatOps.truncf .bf16 bitsLt_bf16_f32 (T i : F .f32) := by
  funext i
  have h0 : (i 0).val < 32768 := (i 0).isLt
  have hc := grp_lt c
  unfold outC
  by_cases h1 : (i 0).val / 16384 = grp c
  · rw [if_pos h1, tat_half X T h c i h1]
  · have h2 : (i 0).val / 16384 = 1 - grp c := by omega
    rw [if_neg h1]
    by_cases h3 : (i 0).val % 16384 < 11264
    · rw [if_pos h3, tat_half X T h _ i (h2.trans (grp_other c _ (by omega)).symm)]
    · rw [if_neg h3, tat_half X T h _ i (h2.trans (grp_partner c).symm)]

end Cert.KernelIdealGather

end
-- ==== Proof.lean ====
/-
# The certificate

The kernel's run and its frame (for any float values), the idealized kernel's the same, the reference's run, and the equation
of the two results.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.Value
public import Idealize.ShloMosaic.Lib.Quiescent

@[expose] public section

noncomputable section

namespace Cert.Proof

open Idealize.ShloMosaic Idealize.SL.Sem

/-- The kernel ends with its input as it was and its semaphores at zero. -/
theorem frame_kernel : Cert.quiescent_Kernel := fun m g _ =>
  (θ_run _ _ _).mono (fun _ h => ⟨fun c => (h.1 c).1, h.2⟩) (Cert.KernelGather.run_main m g)

/-- So does the kernel read over the extended reals, -/
theorem frame_ideal : Cert.quiescent_KernelIdeal := fun m g _ =>
  (θ_run _ _ _).mono (fun _ h => ⟨fun c => (h.1 c).1, h.2⟩) (Cert.KernelIdealGather.run_main m g)

/-- and the reference. -/
theorem frame_reference : Cert.quiescent_ReferenceIdeal := fun m g _ =>
  (θ_run _ _ _).mono (fun r h => ⟨fun c => (h c).2, sem_eq_zero_of_no_sems (by decide) r.2⟩) (Cert.ReferenceIdeal.Value.run m g)

/-- Every device's result is the reference's: the whole array in the result's format. -/
theorem equal : Cert.algebraic_KernelIdeal_ReferenceIdeal := by
  intro m g m' g' _ hm
  let T : Cert.ReferenceIdeal.S32768x1024.Idx → Elt Ideal .f32 :=
    m' (((0 : Dev Cert.ReferenceIdeal.nD).tc : Thread Cert.ReferenceIdeal.nD Cert.ReferenceIdeal.τ).loc Cert.ReferenceIdeal.main_arg0)
  let R : Cert.ReferenceIdeal.S32768x1024.Idx → Elt Ideal .bf16 := fun i => FloatOps.truncf (F := Ideal) .bf16 Cert.ReferenceIdeal.Gen.bitsLt_bf16_f32 (T i : Ideal .f32)
  refine ⟨R, ?_, ?_⟩
  · exact (θ_run _ _ _).mono (fun _ h c => ⟨(h.1 c).2.trans (Cert.KernelIdealGather.out_whole (Cert.KernelIdealGather.Xm m) _ hm c), (h.1 c).1⟩)
      (Cert.KernelIdealGather.run_main m g)
  · exact (θ_run _ _ _).mono (fun _ h => h 0) (Cert.ReferenceIdeal.Value.run m' g')

theorem claim : Cert.Claim := ⟨Cert.Kernel.Gen.facts, Cert.KernelIdeal.Gen.facts, Cert.ReferenceIdeal.Gen.facts,
  frame_kernel, frame_ideal, frame_reference, trivial, equal⟩

end Cert.Proof

end
